-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_fits [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S5x288x2x128 Cert.KernelIdeal.S5x288x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.named_const.Statement Cert.KernelIdeal.κ "shrink" .f32 0x3FA66666#32 ((21810381 / 16777216 : ℝ) : EReal)
  ∧ IdealRules.named_const.Statement Cert.KernelIdeal.κ "neg_shrink" .f32 0xBFA66666#32 ((-21810381 / 16777216 : ℝ) : EReal)

def algebraic_KernelIdeal_ReferenceIdeal_pre_fits [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_fits : Cert.Pre_fits.Facts),
    quiescent_Kernel (hKernel := hKernel)
    ∧ quiescent_KernelIdeal (hKernelIdeal := hKernelIdeal)
    ∧ quiescent_KernelIdeal_pre_fits (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ preserves_Kernel_KernelIdeal
    ∧ algebraic_KernelIdeal_ReferenceIdeal_pre_fits (hKernelIdeal := hKernelIdeal) (hReferenceIdeal := hReferenceIdeal) (hPre_fits := hPre_fits)
-- ==== Pre_fits.lean ====
abbrev S12x8960x1536 : Shape := ⟨3, ![12, 8960, 1536]⟩
abbrev S12x140x64x1536 : Shape := ⟨4, ![12, 140, 64, 1536]⟩
abbrev S_ : Shape := ⟨0, ![]⟩
abbrev S12x140x1536 : Shape := ⟨3, ![12, 140, 1536]⟩

class Facts : Prop where
  bitsLt_bf16_f32 : FTy.bits .bf16 < FTy.bits .f32
  shapeCasts_S12x8960x1536_S12x140x64x1536 : S12x8960x1536.ShapeCasts S12x140x64x1536
  reducesTo_S12x140x64x1536_S12x140x1536_d2 : S12x140x64x1536.ReducesTo [2] S12x140x1536
  h_S_ : 0 < S_.numel
  bcast_S_S12x140x1536 : S_.BroadcastsInDim S12x140x1536 (![] : Fin 0 → Fin S12x140x1536.rank)

variable [Facts]

def fn {F : FTy → Type} [FloatOps F] (main_arg0 : FVec F S12x8960x1536 .bf16) : IVec S12x140x1536 1 :=
  let main_v0 : FVec F S12x8960x1536 .f32 := (extf .f32 · bitsLt_bf16_f32) main_arg0
  let main_v1 : FVec F S12x140x64x1536 .f32 := shapeCast S12x140x64x1536 main_v0 shapeCasts_S12x8960x1536_S12x140x64x1536
  let main_cst : FVec F S_ .f32 := constant S_ .f32 0x7F800000#32
  let main_v2 : FVec F S12x140x1536 .f32 := (fun x v => Host.reduce FloatOps.minimumf x v reducesTo_S12x140x64x1536_S12x140x1536_d2 h_S_) main_v1 main_cst
  let main_cst_0 : FVec F S_ .f32 := constant S_ .f32 0xFF800000#32
  let main_v3 : FVec F S12x140x1536 .f32 := (fun x v => Host.reduce FloatOps.maximumf x v reducesTo_S12x140x64x1536_S12x140x1536_d2 h_S_) main_v1 main_cst_0
  let main_cst_1 : FVec F S_ .f32 := constant S_ .f32 0xFF800000#32
  let main_v4 : FVec F S12x140x1536 .f32 := broadcastInDim S12x140x1536 ![] bcast_S_S12x140x1536 main_cst_1
  let main_v5 : IVec S12x140x1536 1 := cmpf .ogt main_v2 main_v4
  let main_cst_2 : FVec F S_ .f32 := constant S_ .f32 0x7F800000#32
  let main_v6 : FVec F S12x140x1536 .f32 := broadcastInDim S12x140x1536 ![] bcast_S_S12x140x1536 main_cst_2
  let main_v7 : IVec S12x140x1536 1 := cmpf .olt main_v3 main_v6
  let main_v8 : IVec S12x140x1536 1 := andi main_v5 main_v7
  let main_v9 : FVec F S12x140x1536 .f32 := subf main_v3 main_v2
  let main_cst_3 : FVec F S_ .f32 := constant S_ .f32 0x66800000#32
  let main_v10 : FVec F S12x140x1536 .f32 := broadcastInDim S12x140x1536 ![] bcast_S_S12x140x1536 main_cst_3
  let main_v11 : IVec S12x140x1536 1 := cmpf .ole main_v9 main_v10
  let main_v12 : IVec S12x140x1536 1 := andi main_v8 main_v11
  main_v12
-- ==== Kernel.lean ====
abbrev S12x8960x1536 : Shape := ⟨3, ![12, 8960, 1536]⟩
abbrev S12x4480x1536 : Shape := ⟨3, ![12, 4480, 1536]⟩
abbrev S12x140x1536 : Shape := ⟨3, ![12, 140, 1536]⟩
abbrev S2x8960x128 : Shape := ⟨3, ![2, 8960, 128]⟩
abbrev S2x4480x128 : Shape := ⟨3, ![2, 4480, 128]⟩
abbrev S2x140x128 : Shape := ⟨3, ![2, 140, 128]⟩
abbrev S5x288x128 : Shape := ⟨3, ![5, 288, 128]⟩
abbrev S5x64x8x128 : Shape := ⟨4, ![5, 64, 8, 128]⟩
abbrev S5x72x128 : Shape := ⟨3, ![5, 72, 128]⟩
abbrev S4x280x128 : Shape := ⟨3, ![4, 280, 128]⟩
abbrev S1x16x128 : Shape := ⟨3, ![1, 16, 128]⟩
abbrev S16x128 : Shape := ⟨2, ![16, 128]⟩
abbrev S8x128 : Shape := ⟨2, ![8, 128]⟩
abbrev S1x8x128 : Shape := ⟨3, ![1, 8, 128]⟩
abbrev S1x1x8x128 : Shape := ⟨4, ![1, 1, 8, 128]⟩
abbrev S32x128 : Shape := ⟨2, ![32, 128]⟩
abbrev S1x32x128 : Shape := ⟨3, ![1, 32, 128]⟩
abbrev S1x140x128 : Shape := ⟨3, ![1, 140, 128]⟩
abbrev S140x128 : Shape := ⟨2, ![140, 128]⟩

abbrev nBuf : Space → Nat
  | .hbm => 6
  | .vmem => 16
  | .smem => 0
  | _ => 0

abbrev bufTy : (tb : Table) → Fin (tcTables nBuf tb) → BufTy
  | .hbm, ⟨0, _⟩ => ⟨S12x8960x1536, .bf16⟩
  | .hbm, ⟨1, _⟩ => ⟨S12x4480x1536, .i8⟩
  | .hbm, ⟨2, _⟩ => ⟨S12x140x1536, .f32⟩
  | .hbm, ⟨3, _⟩ => ⟨S12x140x1536, .f32⟩
  | .hbm, ⟨4, _⟩ => ⟨S12x140x1536, .f32⟩
  | .hbm, ⟨5, _⟩ => ⟨S12x140x1536, .f32⟩
  | .local _ .vmem, ⟨0, _⟩ => ⟨S2x8960x128, .bf16⟩
  | .local _ .vmem, ⟨1, _⟩ => ⟨S2x8960x128, .bf16⟩
  | .local _ .vmem, ⟨2, _⟩ => ⟨S2x4480x128, .i8⟩
  | .local _ .vmem, ⟨3, _⟩ => ⟨S2x4480x128, .i8⟩
  | .local _ .vmem, ⟨4, _⟩ => ⟨S2x140x128, .f32⟩
  | .local _ .vmem, ⟨5, _⟩ => ⟨S2x140x128, .f32⟩
  | .local _ .vmem, ⟨6, _⟩ => ⟨S2x140x128, .f32⟩
  | .local _ .vmem, ⟨7, _⟩ => ⟨S2x140x128, .f32⟩
  | .local _ .vmem, ⟨8, _⟩ => ⟨S2x140x128, .f32⟩
  | .local _ .vmem, ⟨9, _⟩ => ⟨S2x140x128, .f32⟩
  | .local _ .vmem, ⟨10, _⟩ => ⟨S2x140x128, .f32⟩
  | .local _ .vmem, ⟨11, _⟩ => ⟨S2x140x128, .f32⟩
  | .local _ .vmem, ⟨12, _⟩ => ⟨S5x288x128, .i32⟩
  | .local _ .vmem, ⟨13, _⟩ => ⟨S5x64x8x128, .f32⟩
  | .local _ .vmem, ⟨14, _⟩ => ⟨S5x72x128, .i32⟩
  | .local _ .vmem, ⟨15, _⟩ => ⟨S4x280x128, .f32⟩
  | _, _ => ⟨S12x8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![6, 12], ![false, false]⟩

@[reducible] def k0_t1_loop : Scf.Loop 32 :=
  let c0_i32 : BitVec 32 := 0#32
  let c7_i32 : BitVec 32 := 7#32
  let v0 : BitVec 32 := Scalar.addi c0_i32 c7_i32
  let c1_i32 : BitVec 32 := 1#32
  ⟨c0_i32, v0, c1_i32⟩
@[reducible] def k0_t2_loop : Scf.Loop 32 :=
  let c0_i32_50 : BitVec 32 := 0#32
  let c8_i32 : BitVec 32 := 8#32
  let v51 : BitVec 32 := Scalar.addi c0_i32_50 c8_i32
  let c1_i32_51 : BitVec 32 := 1#32
  ⟨c0_i32_50, v51, c1_i32_51⟩
def k0_mult1 (k0_t1 : Fin k0_t1_loop.trips) (k0_t2 : Fin k0_t2_loop.trips) : BitVec 32 :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_50 : BitVec 32 := 0#32
  let c1_i32_51 : BitVec 32 := 1#32
  let arg13 : BitVec 32 := Scf.iv c0_i32_50 c1_i32_51 k0_t2
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off1 (k0_t1 : Fin k0_t1_loop.trips) (k0_t2 : Fin k0_t2_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_50 : BitVec 32 := 0#32
  let c1_i32_51 : BitVec 32 := 1#32
  let arg13 : BitVec 32 := Scf.iv c0_i32_50 c1_i32_51 k0_t2
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off2 (k0_t2 : Fin k0_t2_loop.trips) (c0_i32_284 : BitVec 32) : Fin 3 → Nat :=
  let c0_285 : Index := 0#32
  let c0_i32_50 : BitVec 32 := 0#32
  let c1_i32_51 : BitVec 32 := 1#32
  let arg13 : BitVec 32 := Scf.iv c0_i32_50 c1_i32_51 k0_t2
  let v457 : BitVec 32 := Scalar.addi c0_i32_284 arg13
  let v458 : Index := Scalar.indexCast v457
  let c0_286 : Index := 0#32
  ![0, v458.toNat, 0]
@[reducible] def k0_t3_loop : Scf.Loop 32 :=
  let c1_i32_56 : BitVec 32 := 1#32
  let c31_i32 : BitVec 32 := 31#32
  let v55 : BitVec 32 := Scalar.addi c1_i32_56 c31_i32
  let c1_i32_57 : BitVec 32 := 1#32
  ⟨c1_i32_56, v55, c1_i32_57⟩
def k0_off3 (k0_t3 : Fin k0_t3_loop.trips) : Fin 3 → Nat :=
  let c0_280 : Index := 0#32
  let c1_i32_56 : BitVec 32 := 1#32
  let c1_i32_57 : BitVec 32 := 1#32
  let arg13 : BitVec 32 := Scf.iv c1_i32_56 c1_i32_57 k0_t3
  let c9_i32 : BitVec 32 := 9#32
  let v443 : BitVec 32 := Scalar.muli arg13 c9_i32
  let v444 : Index := Scalar.indexCast v443
  let c0_281 : Index := 0#32
  ![0, v444.toNat, 0]
@[reducible] def k0_t4_loop : Scf.Loop 32 :=
  let c0_i32_64 : BitVec 32 := 0#32
  let c32_i32 : BitVec 32 := 32#32
  let v84 : BitVec 32 := Scalar.addi c0_i32_64 c32_i32
  let c1_i32_65 : BitVec 32 := 1#32
  ⟨c0_i32_64, v84, c1_i32_65⟩
def k0_off4 (k0_t4 : Fin k0_t4_loop.trips) : Fin 3 → Nat :=
  let c0_280 : Index := 0#32
  let c0_i32_64 : BitVec 32 := 0#32
  let c1_i32_65 : BitVec 32 := 1#32
  let arg13 : BitVec 32 := Scf.iv c0_i32_64 c1_i32_65 k0_t4
  let c9_i32 : BitVec 32 := 9#32
  let v443 : BitVec 32 := Scalar.muli arg13 c9_i32
  let v444 : Index := Scalar.indexCast v443
  let c0_281 : Index := 0#32
  ![0, v444.toNat, 0]
def k0_off5 (k0_t4 : Fin k0_t4_loop.trips) : Fin 4 → Nat :=
  let c0_285 : Index := 0#32
  let c2_i32_284 : BitVec 32 := 2#32
  let c0_i32_64 : BitVec 32 := 0#32
  let c1_i32_65 : BitVec 32 := 1#32
  let arg13 : BitVec 32 := Scf.iv c0_i32_64 c1_i32_65 k0_t4
  let v454 : BitVec 32 := Scalar.muli c2_i32_284 arg13
  let v455 : Index := Scalar.indexCast v454
  let c0_286 : Index := 0#32
  let c0_287 : Index := 0#32
  ![0, v455.toNat, 0, 0]
def k0_off6 (k0_t4 : Fin k0_t4_loop.trips) : Fin 4 → Nat :=
  let c0_290 : Index := 0#32
  let c2_i32_288 : BitVec 32 := 2#32
  let c0_i32_64 : BitVec 32 := 0#32
  let c1_i32_65 : BitVec 32 := 1#32
  let arg13 : BitVec 32 := Scf.iv c0_i32_64 c1_i32_65 k0_t4
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![0, v462.toNat, 0, 0]
@[reducible] def k0_t5_loop : Scf.Loop 32 :=
  let c0_i32_67 : BitVec 32 := 0#32
  let c8_i32_68 : BitVec 32 := 8#32
  let v85 : BitVec 32 := Scalar.addi c0_i32_67 c8_i32_68
  let c1_i32_69 : BitVec 32 := 1#32
  ⟨c0_i32_67, v85, c1_i32_69⟩
def k0_mult2 (k0_t1 : Fin k0_t1_loop.trips) (k0_t5 : Fin k0_t5_loop.trips) : BitVec 32 :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_67 : BitVec 32 := 0#32
  let c1_i32_69 : BitVec 32 := 1#32
  let arg13 : BitVec 32 := Scf.iv c0_i32_67 c1_i32_69 k0_t5
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off7 (k0_t1 : Fin k0_t1_loop.trips) (k0_t5 : Fin k0_t5_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_67 : BitVec 32 := 0#32
  let c1_i32_69 : BitVec 32 := 1#32
  let arg13 : BitVec 32 := Scf.iv c0_i32_67 c1_i32_69 k0_t5
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off8 (k0_t5 : Fin k0_t5_loop.trips) (c0_i32_284 : BitVec 32) : Fin 3 → Nat :=
  let c1_285 : Index := 1#32
  let c0_i32_67 : BitVec 32 := 0#32
  let c1_i32_69 : BitVec 32 := 1#32
  let arg13 : BitVec 32 := Scf.iv c0_i32_67 c1_i32_69 k0_t5
  let v457 : BitVec 32 := Scalar.addi c0_i32_284 arg13
  let v458 : Index := Scalar.indexCast v457
  let c0_286 : Index := 0#32
  ![1, v458.toNat, 0]
@[reducible] def k0_t6_loop : Scf.Loop 32 :=
  let c1_i32_74 : BitVec 32 := 1#32
  let c31_i32_75 : BitVec 32 := 31#32
  let v89 : BitVec 32 := Scalar.addi c1_i32_74 c31_i32_75
  let c1_i32_76 : BitVec 32 := 1#32
  ⟨c1_i32_74, v89, c1_i32_76⟩
def k0_off9 (k0_t6 : Fin k0_t6_loop.trips) : Fin 3 → Nat :=
  let c1_280 : Index := 1#32
  let c1_i32_74 : BitVec 32 := 1#32
  let c1_i32_76 : BitVec 32 := 1#32
  let arg13 : BitVec 32 := Scf.iv c1_i32_74 c1_i32_76 k0_t6
  let c9_i32 : BitVec 32 := 9#32
  let v443 : BitVec 32 := Scalar.muli arg13 c9_i32
  let v444 : Index := Scalar.indexCast v443
  let c0_281 : Index := 0#32
  ![1, v444.toNat, 0]
@[reducible] def k0_t7_loop : Scf.Loop 32 :=
  let c0_i32_86 : BitVec 32 := 0#32
  let c32_i32_87 : BitVec 32 := 32#32
  let v118 : BitVec 32 := Scalar.addi c0_i32_86 c32_i32_87
  let c1_i32_88 : BitVec 32 := 1#32
  ⟨c0_i32_86, v118, c1_i32_88⟩
def k0_off10 (k0_t7 : Fin k0_t7_loop.trips) : Fin 3 → Nat :=
  let c1_280 : Index := 1#32
  let c0_i32_86 : BitVec 32 := 0#32
  let c1_i32_88 : BitVec 32 := 1#32
  let arg13 : BitVec 32 := Scf.iv c0_i32_86 c1_i32_88 k0_t7
  let c9_i32 : BitVec 32 := 9#32
  let v443 : BitVec 32 := Scalar.muli arg13 c9_i32
  let v444 : Index := Scalar.indexCast v443
  let c0_281 : Index := 0#32
  ![1, v444.toNat, 0]
def k0_off11 (k0_t7 : Fin k0_t7_loop.trips) : Fin 4 → Nat :=
  let c1_285 : Index := 1#32
  let c2_i32_284 : BitVec 32 := 2#32
  let c0_i32_86 : BitVec 32 := 0#32
  let c1_i32_88 : BitVec 32 := 1#32
  let arg13 : BitVec 32 := Scf.iv c0_i32_86 c1_i32_88 k0_t7
  let v454 : BitVec 32 := Scalar.muli c2_i32_284 arg13
  let v455 : Index := Scalar.indexCast v454
  let c0_286 : Index := 0#32
  let c0_287 : Index := 0#32
  ![1, v455.toNat, 0, 0]
def k0_off12 (k0_t7 : Fin k0_t7_loop.trips) : Fin 4 → Nat :=
  let c1_290 : Index := 1#32
  let c2_i32_288 : BitVec 32 := 2#32
  let c0_i32_86 : BitVec 32 := 0#32
  let c1_i32_88 : BitVec 32 := 1#32
  let arg13 : BitVec 32 := Scf.iv c0_i32_86 c1_i32_88 k0_t7
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![1, v462.toNat, 0, 0]
@[reducible] def k0_t8_loop : Scf.Loop 32 :=
  let c0_i32_90 : BitVec 32 := 0#32
  let c8_i32_91 : BitVec 32 := 8#32
  let v119 : BitVec 32 := Scalar.addi c0_i32_90 c8_i32_91
  let c1_i32_92 : BitVec 32 := 1#32
  ⟨c0_i32_90, v119, c1_i32_92⟩
def k0_mult3 (k0_t1 : Fin k0_t1_loop.trips) (k0_t8 : Fin k0_t8_loop.trips) : BitVec 32 :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_90 : BitVec 32 := 0#32
  let c1_i32_92 : BitVec 32 := 1#32
  let arg13 : BitVec 32 := Scf.iv c0_i32_90 c1_i32_92 k0_t8
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off13 (k0_t1 : Fin k0_t1_loop.trips) (k0_t8 : Fin k0_t8_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_90 : BitVec 32 := 0#32
  let c1_i32_92 : BitVec 32 := 1#32
  let arg13 : BitVec 32 := Scf.iv c0_i32_90 c1_i32_92 k0_t8
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off14 (k0_t8 : Fin k0_t8_loop.trips) (c0_i32_284 : BitVec 32) : Fin 3 → Nat :=
  let c2_285 : Index := 2#32
  let c0_i32_90 : BitVec 32 := 0#32
  let c1_i32_92 : BitVec 32 := 1#32
  let arg13 : BitVec 32 := Scf.iv c0_i32_90 c1_i32_92 k0_t8
  let v457 : BitVec 32 := Scalar.addi c0_i32_284 arg13
  let v458 : Index := Scalar.indexCast v457
  let c0_286 : Index := 0#32
  ![2, v458.toNat, 0]
@[reducible] def k0_t9_loop : Scf.Loop 32 :=
  let c1_i32_97 : BitVec 32 := 1#32
  let c31_i32_98 : BitVec 32 := 31#32
  let v123 : BitVec 32 := Scalar.addi c1_i32_97 c31_i32_98
  let c1_i32_99 : BitVec 32 := 1#32
  ⟨c1_i32_97, v123, c1_i32_99⟩
def k0_off15 (k0_t9 : Fin k0_t9_loop.trips) : Fin 3 → Nat :=
  let c2_280 : Index := 2#32
  let c1_i32_97 : BitVec 32 := 1#32
  let c1_i32_99 : BitVec 32 := 1#32
  let arg13 : BitVec 32 := Scf.iv c1_i32_97 c1_i32_99 k0_t9
  let c9_i32 : BitVec 32 := 9#32
  let v443 : BitVec 32 := Scalar.muli arg13 c9_i32
  let v444 : Index := Scalar.indexCast v443
  let c0_281 : Index := 0#32
  ![2, v444.toNat, 0]
@[reducible] def k0_t10_loop : Scf.Loop 32 :=
  let c0_i32_109 : BitVec 32 := 0#32
  let c32_i32_110 : BitVec 32 := 32#32
  let v152 : BitVec 32 := Scalar.addi c0_i32_109 c32_i32_110
  let c1_i32_111 : BitVec 32 := 1#32
  ⟨c0_i32_109, v152, c1_i32_111⟩
def k0_off16 (k0_t10 : Fin k0_t10_loop.trips) : Fin 3 → Nat :=
  let c2_280 : Index := 2#32
  let c0_i32_109 : BitVec 32 := 0#32
  let c1_i32_111 : BitVec 32 := 1#32
  let arg13 : BitVec 32 := Scf.iv c0_i32_109 c1_i32_111 k0_t10
  let c9_i32 : BitVec 32 := 9#32
  let v443 : BitVec 32 := Scalar.muli arg13 c9_i32
  let v444 : Index := Scalar.indexCast v443
  let c0_281 : Index := 0#32
  ![2, v444.toNat, 0]
def k0_off17 (k0_t10 : Fin k0_t10_loop.trips) : Fin 4 → Nat :=
  let c2_285 : Index := 2#32
  let c2_i32_284 : BitVec 32 := 2#32
  let c0_i32_109 : BitVec 32 := 0#32
  let c1_i32_111 : BitVec 32 := 1#32
  let arg13 : BitVec 32 := Scf.iv c0_i32_109 c1_i32_111 k0_t10
  let v454 : BitVec 32 := Scalar.muli c2_i32_284 arg13
  let v455 : Index := Scalar.indexCast v454
  let c0_286 : Index := 0#32
  let c0_287 : Index := 0#32
  ![2, v455.toNat, 0, 0]
def k0_off18 (k0_t10 : Fin k0_t10_loop.trips) : Fin 4 → Nat :=
  let c2_290 : Index := 2#32
  let c2_i32_288 : BitVec 32 := 2#32
  let c0_i32_109 : BitVec 32 := 0#32
  let c1_i32_111 : BitVec 32 := 1#32
  let arg13 : BitVec 32 := Scf.iv c0_i32_109 c1_i32_111 k0_t10
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![2, v462.toNat, 0, 0]
@[reducible] def k0_t11_loop : Scf.Loop 32 :=
  let c0_i32_113 : BitVec 32 := 0#32
  let c8_i32_114 : BitVec 32 := 8#32
  let v153 : BitVec 32 := Scalar.addi c0_i32_113 c8_i32_114
  let c1_i32_115 : BitVec 32 := 1#32
  ⟨c0_i32_113, v153, c1_i32_115⟩
def k0_mult4 (k0_t1 : Fin k0_t1_loop.trips) (k0_t11 : Fin k0_t11_loop.trips) : BitVec 32 :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_113 : BitVec 32 := 0#32
  let c1_i32_115 : BitVec 32 := 1#32
  let arg13 : BitVec 32 := Scf.iv c0_i32_113 c1_i32_115 k0_t11
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off19 (k0_t1 : Fin k0_t1_loop.trips) (k0_t11 : Fin k0_t11_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_113 : BitVec 32 := 0#32
  let c1_i32_115 : BitVec 32 := 1#32
  let arg13 : BitVec 32 := Scf.iv c0_i32_113 c1_i32_115 k0_t11
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off20 (k0_t11 : Fin k0_t11_loop.trips) (c0_i32_284 : BitVec 32) : Fin 3 → Nat :=
  let c3_285 : Index := 3#32
  let c0_i32_113 : BitVec 32 := 0#32
  let c1_i32_115 : BitVec 32 := 1#32
  let arg13 : BitVec 32 := Scf.iv c0_i32_113 c1_i32_115 k0_t11
  let v457 : BitVec 32 := Scalar.addi c0_i32_284 arg13
  let v458 : Index := Scalar.indexCast v457
  let c0_286 : Index := 0#32
  ![3, v458.toNat, 0]
@[reducible] def k0_t12_loop : Scf.Loop 32 :=
  let c1_i32_120 : BitVec 32 := 1#32
  let c31_i32_121 : BitVec 32 := 31#32
  let v157 : BitVec 32 := Scalar.addi c1_i32_120 c31_i32_121
  let c1_i32_122 : BitVec 32 := 1#32
  ⟨c1_i32_120, v157, c1_i32_122⟩
def k0_off21 (k0_t12 : Fin k0_t12_loop.trips) : Fin 3 → Nat :=
  let c3_280 : Index := 3#32
  let c1_i32_120 : BitVec 32 := 1#32
  let c1_i32_122 : BitVec 32 := 1#32
  let arg13 : BitVec 32 := Scf.iv c1_i32_120 c1_i32_122 k0_t12
  let c9_i32 : BitVec 32 := 9#32
  let v443 : BitVec 32 := Scalar.muli arg13 c9_i32
  let v444 : Index := Scalar.indexCast v443
  let c0_281 : Index := 0#32
  ![3, v444.toNat, 0]
@[reducible] def k0_t13_loop : Scf.Loop 32 :=
  let c0_i32_132 : BitVec 32 := 0#32
  let c32_i32_133 : BitVec 32 := 32#32
  let v186 : BitVec 32 := Scalar.addi c0_i32_132 c32_i32_133
  let c1_i32_134 : BitVec 32 := 1#32
  ⟨c0_i32_132, v186, c1_i32_134⟩
def k0_off22 (k0_t13 : Fin k0_t13_loop.trips) : Fin 3 → Nat :=
  let c3_280 : Index := 3#32
  let c0_i32_132 : BitVec 32 := 0#32
  let c1_i32_134 : BitVec 32 := 1#32
  let arg13 : BitVec 32 := Scf.iv c0_i32_132 c1_i32_134 k0_t13
  let c9_i32 : BitVec 32 := 9#32
  let v443 : BitVec 32 := Scalar.muli arg13 c9_i32
  let v444 : Index := Scalar.indexCast v443
  let c0_281 : Index := 0#32
  ![3, v444.toNat, 0]
def k0_off23 (k0_t13 : Fin k0_t13_loop.trips) : Fin 4 → Nat :=
  let c3_285 : Index := 3#32
  let c2_i32_284 : BitVec 32 := 2#32
  let c0_i32_132 : BitVec 32 := 0#32
  let c1_i32_134 : BitVec 32 := 1#32
  let arg13 : BitVec 32 := Scf.iv c0_i32_132 c1_i32_134 k0_t13
  let v454 : BitVec 32 := Scalar.muli c2_i32_284 arg13
  let v455 : Index := Scalar.indexCast v454
  let c0_286 : Index := 0#32
  let c0_287 : Index := 0#32
  ![3, v455.toNat, 0, 0]
def k0_off24 (k0_t13 : Fin k0_t13_loop.trips) : Fin 4 → Nat :=
  let c3_290 : Index := 3#32
  let c2_i32_288 : BitVec 32 := 2#32
  let c0_i32_132 : BitVec 32 := 0#32
  let c1_i32_134 : BitVec 32 := 1#32
  let arg13 : BitVec 32 := Scf.iv c0_i32_132 c1_i32_134 k0_t13
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![3, v462.toNat, 0, 0]
@[reducible] def k0_t14_loop : Scf.Loop 32 :=
  let c0_i32_136 : BitVec 32 := 0#32
  let c8_i32_137 : BitVec 32 := 8#32
  let v187 : BitVec 32 := Scalar.addi c0_i32_136 c8_i32_137
  let c1_i32_138 : BitVec 32 := 1#32
  ⟨c0_i32_136, v187, c1_i32_138⟩
def k0_mult5 (k0_t1 : Fin k0_t1_loop.trips) (k0_t14 : Fin k0_t14_loop.trips) : BitVec 32 :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_136 : BitVec 32 := 0#32
  let c1_i32_138 : BitVec 32 := 1#32
  let arg13 : BitVec 32 := Scf.iv c0_i32_136 c1_i32_138 k0_t14
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off25 (k0_t1 : Fin k0_t1_loop.trips) (k0_t14 : Fin k0_t14_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_136 : BitVec 32 := 0#32
  let c1_i32_138 : BitVec 32 := 1#32
  let arg13 : BitVec 32 := Scf.iv c0_i32_136 c1_i32_138 k0_t14
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off26 (k0_t14 : Fin k0_t14_loop.trips) (c0_i32_284 : BitVec 32) : Fin 3 → Nat :=
  let c4_285 : Index := 4#32
  let c0_i32_136 : BitVec 32 := 0#32
  let c1_i32_138 : BitVec 32 := 1#32
  let arg13 : BitVec 32 := Scf.iv c0_i32_136 c1_i32_138 k0_t14
  let v457 : BitVec 32 := Scalar.addi c0_i32_284 arg13
  let v458 : Index := Scalar.indexCast v457
  let c0_286 : Index := 0#32
  ![4, v458.toNat, 0]
@[reducible] def k0_t15_loop : Scf.Loop 32 :=
  let c1_i32_142 : BitVec 32 := 1#32
  let c31_i32_143 : BitVec 32 := 31#32
  let v191 : BitVec 32 := Scalar.addi c1_i32_142 c31_i32_143
  let c1_i32_144 : BitVec 32 := 1#32
  ⟨c1_i32_142, v191, c1_i32_144⟩
def k0_off27 (k0_t15 : Fin k0_t15_loop.trips) : Fin 3 → Nat :=
  let c4_280 : Index := 4#32
  let c1_i32_142 : BitVec 32 := 1#32
  let c1_i32_144 : BitVec 32 := 1#32
  let arg13 : BitVec 32 := Scf.iv c1_i32_142 c1_i32_144 k0_t15
  let c9_i32 : BitVec 32 := 9#32
  let v443 : BitVec 32 := Scalar.muli arg13 c9_i32
  let v444 : Index := Scalar.indexCast v443
  let c0_281 : Index := 0#32
  ![4, v444.toNat, 0]
@[reducible] def k0_t16_loop : Scf.Loop 32 :=
  let c0_i32_154 : BitVec 32 := 0#32
  let c32_i32_155 : BitVec 32 := 32#32
  let v220 : BitVec 32 := Scalar.addi c0_i32_154 c32_i32_155
  let c1_i32_156 : BitVec 32 := 1#32
  ⟨c0_i32_154, v220, c1_i32_156⟩
def k0_off28 (k0_t16 : Fin k0_t16_loop.trips) : Fin 3 → Nat :=
  let c4_280 : Index := 4#32
  let c0_i32_154 : BitVec 32 := 0#32
  let c1_i32_156 : BitVec 32 := 1#32
  let arg13 : BitVec 32 := Scf.iv c0_i32_154 c1_i32_156 k0_t16
  let c9_i32 : BitVec 32 := 9#32
  let v443 : BitVec 32 := Scalar.muli arg13 c9_i32
  let v444 : Index := Scalar.indexCast v443
  let c0_281 : Index := 0#32
  ![4, v444.toNat, 0]
def k0_off29 (k0_t16 : Fin k0_t16_loop.trips) : Fin 4 → Nat :=
  let c4_285 : Index := 4#32
  let c2_i32_284 : BitVec 32 := 2#32
  let c0_i32_154 : BitVec 32 := 0#32
  let c1_i32_156 : BitVec 32 := 1#32
  let arg13 : BitVec 32 := Scf.iv c0_i32_154 c1_i32_156 k0_t16
  let v454 : BitVec 32 := Scalar.muli c2_i32_284 arg13
  let v455 : Index := Scalar.indexCast v454
  let c0_286 : Index := 0#32
  let c0_287 : Index := 0#32
  ![4, v455.toNat, 0, 0]
def k0_off30 (k0_t16 : Fin k0_t16_loop.trips) : Fin 4 → Nat :=
  let c4_290 : Index := 4#32
  let c2_i32_288 : BitVec 32 := 2#32
  let c0_i32_154 : BitVec 32 := 0#32
  let c1_i32_156 : BitVec 32 := 1#32
  let arg13 : BitVec 32 := Scf.iv c0_i32_154 c1_i32_156 k0_t16
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![4, v462.toNat, 0, 0]
@[reducible] def k0_t17_loop : Scf.Loop 32 :=
  let c0_i32_173 : BitVec 32 := 0#32
  let c20_i32 : BitVec 32 := 20#32
  let v266 : BitVec 32 := Scalar.addi c0_i32_173 c20_i32
  let c1_i32_174 : BitVec 32 := 1#32
  ⟨c0_i32_173, v266, c1_i32_174⟩
@[reducible] def k0_t18_loop : Scf.Loop 32 :=
  let c0_i32_283 : BitVec 32 := 0#32
  let c64_i32 : BitVec 32 := 64#32
  let v448 : BitVec 32 := Scalar.addi c0_i32_283 c64_i32
  let c1_i32_284 : BitVec 32 := 1#32
  ⟨c0_i32_283, v448, c1_i32_284⟩
def k0_off31 (k0_t18 : Fin k0_t18_loop.trips) : Fin 4 → Nat :=
  let c0_324 : Index := 0#32
  let c0_i32_283 : BitVec 32 := 0#32
  let c1_i32_284 : BitVec 32 := 1#32
  let arg24 : BitVec 32 := Scf.iv c0_i32_283 c1_i32_284 k0_t18
  let v523 : Index := Scalar.indexCast arg24
  let c0_325 : Index := 0#32
  let c0_326 : Index := 0#32
  ![0, v523.toNat, 0, 0]
@[reducible] def k0_t19_loop : Scf.Loop 32 :=
  let c0_i32_290 : BitVec 32 := 0#32
  let c64_i32_291 : BitVec 32 := 64#32
  let v462 : BitVec 32 := Scalar.addi c0_i32_290 c64_i32_291
  let c1_i32_292 : BitVec 32 := 1#32
  ⟨c0_i32_290, v462, c1_i32_292⟩
def k0_off32 (k0_t19 : Fin k0_t19_loop.trips) : Fin 4 → Nat :=
  let c1_324 : Index := 1#32
  let c0_i32_290 : BitVec 32 := 0#32
  let c1_i32_292 : BitVec 32 := 1#32
  let arg24 : BitVec 32 := Scf.iv c0_i32_290 c1_i32_292 k0_t19
  let v523 : Index := Scalar.indexCast arg24
  let c0_325 : Index := 0#32
  let c0_326 : Index := 0#32
  ![1, v523.toNat, 0, 0]
@[reducible] def k0_t20_loop : Scf.Loop 32 :=
  let c0_i32_298 : BitVec 32 := 0#32
  let c64_i32_299 : BitVec 32 := 64#32
  let v476 : BitVec 32 := Scalar.addi c0_i32_298 c64_i32_299
  let c1_i32_300 : BitVec 32 := 1#32
  ⟨c0_i32_298, v476, c1_i32_300⟩
def k0_off33 (k0_t20 : Fin k0_t20_loop.trips) : Fin 4 → Nat :=
  let c2_324 : Index := 2#32
  let c0_i32_298 : BitVec 32 := 0#32
  let c1_i32_300 : BitVec 32 := 1#32
  let arg24 : BitVec 32 := Scf.iv c0_i32_298 c1_i32_300 k0_t20
  let v523 : Index := Scalar.indexCast arg24
  let c0_325 : Index := 0#32
  let c0_326 : Index := 0#32
  ![2, v523.toNat, 0, 0]
@[reducible] def k0_t21_loop : Scf.Loop 32 :=
  let c0_i32_306 : BitVec 32 := 0#32
  let c64_i32_307 : BitVec 32 := 64#32
  let v490 : BitVec 32 := Scalar.addi c0_i32_306 c64_i32_307
  let c1_i32_308 : BitVec 32 := 1#32
  ⟨c0_i32_306, v490, c1_i32_308⟩
def k0_off34 (k0_t21 : Fin k0_t21_loop.trips) : Fin 4 → Nat :=
  let c3_324 : Index := 3#32
  let c0_i32_306 : BitVec 32 := 0#32
  let c1_i32_308 : BitVec 32 := 1#32
  let arg24 : BitVec 32 := Scf.iv c0_i32_306 c1_i32_308 k0_t21
  let v523 : Index := Scalar.indexCast arg24
  let c0_325 : Index := 0#32
  let c0_326 : Index := 0#32
  ![3, v523.toNat, 0, 0]
@[reducible] def k0_t22_loop : Scf.Loop 32 :=
  let c0_i32_314 : BitVec 32 := 0#32
  let c64_i32_315 : BitVec 32 := 64#32
  let v504 : BitVec 32 := Scalar.addi c0_i32_314 c64_i32_315
  let c1_i32_316 : BitVec 32 := 1#32
  ⟨c0_i32_314, v504, c1_i32_316⟩
def k0_off35 (k0_t22 : Fin k0_t22_loop.trips) : Fin 4 → Nat :=
  let c4_324 : Index := 4#32
  let c0_i32_314 : BitVec 32 := 0#32
  let c1_i32_316 : BitVec 32 := 1#32
  let arg24 : BitVec 32 := Scf.iv c0_i32_314 c1_i32_316 k0_t22
  let v523 : Index := Scalar.indexCast arg24
  let c0_325 : Index := 0#32
  let c0_326 : Index := 0#32
  ![4, v523.toNat, 0, 0]
@[reducible] def k0_t23_loop : Scf.Loop 32 :=
  let c0_i32_176 : BitVec 32 := 0#32
  let c8_i32_177 : BitVec 32 := 8#32
  let v269 : BitVec 32 := Scalar.addi c0_i32_176 c8_i32_177
  let c1_i32_178 : BitVec 32 := 1#32
  ⟨c0_i32_176, v269, c1_i32_178⟩
def k0_off36 (k0_t23 : Fin k0_t23_loop.trips) (c0_i32_281 : BitVec 32) : Fin 4 → Nat :=
  let c0_282 : Index := 0#32
  let c8_i32_280 : BitVec 32 := 8#32
  let c0_i32_176 : BitVec 32 := 0#32
  let c1_i32_178 : BitVec 32 := 1#32
  let arg13 : BitVec 32 := Scf.iv c0_i32_176 c1_i32_178 k0_t23
  let v443 : BitVec 32 := Scalar.muli c8_i32_280 arg13
  let v444 : BitVec 32 := Scalar.addi v443 c0_i32_281
  let v445 : Index := Scalar.indexCast v444
  let c0_283 : Index := 0#32
  let c0_284 : Index := 0#32
  ![0, v445.toNat, 0, 0]
def k0_off37 (k0_t23 : Fin k0_t23_loop.trips) : Fin 3 → Nat :=
  let c0_356 : Index := 0#32
  let c0_i32_176 : BitVec 32 := 0#32
  let c1_i32_178 : BitVec 32 := 1#32
  let arg13 : BitVec 32 := Scf.iv c0_i32_176 c1_i32_178 k0_t23
  let v642 : Index := Scalar.indexCast arg13
  let c0_357 : Index := 0#32
  ![0, v642.toNat, 0]
@[reducible] def k0_t24_loop : Scf.Loop 32 :=
  let c0_i32_180 : BitVec 32 := 0#32
  let c8_i32_181 : BitVec 32 := 8#32
  let v271 : BitVec 32 := Scalar.addi c0_i32_180 c8_i32_181
  let c1_i32_182 : BitVec 32 := 1#32
  ⟨c0_i32_180, v271, c1_i32_182⟩
def k0_mult6 (k0_t1 : Fin k0_t1_loop.trips) (k0_t24 : Fin k0_t24_loop.trips) : BitVec 32 :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_180 : BitVec 32 := 0#32
  let c1_i32_182 : BitVec 32 := 1#32
  let arg13 : BitVec 32 := Scf.iv c0_i32_180 c1_i32_182 k0_t24
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off38 (k0_t24 : Fin k0_t24_loop.trips) : Fin 3 → Nat :=
  let c0_283 : Index := 0#32
  let c0_i32_180 : BitVec 32 := 0#32
  let c1_i32_182 : BitVec 32 := 1#32
  let arg13 : BitVec 32 := Scf.iv c0_i32_180 c1_i32_182 k0_t24
  let c9_i32 : BitVec 32 := 9#32
  let v451 : BitVec 32 := Scalar.muli arg13 c9_i32
  let v452 : Index := Scalar.indexCast v451
  let c0_284 : Index := 0#32
  ![0, v452.toNat, 0]
def k0_off39 (k0_t1 : Fin k0_t1_loop.trips) (k0_t24 : Fin k0_t24_loop.trips) : Fin 3 → Nat :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_180 : BitVec 32 := 0#32
  let c1_i32_182 : BitVec 32 := 1#32
  let arg13 : BitVec 32 := Scf.iv c0_i32_180 c1_i32_182 k0_t24
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
def k0_off40 (k0_t1 : Fin k0_t1_loop.trips) (c0_i32_44 : BitVec 32) : Fin 3 → Nat :=
  let c0_186 : Index := 0#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v278 : Index := Scalar.indexCast v277
  let c0_187 : Index := 0#32
  ![0, v278.toNat, 0]
def k0_off41 (k0_t1 : Fin k0_t1_loop.trips) (c0_i32_44 : BitVec 32) : Fin 3 → Nat :=
  let c1_188 : Index := 1#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v282 : Index := Scalar.indexCast v277
  let c0_189 : Index := 0#32
  ![1, v282.toNat, 0]
def k0_off42 (k0_t1 : Fin k0_t1_loop.trips) (c0_i32_44 : BitVec 32) : Fin 3 → Nat :=
  let c2_192 : Index := 2#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v294 : Index := Scalar.indexCast v277
  let c0_193 : Index := 0#32
  ![2, v294.toNat, 0]
def k0_off43 (k0_t1 : Fin k0_t1_loop.trips) (c0_i32_44 : BitVec 32) : Fin 3 → Nat :=
  let c3_194 : Index := 3#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v299 : Index := Scalar.indexCast v277
  let c0_195 : Index := 0#32
  ![3, v299.toNat, 0]
@[reducible] def k0_t25_loop : Scf.Loop 32 :=
  let c0_i32_197 : BitVec 32 := 0#32
  let c8_i32_198 : BitVec 32 := 8#32
  let v304 : BitVec 32 := Scalar.addi c0_i32_197 c8_i32_198
  let c1_i32_199 : BitVec 32 := 1#32
  ⟨c0_i32_197, v304, c1_i32_199⟩
def k0_off44 (k0_t25 : Fin k0_t25_loop.trips) (c0_i32_281 : BitVec 32) : Fin 4 → Nat :=
  let c1_282 : Index := 1#32
  let c8_i32_280 : BitVec 32 := 8#32
  let c0_i32_197 : BitVec 32 := 0#32
  let c1_i32_199 : BitVec 32 := 1#32
  let arg13 : BitVec 32 := Scf.iv c0_i32_197 c1_i32_199 k0_t25
  let v443 : BitVec 32 := Scalar.muli c8_i32_280 arg13
  let v444 : BitVec 32 := Scalar.addi v443 c0_i32_281
  let v445 : Index := Scalar.indexCast v444
  let c0_283 : Index := 0#32
  let c0_284 : Index := 0#32
  ![1, v445.toNat, 0, 0]
def k0_off45 (k0_t25 : Fin k0_t25_loop.trips) : Fin 3 → Nat :=
  let c1_356 : Index := 1#32
  let c0_i32_197 : BitVec 32 := 0#32
  let c1_i32_199 : BitVec 32 := 1#32
  let arg13 : BitVec 32 := Scf.iv c0_i32_197 c1_i32_199 k0_t25
  let v642 : Index := Scalar.indexCast arg13
  let c0_357 : Index := 0#32
  ![1, v642.toNat, 0]
@[reducible] def k0_t26_loop : Scf.Loop 32 :=
  let c0_i32_201 : BitVec 32 := 0#32
  let c8_i32_202 : BitVec 32 := 8#32
  let v306 : BitVec 32 := Scalar.addi c0_i32_201 c8_i32_202
  let c1_i32_203 : BitVec 32 := 1#32
  ⟨c0_i32_201, v306, c1_i32_203⟩
def k0_mult7 (k0_t1 : Fin k0_t1_loop.trips) (k0_t26 : Fin k0_t26_loop.trips) : BitVec 32 :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_201 : BitVec 32 := 0#32
  let c1_i32_203 : BitVec 32 := 1#32
  let arg13 : BitVec 32 := Scf.iv c0_i32_201 c1_i32_203 k0_t26
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off46 (k0_t26 : Fin k0_t26_loop.trips) : Fin 3 → Nat :=
  let c1_283 : Index := 1#32
  let c0_i32_201 : BitVec 32 := 0#32
  let c1_i32_203 : BitVec 32 := 1#32
  let arg13 : BitVec 32 := Scf.iv c0_i32_201 c1_i32_203 k0_t26
  let c9_i32 : BitVec 32 := 9#32
  let v451 : BitVec 32 := Scalar.muli arg13 c9_i32
  let v452 : Index := Scalar.indexCast v451
  let c0_284 : Index := 0#32
  ![1, v452.toNat, 0]
def k0_off47 (k0_t1 : Fin k0_t1_loop.trips) (k0_t26 : Fin k0_t26_loop.trips) : Fin 3 → Nat :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_201 : BitVec 32 := 0#32
  let c1_i32_203 : BitVec 32 := 1#32
  let arg13 : BitVec 32 := Scf.iv c0_i32_201 c1_i32_203 k0_t26
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
@[reducible] def k0_t27_loop : Scf.Loop 32 :=
  let c0_i32_218 : BitVec 32 := 0#32
  let c8_i32_219 : BitVec 32 := 8#32
  let v339 : BitVec 32 := Scalar.addi c0_i32_218 c8_i32_219
  let c1_i32_220 : BitVec 32 := 1#32
  ⟨c0_i32_218, v339, c1_i32_220⟩
def k0_off48 (k0_t27 : Fin k0_t27_loop.trips) (c0_i32_281 : BitVec 32) : Fin 4 → Nat :=
  let c2_282 : Index := 2#32
  let c8_i32_280 : BitVec 32 := 8#32
  let c0_i32_218 : BitVec 32 := 0#32
  let c1_i32_220 : BitVec 32 := 1#32
  let arg13 : BitVec 32 := Scf.iv c0_i32_218 c1_i32_220 k0_t27
  let v443 : BitVec 32 := Scalar.muli c8_i32_280 arg13
  let v444 : BitVec 32 := Scalar.addi v443 c0_i32_281
  let v445 : Index := Scalar.indexCast v444
  let c0_283 : Index := 0#32
  let c0_284 : Index := 0#32
  ![2, v445.toNat, 0, 0]
def k0_off49 (k0_t27 : Fin k0_t27_loop.trips) : Fin 3 → Nat :=
  let c2_356 : Index := 2#32
  let c0_i32_218 : BitVec 32 := 0#32
  let c1_i32_220 : BitVec 32 := 1#32
  let arg13 : BitVec 32 := Scf.iv c0_i32_218 c1_i32_220 k0_t27
  let v642 : Index := Scalar.indexCast arg13
  let c0_357 : Index := 0#32
  ![2, v642.toNat, 0]
@[reducible] def k0_t28_loop : Scf.Loop 32 :=
  let c0_i32_222 : BitVec 32 := 0#32
  let c8_i32_223 : BitVec 32 := 8#32
  let v341 : BitVec 32 := Scalar.addi c0_i32_222 c8_i32_223
  let c1_i32_224 : BitVec 32 := 1#32
  ⟨c0_i32_222, v341, c1_i32_224⟩
def k0_mult8 (k0_t1 : Fin k0_t1_loop.trips) (k0_t28 : Fin k0_t28_loop.trips) : BitVec 32 :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_222 : BitVec 32 := 0#32
  let c1_i32_224 : BitVec 32 := 1#32
  let arg13 : BitVec 32 := Scf.iv c0_i32_222 c1_i32_224 k0_t28
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off50 (k0_t28 : Fin k0_t28_loop.trips) : Fin 3 → Nat :=
  let c2_283 : Index := 2#32
  let c0_i32_222 : BitVec 32 := 0#32
  let c1_i32_224 : BitVec 32 := 1#32
  let arg13 : BitVec 32 := Scf.iv c0_i32_222 c1_i32_224 k0_t28
  let c9_i32 : BitVec 32 := 9#32
  let v451 : BitVec 32 := Scalar.muli arg13 c9_i32
  let v452 : Index := Scalar.indexCast v451
  let c0_284 : Index := 0#32
  ![2, v452.toNat, 0]
def k0_off51 (k0_t1 : Fin k0_t1_loop.trips) (k0_t28 : Fin k0_t28_loop.trips) : Fin 3 → Nat :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_222 : BitVec 32 := 0#32
  let c1_i32_224 : BitVec 32 := 1#32
  let arg13 : BitVec 32 := Scf.iv c0_i32_222 c1_i32_224 k0_t28
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
@[reducible] def k0_t29_loop : Scf.Loop 32 :=
  let c0_i32_239 : BitVec 32 := 0#32
  let c8_i32_240 : BitVec 32 := 8#32
  let v374 : BitVec 32 := Scalar.addi c0_i32_239 c8_i32_240
  let c1_i32_241 : BitVec 32 := 1#32
  ⟨c0_i32_239, v374, c1_i32_241⟩
def k0_off52 (k0_t29 : Fin k0_t29_loop.trips) (c0_i32_281 : BitVec 32) : Fin 4 → Nat :=
  let c3_282 : Index := 3#32
  let c8_i32_280 : BitVec 32 := 8#32
  let c0_i32_239 : BitVec 32 := 0#32
  let c1_i32_241 : BitVec 32 := 1#32
  let arg13 : BitVec 32 := Scf.iv c0_i32_239 c1_i32_241 k0_t29
  let v443 : BitVec 32 := Scalar.muli c8_i32_280 arg13
  let v444 : BitVec 32 := Scalar.addi v443 c0_i32_281
  let v445 : Index := Scalar.indexCast v444
  let c0_283 : Index := 0#32
  let c0_284 : Index := 0#32
  ![3, v445.toNat, 0, 0]
def k0_off53 (k0_t29 : Fin k0_t29_loop.trips) : Fin 3 → Nat :=
  let c3_356 : Index := 3#32
  let c0_i32_239 : BitVec 32 := 0#32
  let c1_i32_241 : BitVec 32 := 1#32
  let arg13 : BitVec 32 := Scf.iv c0_i32_239 c1_i32_241 k0_t29
  let v642 : Index := Scalar.indexCast arg13
  let c0_357 : Index := 0#32
  ![3, v642.toNat, 0]
@[reducible] def k0_t30_loop : Scf.Loop 32 :=
  let c0_i32_243 : BitVec 32 := 0#32
  let c8_i32_244 : BitVec 32 := 8#32
  let v376 : BitVec 32 := Scalar.addi c0_i32_243 c8_i32_244
  let c1_i32_245 : BitVec 32 := 1#32
  ⟨c0_i32_243, v376, c1_i32_245⟩
def k0_mult9 (k0_t1 : Fin k0_t1_loop.trips) (k0_t30 : Fin k0_t30_loop.trips) : BitVec 32 :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_243 : BitVec 32 := 0#32
  let c1_i32_245 : BitVec 32 := 1#32
  let arg13 : BitVec 32 := Scf.iv c0_i32_243 c1_i32_245 k0_t30
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off54 (k0_t30 : Fin k0_t30_loop.trips) : Fin 3 → Nat :=
  let c3_283 : Index := 3#32
  let c0_i32_243 : BitVec 32 := 0#32
  let c1_i32_245 : BitVec 32 := 1#32
  let arg13 : BitVec 32 := Scf.iv c0_i32_243 c1_i32_245 k0_t30
  let c9_i32 : BitVec 32 := 9#32
  let v451 : BitVec 32 := Scalar.muli arg13 c9_i32
  let v452 : Index := Scalar.indexCast v451
  let c0_284 : Index := 0#32
  ![3, v452.toNat, 0]
def k0_off55 (k0_t1 : Fin k0_t1_loop.trips) (k0_t30 : Fin k0_t30_loop.trips) : Fin 3 → Nat :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_243 : BitVec 32 := 0#32
  let c1_i32_245 : BitVec 32 := 1#32
  let arg13 : BitVec 32 := Scf.iv c0_i32_243 c1_i32_245 k0_t30
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
@[reducible] def k0_t31_loop : Scf.Loop 32 :=
  let c0_i32_260 : BitVec 32 := 0#32
  let c8_i32_261 : BitVec 32 := 8#32
  let v409 : BitVec 32 := Scalar.addi c0_i32_260 c8_i32_261
  let c1_i32_262 : BitVec 32 := 1#32
  ⟨c0_i32_260, v409, c1_i32_262⟩
def k0_off56 (k0_t31 : Fin k0_t31_loop.trips) (c0_i32_281 : BitVec 32) : Fin 4 → Nat :=
  let c4_282 : Index := 4#32
  let c8_i32_280 : BitVec 32 := 8#32
  let c0_i32_260 : BitVec 32 := 0#32
  let c1_i32_262 : BitVec 32 := 1#32
  let arg13 : BitVec 32 := Scf.iv c0_i32_260 c1_i32_262 k0_t31
  let v443 : BitVec 32 := Scalar.muli c8_i32_280 arg13
  let v444 : BitVec 32 := Scalar.addi v443 c0_i32_281
  let v445 : Index := Scalar.indexCast v444
  let c0_283 : Index := 0#32
  let c0_284 : Index := 0#32
  ![4, v445.toNat, 0, 0]
def k0_off57 (k0_t31 : Fin k0_t31_loop.trips) : Fin 3 → Nat :=
  let c4_356 : Index := 4#32
  let c0_i32_260 : BitVec 32 := 0#32
  let c1_i32_262 : BitVec 32 := 1#32
  let arg13 : BitVec 32 := Scf.iv c0_i32_260 c1_i32_262 k0_t31
  let v642 : Index := Scalar.indexCast arg13
  let c0_357 : Index := 0#32
  ![4, v642.toNat, 0]
@[reducible] def k0_t32_loop : Scf.Loop 32 :=
  let c0_i32_264 : BitVec 32 := 0#32
  let c8_i32_265 : BitVec 32 := 8#32
  let v411 : BitVec 32 := Scalar.addi c0_i32_264 c8_i32_265
  let c1_i32_266 : BitVec 32 := 1#32
  ⟨c0_i32_264, v411, c1_i32_266⟩
def k0_mult10 (k0_t1 : Fin k0_t1_loop.trips) (k0_t32 : Fin k0_t32_loop.trips) : BitVec 32 :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_264 : BitVec 32 := 0#32
  let c1_i32_266 : BitVec 32 := 1#32
  let arg13 : BitVec 32 := Scf.iv c0_i32_264 c1_i32_266 k0_t32
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off58 (k0_t32 : Fin k0_t32_loop.trips) : Fin 3 → Nat :=
  let c4_283 : Index := 4#32
  let c0_i32_264 : BitVec 32 := 0#32
  let c1_i32_266 : BitVec 32 := 1#32
  let arg13 : BitVec 32 := Scf.iv c0_i32_264 c1_i32_266 k0_t32
  let c9_i32 : BitVec 32 := 9#32
  let v451 : BitVec 32 := Scalar.muli arg13 c9_i32
  let v452 : Index := Scalar.indexCast v451
  let c0_284 : Index := 0#32
  ![4, v452.toNat, 0]
def k0_off59 (k0_t1 : Fin k0_t1_loop.trips) (k0_t32 : Fin k0_t32_loop.trips) : Fin 3 → Nat :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_264 : BitVec 32 := 0#32
  let c1_i32_266 : BitVec 32 := 1#32
  let arg13 : BitVec 32 := Scf.iv c0_i32_264 c1_i32_266 k0_t32
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x8960x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4480x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x140x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x140x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x140x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x140x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S12x8960x1536 : Shape := ⟨3, ![12, 8960, 1536]⟩
abbrev S12x4480x1536 : Shape := ⟨3, ![12, 4480, 1536]⟩
abbrev S12x140x1536 : Shape := ⟨3, ![12, 140, 1536]⟩
abbrev S2x8960x128 : Shape := ⟨3, ![2, 8960, 128]⟩
abbrev S2x4480x128 : Shape := ⟨3, ![2, 4480, 128]⟩
abbrev S2x140x128 : Shape := ⟨3, ![2, 140, 128]⟩
abbrev S5x288x128 : Shape := ⟨3, ![5, 288, 128]⟩
abbrev S5x288x2x128 : Shape := ⟨4, ![5, 288, 2, 128]⟩
abbrev S5x288x1x128 : Shape := ⟨4, ![5, 288, 1, 128]⟩
abbrev S5x64x8x128 : Shape := ⟨4, ![5, 64, 8, 128]⟩
abbrev S5x72x128 : Shape := ⟨3, ![5, 72, 128]⟩
abbrev S4x280x128 : Shape := ⟨3, ![4, 280, 128]⟩
abbrev S1x16x128 : Shape := ⟨3, ![1, 16, 128]⟩
abbrev S16x128 : Shape := ⟨2, ![16, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S1x1x8x128 : Shape := ⟨4, ![1, 1, 8, 128]⟩
abbrev S32x128 : Shape := ⟨2, ![32, 128]⟩
abbrev S1x32x128 : Shape := ⟨3, ![1, 32, 128]⟩
abbrev S1x140x128 : Shape := ⟨3, ![1, 140, 128]⟩
abbrev S140x128 : Shape := ⟨2, ![140, 128]⟩

abbrev nBuf : Space → Nat
  | .hbm => 6
  | .vmem => 16
  | .smem => 0
  | _ => 0

abbrev bufTy : (tb : Table) → Fin (tcTables nBuf tb) → BufTy
  | .hbm, ⟨0, _⟩ => ⟨S12x8960x1536, .bf16⟩
  | .hbm, ⟨1, _⟩ => ⟨S12x4480x1536, .i8⟩
  | .hbm, ⟨2, _⟩ => ⟨S12x140x1536, .f32⟩
  | .hbm, ⟨3, _⟩ => ⟨S12x140x1536, .f32⟩
  | .hbm, ⟨4, _⟩ => ⟨S12x140x1536, .f32⟩
  | .hbm, ⟨5, _⟩ => ⟨S12x140x1536, .f32⟩
  | .local _ .vmem, ⟨0, _⟩ => ⟨S2x8960x128, .bf16⟩
  | .local _ .vmem, ⟨1, _⟩ => ⟨S2x8960x128, .bf16⟩
  | .local _ .vmem, ⟨2, _⟩ => ⟨S2x4480x128, .i8⟩
  | .local _ .vmem, ⟨3, _⟩ => ⟨S2x4480x128, .i8⟩
  | .local _ .vmem, ⟨4, _⟩ => ⟨S2x140x128, .f32⟩
  | .local _ .vmem, ⟨5, _⟩ => ⟨S2x140x128, .f32⟩
  | .local _ .vmem, ⟨6, _⟩ => ⟨S2x140x128, .f32⟩
  | .local _ .vmem, ⟨7, _⟩ => ⟨S2x140x128, .f32⟩
  | .local _ .vmem, ⟨8, _⟩ => ⟨S2x140x128, .f32⟩
  | .local _ .vmem, ⟨9, _⟩ => ⟨S2x140x128, .f32⟩
  | .local _ .vmem, ⟨10, _⟩ => ⟨S2x140x128, .f32⟩
  | .local _ .vmem, ⟨11, _⟩ => ⟨S2x140x128, .f32⟩
  | .local _ .vmem, ⟨12, _⟩ => ⟨S5x288x2x128, .bf16⟩
  | .local _ .vmem, ⟨13, _⟩ => ⟨S5x64x8x128, .f32⟩
  | .local _ .vmem, ⟨14, _⟩ => ⟨S5x72x128, .i32⟩
  | .local _ .vmem, ⟨15, _⟩ => ⟨S4x280x128, .f32⟩
  | _, _ => ⟨S12x8960x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F] [Named F]

def κ : String → Option EReal := fun
  | "neg_shrink" => some ((-21810381 / 16777216 : ℝ) : EReal)
  | "shrink" => some ((21810381 / 16777216 : ℝ) : EReal)
  | _ => none

abbrev grid0 : Pipeline.Grid := ⟨2, ![6, 12], ![false, false]⟩

@[reducible] def k0_t1_loop : Scf.Loop 32 :=
  let c0_i32 : BitVec 32 := 0#32
  let c7_i32 : BitVec 32 := 7#32
  let v0 : BitVec 32 := Scalar.addi c0_i32 c7_i32
  let c1_i32 : BitVec 32 := 1#32
  ⟨c0_i32, v0, c1_i32⟩
@[reducible] def k0_t2_loop : Scf.Loop 32 :=
  let c0_i32_50 : BitVec 32 := 0#32
  let c8_i32 : BitVec 32 := 8#32
  let v51 : BitVec 32 := Scalar.addi c0_i32_50 c8_i32
  let c1_i32_51 : BitVec 32 := 1#32
  ⟨c0_i32_50, v51, c1_i32_51⟩
def k0_mult1 (k0_t1 : Fin k0_t1_loop.trips) (k0_t2 : Fin k0_t2_loop.trips) : BitVec 32 :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_50 : BitVec 32 := 0#32
  let c1_i32_51 : BitVec 32 := 1#32
  let arg13 : BitVec 32 := Scf.iv c0_i32_50 c1_i32_51 k0_t2
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off1 (k0_t1 : Fin k0_t1_loop.trips) (k0_t2 : Fin k0_t2_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_50 : BitVec 32 := 0#32
  let c1_i32_51 : BitVec 32 := 1#32
  let arg13 : BitVec 32 := Scf.iv c0_i32_50 c1_i32_51 k0_t2
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off2 (k0_t2 : Fin k0_t2_loop.trips) (c0_i32_284 : BitVec 32) : Fin 4 → Nat :=
  let c0_285 : Index := 0#32
  let c0_i32_50 : BitVec 32 := 0#32
  let c1_i32_51 : BitVec 32 := 1#32
  let arg13 : BitVec 32 := Scf.iv c0_i32_50 c1_i32_51 k0_t2
  let v457 : BitVec 32 := Scalar.addi c0_i32_284 arg13
  let v458 : Index := Scalar.indexCast v457
  let c0_286 : Index := 0#32
  ![0, v458.toNat, 0, 0]
@[reducible] def k0_t3_loop : Scf.Loop 32 :=
  let c1_i32_56 : BitVec 32 := 1#32
  let c31_i32 : BitVec 32 := 31#32
  let v55 : BitVec 32 := Scalar.addi c1_i32_56 c31_i32
  let c1_i32_57 : BitVec 32 := 1#32
  ⟨c1_i32_56, v55, c1_i32_57⟩
def k0_off3 (k0_t3 : Fin k0_t3_loop.trips) : Fin 4 → Nat :=
  let c0_280 : Index := 0#32
  let c1_i32_56 : BitVec 32 := 1#32
  let c1_i32_57 : BitVec 32 := 1#32
  let arg13 : BitVec 32 := Scf.iv c1_i32_56 c1_i32_57 k0_t3
  let c9_i32 : BitVec 32 := 9#32
  let v443 : BitVec 32 := Scalar.muli arg13 c9_i32
  let v444 : Index := Scalar.indexCast v443
  let c0_281 : Index := 0#32
  ![0, v444.toNat, 0, 0]
@[reducible] def k0_t4_loop : Scf.Loop 32 :=
  let c0_i32_64 : BitVec 32 := 0#32
  let c32_i32 : BitVec 32 := 32#32
  let v84 : BitVec 32 := Scalar.addi c0_i32_64 c32_i32
  let c1_i32_65 : BitVec 32 := 1#32
  ⟨c0_i32_64, v84, c1_i32_65⟩
def k0_off4 (k0_t4 : Fin k0_t4_loop.trips) : Fin 4 → Nat :=
  let c0_280 : Index := 0#32
  let c0_i32_64 : BitVec 32 := 0#32
  let c1_i32_65 : BitVec 32 := 1#32
  let arg13 : BitVec 32 := Scf.iv c0_i32_64 c1_i32_65 k0_t4
  let c9_i32 : BitVec 32 := 9#32
  let v443 : BitVec 32 := Scalar.muli arg13 c9_i32
  let v444 : Index := Scalar.indexCast v443
  let c0_281 : Index := 0#32
  ![0, v444.toNat, 0, 0]
def k0_off5 (k0_t4 : Fin k0_t4_loop.trips) : Fin 4 → Nat :=
  let c0_285 : Index := 0#32
  let c2_i32_284 : BitVec 32 := 2#32
  let c0_i32_64 : BitVec 32 := 0#32
  let c1_i32_65 : BitVec 32 := 1#32
  let arg13 : BitVec 32 := Scf.iv c0_i32_64 c1_i32_65 k0_t4
  let v454 : BitVec 32 := Scalar.muli c2_i32_284 arg13
  let v455 : Index := Scalar.indexCast v454
  let c0_286 : Index := 0#32
  let c0_287 : Index := 0#32
  ![0, v455.toNat, 0, 0]
def k0_off6 (k0_t4 : Fin k0_t4_loop.trips) : Fin 4 → Nat :=
  let c0_290 : Index := 0#32
  let c2_i32_288 : BitVec 32 := 2#32
  let c0_i32_64 : BitVec 32 := 0#32
  let c1_i32_65 : BitVec 32 := 1#32
  let arg13 : BitVec 32 := Scf.iv c0_i32_64 c1_i32_65 k0_t4
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![0, v462.toNat, 0, 0]
@[reducible] def k0_t5_loop : Scf.Loop 32 :=
  let c0_i32_67 : BitVec 32 := 0#32
  let c8_i32_68 : BitVec 32 := 8#32
  let v85 : BitVec 32 := Scalar.addi c0_i32_67 c8_i32_68
  let c1_i32_69 : BitVec 32 := 1#32
  ⟨c0_i32_67, v85, c1_i32_69⟩
def k0_mult2 (k0_t1 : Fin k0_t1_loop.trips) (k0_t5 : Fin k0_t5_loop.trips) : BitVec 32 :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_67 : BitVec 32 := 0#32
  let c1_i32_69 : BitVec 32 := 1#32
  let arg13 : BitVec 32 := Scf.iv c0_i32_67 c1_i32_69 k0_t5
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off7 (k0_t1 : Fin k0_t1_loop.trips) (k0_t5 : Fin k0_t5_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_67 : BitVec 32 := 0#32
  let c1_i32_69 : BitVec 32 := 1#32
  let arg13 : BitVec 32 := Scf.iv c0_i32_67 c1_i32_69 k0_t5
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off8 (k0_t5 : Fin k0_t5_loop.trips) (c0_i32_284 : BitVec 32) : Fin 4 → Nat :=
  let c1_285 : Index := 1#32
  let c0_i32_67 : BitVec 32 := 0#32
  let c1_i32_69 : BitVec 32 := 1#32
  let arg13 : BitVec 32 := Scf.iv c0_i32_67 c1_i32_69 k0_t5
  let v457 : BitVec 32 := Scalar.addi c0_i32_284 arg13
  let v458 : Index := Scalar.indexCast v457
  let c0_286 : Index := 0#32
  ![1, v458.toNat, 0, 0]
@[reducible] def k0_t6_loop : Scf.Loop 32 :=
  let c1_i32_74 : BitVec 32 := 1#32
  let c31_i32_75 : BitVec 32 := 31#32
  let v89 : BitVec 32 := Scalar.addi c1_i32_74 c31_i32_75
  let c1_i32_76 : BitVec 32 := 1#32
  ⟨c1_i32_74, v89, c1_i32_76⟩
def k0_off9 (k0_t6 : Fin k0_t6_loop.trips) : Fin 4 → Nat :=
  let c1_280 : Index := 1#32
  let c1_i32_74 : BitVec 32 := 1#32
  let c1_i32_76 : BitVec 32 := 1#32
  let arg13 : BitVec 32 := Scf.iv c1_i32_74 c1_i32_76 k0_t6
  let c9_i32 : BitVec 32 := 9#32
  let v443 : BitVec 32 := Scalar.muli arg13 c9_i32
  let v444 : Index := Scalar.indexCast v443
  let c0_281 : Index := 0#32
  ![1, v444.toNat, 0, 0]
@[reducible] def k0_t7_loop : Scf.Loop 32 :=
  let c0_i32_86 : BitVec 32 := 0#32
  let c32_i32_87 : BitVec 32 := 32#32
  let v118 : BitVec 32 := Scalar.addi c0_i32_86 c32_i32_87
  let c1_i32_88 : BitVec 32 := 1#32
  ⟨c0_i32_86, v118, c1_i32_88⟩
def k0_off10 (k0_t7 : Fin k0_t7_loop.trips) : Fin 4 → Nat :=
  let c1_280 : Index := 1#32
  let c0_i32_86 : BitVec 32 := 0#32
  let c1_i32_88 : BitVec 32 := 1#32
  let arg13 : BitVec 32 := Scf.iv c0_i32_86 c1_i32_88 k0_t7
  let c9_i32 : BitVec 32 := 9#32
  let v443 : BitVec 32 := Scalar.muli arg13 c9_i32
  let v444 : Index := Scalar.indexCast v443
  let c0_281 : Index := 0#32
  ![1, v444.toNat, 0, 0]
def k0_off11 (k0_t7 : Fin k0_t7_loop.trips) : Fin 4 → Nat :=
  let c1_285 : Index := 1#32
  let c2_i32_284 : BitVec 32 := 2#32
  let c0_i32_86 : BitVec 32 := 0#32
  let c1_i32_88 : BitVec 32 := 1#32
  let arg13 : BitVec 32 := Scf.iv c0_i32_86 c1_i32_88 k0_t7
  let v454 : BitVec 32 := Scalar.muli c2_i32_284 arg13
  let v455 : Index := Scalar.indexCast v454
  let c0_286 : Index := 0#32
  let c0_287 : Index := 0#32
  ![1, v455.toNat, 0, 0]
def k0_off12 (k0_t7 : Fin k0_t7_loop.trips) : Fin 4 → Nat :=
  let c1_290 : Index := 1#32
  let c2_i32_288 : BitVec 32 := 2#32
  let c0_i32_86 : BitVec 32 := 0#32
  let c1_i32_88 : BitVec 32 := 1#32
  let arg13 : BitVec 32 := Scf.iv c0_i32_86 c1_i32_88 k0_t7
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![1, v462.toNat, 0, 0]
@[reducible] def k0_t8_loop : Scf.Loop 32 :=
  let c0_i32_90 : BitVec 32 := 0#32
  let c8_i32_91 : BitVec 32 := 8#32
  let v119 : BitVec 32 := Scalar.addi c0_i32_90 c8_i32_91
  let c1_i32_92 : BitVec 32 := 1#32
  ⟨c0_i32_90, v119, c1_i32_92⟩
def k0_mult3 (k0_t1 : Fin k0_t1_loop.trips) (k0_t8 : Fin k0_t8_loop.trips) : BitVec 32 :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_90 : BitVec 32 := 0#32
  let c1_i32_92 : BitVec 32 := 1#32
  let arg13 : BitVec 32 := Scf.iv c0_i32_90 c1_i32_92 k0_t8
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off13 (k0_t1 : Fin k0_t1_loop.trips) (k0_t8 : Fin k0_t8_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_90 : BitVec 32 := 0#32
  let c1_i32_92 : BitVec 32 := 1#32
  let arg13 : BitVec 32 := Scf.iv c0_i32_90 c1_i32_92 k0_t8
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off14 (k0_t8 : Fin k0_t8_loop.trips) (c0_i32_284 : BitVec 32) : Fin 4 → Nat :=
  let c2_285 : Index := 2#32
  let c0_i32_90 : BitVec 32 := 0#32
  let c1_i32_92 : BitVec 32 := 1#32
  let arg13 : BitVec 32 := Scf.iv c0_i32_90 c1_i32_92 k0_t8
  let v457 : BitVec 32 := Scalar.addi c0_i32_284 arg13
  let v458 : Index := Scalar.indexCast v457
  let c0_286 : Index := 0#32
  ![2, v458.toNat, 0, 0]
@[reducible] def k0_t9_loop : Scf.Loop 32 :=
  let c1_i32_97 : BitVec 32 := 1#32
  let c31_i32_98 : BitVec 32 := 31#32
  let v123 : BitVec 32 := Scalar.addi c1_i32_97 c31_i32_98
  let c1_i32_99 : BitVec 32 := 1#32
  ⟨c1_i32_97, v123, c1_i32_99⟩
def k0_off15 (k0_t9 : Fin k0_t9_loop.trips) : Fin 4 → Nat :=
  let c2_280 : Index := 2#32
  let c1_i32_97 : BitVec 32 := 1#32
  let c1_i32_99 : BitVec 32 := 1#32
  let arg13 : BitVec 32 := Scf.iv c1_i32_97 c1_i32_99 k0_t9
  let c9_i32 : BitVec 32 := 9#32
  let v443 : BitVec 32 := Scalar.muli arg13 c9_i32
  let v444 : Index := Scalar.indexCast v443
  let c0_281 : Index := 0#32
  ![2, v444.toNat, 0, 0]
@[reducible] def k0_t10_loop : Scf.Loop 32 :=
  let c0_i32_109 : BitVec 32 := 0#32
  let c32_i32_110 : BitVec 32 := 32#32
  let v152 : BitVec 32 := Scalar.addi c0_i32_109 c32_i32_110
  let c1_i32_111 : BitVec 32 := 1#32
  ⟨c0_i32_109, v152, c1_i32_111⟩
def k0_off16 (k0_t10 : Fin k0_t10_loop.trips) : Fin 4 → Nat :=
  let c2_280 : Index := 2#32
  let c0_i32_109 : BitVec 32 := 0#32
  let c1_i32_111 : BitVec 32 := 1#32
  let arg13 : BitVec 32 := Scf.iv c0_i32_109 c1_i32_111 k0_t10
  let c9_i32 : BitVec 32 := 9#32
  let v443 : BitVec 32 := Scalar.muli arg13 c9_i32
  let v444 : Index := Scalar.indexCast v443
  let c0_281 : Index := 0#32
  ![2, v444.toNat, 0, 0]
def k0_off17 (k0_t10 : Fin k0_t10_loop.trips) : Fin 4 → Nat :=
  let c2_285 : Index := 2#32
  let c2_i32_284 : BitVec 32 := 2#32
  let c0_i32_109 : BitVec 32 := 0#32
  let c1_i32_111 : BitVec 32 := 1#32
  let arg13 : BitVec 32 := Scf.iv c0_i32_109 c1_i32_111 k0_t10
  let v454 : BitVec 32 := Scalar.muli c2_i32_284 arg13
  let v455 : Index := Scalar.indexCast v454
  let c0_286 : Index := 0#32
  let c0_287 : Index := 0#32
  ![2, v455.toNat, 0, 0]
def k0_off18 (k0_t10 : Fin k0_t10_loop.trips) : Fin 4 → Nat :=
  let c2_290 : Index := 2#32
  let c2_i32_288 : BitVec 32 := 2#32
  let c0_i32_109 : BitVec 32 := 0#32
  let c1_i32_111 : BitVec 32 := 1#32
  let arg13 : BitVec 32 := Scf.iv c0_i32_109 c1_i32_111 k0_t10
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![2, v462.toNat, 0, 0]
@[reducible] def k0_t11_loop : Scf.Loop 32 :=
  let c0_i32_113 : BitVec 32 := 0#32
  let c8_i32_114 : BitVec 32 := 8#32
  let v153 : BitVec 32 := Scalar.addi c0_i32_113 c8_i32_114
  let c1_i32_115 : BitVec 32 := 1#32
  ⟨c0_i32_113, v153, c1_i32_115⟩
def k0_mult4 (k0_t1 : Fin k0_t1_loop.trips) (k0_t11 : Fin k0_t11_loop.trips) : BitVec 32 :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_113 : BitVec 32 := 0#32
  let c1_i32_115 : BitVec 32 := 1#32
  let arg13 : BitVec 32 := Scf.iv c0_i32_113 c1_i32_115 k0_t11
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off19 (k0_t1 : Fin k0_t1_loop.trips) (k0_t11 : Fin k0_t11_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_113 : BitVec 32 := 0#32
  let c1_i32_115 : BitVec 32 := 1#32
  let arg13 : BitVec 32 := Scf.iv c0_i32_113 c1_i32_115 k0_t11
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off20 (k0_t11 : Fin k0_t11_loop.trips) (c0_i32_284 : BitVec 32) : Fin 4 → Nat :=
  let c3_285 : Index := 3#32
  let c0_i32_113 : BitVec 32 := 0#32
  let c1_i32_115 : BitVec 32 := 1#32
  let arg13 : BitVec 32 := Scf.iv c0_i32_113 c1_i32_115 k0_t11
  let v457 : BitVec 32 := Scalar.addi c0_i32_284 arg13
  let v458 : Index := Scalar.indexCast v457
  let c0_286 : Index := 0#32
  ![3, v458.toNat, 0, 0]
@[reducible] def k0_t12_loop : Scf.Loop 32 :=
  let c1_i32_120 : BitVec 32 := 1#32
  let c31_i32_121 : BitVec 32 := 31#32
  let v157 : BitVec 32 := Scalar.addi c1_i32_120 c31_i32_121
  let c1_i32_122 : BitVec 32 := 1#32
  ⟨c1_i32_120, v157, c1_i32_122⟩
def k0_off21 (k0_t12 : Fin k0_t12_loop.trips) : Fin 4 → Nat :=
  let c3_280 : Index := 3#32
  let c1_i32_120 : BitVec 32 := 1#32
  let c1_i32_122 : BitVec 32 := 1#32
  let arg13 : BitVec 32 := Scf.iv c1_i32_120 c1_i32_122 k0_t12
  let c9_i32 : BitVec 32 := 9#32
  let v443 : BitVec 32 := Scalar.muli arg13 c9_i32
  let v444 : Index := Scalar.indexCast v443
  let c0_281 : Index := 0#32
  ![3, v444.toNat, 0, 0]
@[reducible] def k0_t13_loop : Scf.Loop 32 :=
  let c0_i32_132 : BitVec 32 := 0#32
  let c32_i32_133 : BitVec 32 := 32#32
  let v186 : BitVec 32 := Scalar.addi c0_i32_132 c32_i32_133
  let c1_i32_134 : BitVec 32 := 1#32
  ⟨c0_i32_132, v186, c1_i32_134⟩
def k0_off22 (k0_t13 : Fin k0_t13_loop.trips) : Fin 4 → Nat :=
  let c3_280 : Index := 3#32
  let c0_i32_132 : BitVec 32 := 0#32
  let c1_i32_134 : BitVec 32 := 1#32
  let arg13 : BitVec 32 := Scf.iv c0_i32_132 c1_i32_134 k0_t13
  let c9_i32 : BitVec 32 := 9#32
  let v443 : BitVec 32 := Scalar.muli arg13 c9_i32
  let v444 : Index := Scalar.indexCast v443
  let c0_281 : Index := 0#32
  ![3, v444.toNat, 0, 0]
def k0_off23 (k0_t13 : Fin k0_t13_loop.trips) : Fin 4 → Nat :=
  let c3_285 : Index := 3#32
  let c2_i32_284 : BitVec 32 := 2#32
  let c0_i32_132 : BitVec 32 := 0#32
  let c1_i32_134 : BitVec 32 := 1#32
  let arg13 : BitVec 32 := Scf.iv c0_i32_132 c1_i32_134 k0_t13
  let v454 : BitVec 32 := Scalar.muli c2_i32_284 arg13
  let v455 : Index := Scalar.indexCast v454
  let c0_286 : Index := 0#32
  let c0_287 : Index := 0#32
  ![3, v455.toNat, 0, 0]
def k0_off24 (k0_t13 : Fin k0_t13_loop.trips) : Fin 4 → Nat :=
  let c3_290 : Index := 3#32
  let c2_i32_288 : BitVec 32 := 2#32
  let c0_i32_132 : BitVec 32 := 0#32
  let c1_i32_134 : BitVec 32 := 1#32
  let arg13 : BitVec 32 := Scf.iv c0_i32_132 c1_i32_134 k0_t13
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![3, v462.toNat, 0, 0]
@[reducible] def k0_t14_loop : Scf.Loop 32 :=
  let c0_i32_136 : BitVec 32 := 0#32
  let c8_i32_137 : BitVec 32 := 8#32
  let v187 : BitVec 32 := Scalar.addi c0_i32_136 c8_i32_137
  let c1_i32_138 : BitVec 32 := 1#32
  ⟨c0_i32_136, v187, c1_i32_138⟩
def k0_mult5 (k0_t1 : Fin k0_t1_loop.trips) (k0_t14 : Fin k0_t14_loop.trips) : BitVec 32 :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_136 : BitVec 32 := 0#32
  let c1_i32_138 : BitVec 32 := 1#32
  let arg13 : BitVec 32 := Scf.iv c0_i32_136 c1_i32_138 k0_t14
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  v449
def k0_off25 (k0_t1 : Fin k0_t1_loop.trips) (k0_t14 : Fin k0_t14_loop.trips) (c0_i32_282 : BitVec 32) : Fin 3 → Nat :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_136 : BitVec 32 := 0#32
  let c1_i32_138 : BitVec 32 := 1#32
  let arg13 : BitVec 32 := Scf.iv c0_i32_136 c1_i32_138 k0_t14
  let v444 : BitVec 32 := Scalar.addi v443 arg13
  let c140_i32 : BitVec 32 := 140#32
  let v445 : BitVec 1 := Scalar.cmpi .sge v444 c140_i32
  let v446 : BitVec 32 := Scalar.extui v445
  let v452 : Index := Scalar.indexCast v446
  let c140_i32_281 : BitVec 32 := 140#32
  let v447 : BitVec 32 := Scalar.muli v446 c140_i32_281
  let v448 : BitVec 32 := Scalar.subi v444 v447
  let c64_i32 : BitVec 32 := 64#32
  let v449 : BitVec 32 := Scalar.muli v448 c64_i32
  let v450 : BitVec 32 := v449
  let v451 : BitVec 32 := Scalar.addi v450 c0_i32_282
  let v453 : Index := Scalar.indexCast v451
  let c0_283 : Index := 0#32
  ![v452.toNat, v453.toNat, 0]
def k0_off26 (k0_t14 : Fin k0_t14_loop.trips) (c0_i32_284 : BitVec 32) : Fin 4 → Nat :=
  let c4_285 : Index := 4#32
  let c0_i32_136 : BitVec 32 := 0#32
  let c1_i32_138 : BitVec 32 := 1#32
  let arg13 : BitVec 32 := Scf.iv c0_i32_136 c1_i32_138 k0_t14
  let v457 : BitVec 32 := Scalar.addi c0_i32_284 arg13
  let v458 : Index := Scalar.indexCast v457
  let c0_286 : Index := 0#32
  ![4, v458.toNat, 0, 0]
@[reducible] def k0_t15_loop : Scf.Loop 32 :=
  let c1_i32_142 : BitVec 32 := 1#32
  let c31_i32_143 : BitVec 32 := 31#32
  let v191 : BitVec 32 := Scalar.addi c1_i32_142 c31_i32_143
  let c1_i32_144 : BitVec 32 := 1#32
  ⟨c1_i32_142, v191, c1_i32_144⟩
def k0_off27 (k0_t15 : Fin k0_t15_loop.trips) : Fin 4 → Nat :=
  let c4_280 : Index := 4#32
  let c1_i32_142 : BitVec 32 := 1#32
  let c1_i32_144 : BitVec 32 := 1#32
  let arg13 : BitVec 32 := Scf.iv c1_i32_142 c1_i32_144 k0_t15
  let c9_i32 : BitVec 32 := 9#32
  let v443 : BitVec 32 := Scalar.muli arg13 c9_i32
  let v444 : Index := Scalar.indexCast v443
  let c0_281 : Index := 0#32
  ![4, v444.toNat, 0, 0]
@[reducible] def k0_t16_loop : Scf.Loop 32 :=
  let c0_i32_154 : BitVec 32 := 0#32
  let c32_i32_155 : BitVec 32 := 32#32
  let v220 : BitVec 32 := Scalar.addi c0_i32_154 c32_i32_155
  let c1_i32_156 : BitVec 32 := 1#32
  ⟨c0_i32_154, v220, c1_i32_156⟩
def k0_off28 (k0_t16 : Fin k0_t16_loop.trips) : Fin 4 → Nat :=
  let c4_280 : Index := 4#32
  let c0_i32_154 : BitVec 32 := 0#32
  let c1_i32_156 : BitVec 32 := 1#32
  let arg13 : BitVec 32 := Scf.iv c0_i32_154 c1_i32_156 k0_t16
  let c9_i32 : BitVec 32 := 9#32
  let v443 : BitVec 32 := Scalar.muli arg13 c9_i32
  let v444 : Index := Scalar.indexCast v443
  let c0_281 : Index := 0#32
  ![4, v444.toNat, 0, 0]
def k0_off29 (k0_t16 : Fin k0_t16_loop.trips) : Fin 4 → Nat :=
  let c4_285 : Index := 4#32
  let c2_i32_284 : BitVec 32 := 2#32
  let c0_i32_154 : BitVec 32 := 0#32
  let c1_i32_156 : BitVec 32 := 1#32
  let arg13 : BitVec 32 := Scf.iv c0_i32_154 c1_i32_156 k0_t16
  let v454 : BitVec 32 := Scalar.muli c2_i32_284 arg13
  let v455 : Index := Scalar.indexCast v454
  let c0_286 : Index := 0#32
  let c0_287 : Index := 0#32
  ![4, v455.toNat, 0, 0]
def k0_off30 (k0_t16 : Fin k0_t16_loop.trips) : Fin 4 → Nat :=
  let c4_290 : Index := 4#32
  let c2_i32_288 : BitVec 32 := 2#32
  let c0_i32_154 : BitVec 32 := 0#32
  let c1_i32_156 : BitVec 32 := 1#32
  let arg13 : BitVec 32 := Scf.iv c0_i32_154 c1_i32_156 k0_t16
  let v460 : BitVec 32 := Scalar.muli c2_i32_288 arg13
  let c1_i32_289 : BitVec 32 := 1#32
  let v461 : BitVec 32 := Scalar.addi v460 c1_i32_289
  let v462 : Index := Scalar.indexCast v461
  let c0_291 : Index := 0#32
  let c0_292 : Index := 0#32
  ![4, v462.toNat, 0, 0]
@[reducible] def k0_t17_loop : Scf.Loop 32 :=
  let c0_i32_173 : BitVec 32 := 0#32
  let c20_i32 : BitVec 32 := 20#32
  let v266 : BitVec 32 := Scalar.addi c0_i32_173 c20_i32
  let c1_i32_174 : BitVec 32 := 1#32
  ⟨c0_i32_173, v266, c1_i32_174⟩
@[reducible] def k0_t18_loop : Scf.Loop 32 :=
  let c0_i32_283 : BitVec 32 := 0#32
  let c64_i32 : BitVec 32 := 64#32
  let v448 : BitVec 32 := Scalar.addi c0_i32_283 c64_i32
  let c1_i32_284 : BitVec 32 := 1#32
  ⟨c0_i32_283, v448, c1_i32_284⟩
def k0_off31 (k0_t18 : Fin k0_t18_loop.trips) : Fin 4 → Nat :=
  let c0_324 : Index := 0#32
  let c0_i32_283 : BitVec 32 := 0#32
  let c1_i32_284 : BitVec 32 := 1#32
  let arg24 : BitVec 32 := Scf.iv c0_i32_283 c1_i32_284 k0_t18
  let v523 : Index := Scalar.indexCast arg24
  let c0_325 : Index := 0#32
  let c0_326 : Index := 0#32
  ![0, v523.toNat, 0, 0]
@[reducible] def k0_t19_loop : Scf.Loop 32 :=
  let c0_i32_290 : BitVec 32 := 0#32
  let c64_i32_291 : BitVec 32 := 64#32
  let v462 : BitVec 32 := Scalar.addi c0_i32_290 c64_i32_291
  let c1_i32_292 : BitVec 32 := 1#32
  ⟨c0_i32_290, v462, c1_i32_292⟩
def k0_off32 (k0_t19 : Fin k0_t19_loop.trips) : Fin 4 → Nat :=
  let c1_324 : Index := 1#32
  let c0_i32_290 : BitVec 32 := 0#32
  let c1_i32_292 : BitVec 32 := 1#32
  let arg24 : BitVec 32 := Scf.iv c0_i32_290 c1_i32_292 k0_t19
  let v523 : Index := Scalar.indexCast arg24
  let c0_325 : Index := 0#32
  let c0_326 : Index := 0#32
  ![1, v523.toNat, 0, 0]
@[reducible] def k0_t20_loop : Scf.Loop 32 :=
  let c0_i32_298 : BitVec 32 := 0#32
  let c64_i32_299 : BitVec 32 := 64#32
  let v476 : BitVec 32 := Scalar.addi c0_i32_298 c64_i32_299
  let c1_i32_300 : BitVec 32 := 1#32
  ⟨c0_i32_298, v476, c1_i32_300⟩
def k0_off33 (k0_t20 : Fin k0_t20_loop.trips) : Fin 4 → Nat :=
  let c2_324 : Index := 2#32
  let c0_i32_298 : BitVec 32 := 0#32
  let c1_i32_300 : BitVec 32 := 1#32
  let arg24 : BitVec 32 := Scf.iv c0_i32_298 c1_i32_300 k0_t20
  let v523 : Index := Scalar.indexCast arg24
  let c0_325 : Index := 0#32
  let c0_326 : Index := 0#32
  ![2, v523.toNat, 0, 0]
@[reducible] def k0_t21_loop : Scf.Loop 32 :=
  let c0_i32_306 : BitVec 32 := 0#32
  let c64_i32_307 : BitVec 32 := 64#32
  let v490 : BitVec 32 := Scalar.addi c0_i32_306 c64_i32_307
  let c1_i32_308 : BitVec 32 := 1#32
  ⟨c0_i32_306, v490, c1_i32_308⟩
def k0_off34 (k0_t21 : Fin k0_t21_loop.trips) : Fin 4 → Nat :=
  let c3_324 : Index := 3#32
  let c0_i32_306 : BitVec 32 := 0#32
  let c1_i32_308 : BitVec 32 := 1#32
  let arg24 : BitVec 32 := Scf.iv c0_i32_306 c1_i32_308 k0_t21
  let v523 : Index := Scalar.indexCast arg24
  let c0_325 : Index := 0#32
  let c0_326 : Index := 0#32
  ![3, v523.toNat, 0, 0]
@[reducible] def k0_t22_loop : Scf.Loop 32 :=
  let c0_i32_314 : BitVec 32 := 0#32
  let c64_i32_315 : BitVec 32 := 64#32
  let v504 : BitVec 32 := Scalar.addi c0_i32_314 c64_i32_315
  let c1_i32_316 : BitVec 32 := 1#32
  ⟨c0_i32_314, v504, c1_i32_316⟩
def k0_off35 (k0_t22 : Fin k0_t22_loop.trips) : Fin 4 → Nat :=
  let c4_324 : Index := 4#32
  let c0_i32_314 : BitVec 32 := 0#32
  let c1_i32_316 : BitVec 32 := 1#32
  let arg24 : BitVec 32 := Scf.iv c0_i32_314 c1_i32_316 k0_t22
  let v523 : Index := Scalar.indexCast arg24
  let c0_325 : Index := 0#32
  let c0_326 : Index := 0#32
  ![4, v523.toNat, 0, 0]
@[reducible] def k0_t23_loop : Scf.Loop 32 :=
  let c0_i32_176 : BitVec 32 := 0#32
  let c8_i32_177 : BitVec 32 := 8#32
  let v269 : BitVec 32 := Scalar.addi c0_i32_176 c8_i32_177
  let c1_i32_178 : BitVec 32 := 1#32
  ⟨c0_i32_176, v269, c1_i32_178⟩
def k0_off36 (k0_t23 : Fin k0_t23_loop.trips) (c0_i32_281 : BitVec 32) : Fin 4 → Nat :=
  let c0_282 : Index := 0#32
  let c8_i32_280 : BitVec 32 := 8#32
  let c0_i32_176 : BitVec 32 := 0#32
  let c1_i32_178 : BitVec 32 := 1#32
  let arg13 : BitVec 32 := Scf.iv c0_i32_176 c1_i32_178 k0_t23
  let v443 : BitVec 32 := Scalar.muli c8_i32_280 arg13
  let v444 : BitVec 32 := Scalar.addi v443 c0_i32_281
  let v445 : Index := Scalar.indexCast v444
  let c0_283 : Index := 0#32
  let c0_284 : Index := 0#32
  ![0, v445.toNat, 0, 0]
def k0_off37 (k0_t23 : Fin k0_t23_loop.trips) : Fin 3 → Nat :=
  let c0_356 : Index := 0#32
  let c0_i32_176 : BitVec 32 := 0#32
  let c1_i32_178 : BitVec 32 := 1#32
  let arg13 : BitVec 32 := Scf.iv c0_i32_176 c1_i32_178 k0_t23
  let v642 : Index := Scalar.indexCast arg13
  let c0_357 : Index := 0#32
  ![0, v642.toNat, 0]
@[reducible] def k0_t24_loop : Scf.Loop 32 :=
  let c0_i32_180 : BitVec 32 := 0#32
  let c8_i32_181 : BitVec 32 := 8#32
  let v271 : BitVec 32 := Scalar.addi c0_i32_180 c8_i32_181
  let c1_i32_182 : BitVec 32 := 1#32
  ⟨c0_i32_180, v271, c1_i32_182⟩
def k0_mult6 (k0_t1 : Fin k0_t1_loop.trips) (k0_t24 : Fin k0_t24_loop.trips) : BitVec 32 :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_180 : BitVec 32 := 0#32
  let c1_i32_182 : BitVec 32 := 1#32
  let arg13 : BitVec 32 := Scf.iv c0_i32_180 c1_i32_182 k0_t24
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off38 (k0_t24 : Fin k0_t24_loop.trips) : Fin 3 → Nat :=
  let c0_283 : Index := 0#32
  let c0_i32_180 : BitVec 32 := 0#32
  let c1_i32_182 : BitVec 32 := 1#32
  let arg13 : BitVec 32 := Scf.iv c0_i32_180 c1_i32_182 k0_t24
  let c9_i32 : BitVec 32 := 9#32
  let v451 : BitVec 32 := Scalar.muli arg13 c9_i32
  let v452 : Index := Scalar.indexCast v451
  let c0_284 : Index := 0#32
  ![0, v452.toNat, 0]
def k0_off39 (k0_t1 : Fin k0_t1_loop.trips) (k0_t24 : Fin k0_t24_loop.trips) : Fin 3 → Nat :=
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let c0_i32_44 : BitVec 32 := 0#32
  let v42 : BitVec 32 := Scalar.addi v41 c0_i32_44
  let c8_i32_280 : BitVec 32 := 8#32
  let v443 : BitVec 32 := Scalar.muli v42 c8_i32_280
  let c0_i32_180 : BitVec 32 := 0#32
  let c1_i32_182 : BitVec 32 := 1#32
  let arg13 : BitVec 32 := Scf.iv c0_i32_180 c1_i32_182 k0_t24
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
def k0_off40 (k0_t1 : Fin k0_t1_loop.trips) (c0_i32_44 : BitVec 32) : Fin 3 → Nat :=
  let c0_186 : Index := 0#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v278 : Index := Scalar.indexCast v277
  let c0_187 : Index := 0#32
  ![0, v278.toNat, 0]
def k0_off41 (k0_t1 : Fin k0_t1_loop.trips) (c0_i32_44 : BitVec 32) : Fin 3 → Nat :=
  let c1_188 : Index := 1#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v282 : Index := Scalar.indexCast v277
  let c0_189 : Index := 0#32
  ![1, v282.toNat, 0]
def k0_off42 (k0_t1 : Fin k0_t1_loop.trips) (c0_i32_44 : BitVec 32) : Fin 3 → Nat :=
  let c2_192 : Index := 2#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v294 : Index := Scalar.indexCast v277
  let c0_193 : Index := 0#32
  ![2, v294.toNat, 0]
def k0_off43 (k0_t1 : Fin k0_t1_loop.trips) (c0_i32_44 : BitVec 32) : Fin 3 → Nat :=
  let c3_194 : Index := 3#32
  let c0_i32 : BitVec 32 := 0#32
  let c1_i32 : BitVec 32 := 1#32
  let arg12 : BitVec 32 := Scf.iv c0_i32 c1_i32 k0_t1
  let c5_i32 : BitVec 32 := 5#32
  let v41 : BitVec 32 := Scalar.muli arg12 c5_i32
  let v42 : BitVec 32 := Scalar.addi v41 c0_i32_44
  let c8_i32_185 : BitVec 32 := 8#32
  let v277 : BitVec 32 := Scalar.muli v42 c8_i32_185
  let v299 : Index := Scalar.indexCast v277
  let c0_195 : Index := 0#32
  ![3, v299.toNat, 0]
@[reducible] def k0_t25_loop : Scf.Loop 32 :=
  let c0_i32_197 : BitVec 32 := 0#32
  let c8_i32_198 : BitVec 32 := 8#32
  let v304 : BitVec 32 := Scalar.addi c0_i32_197 c8_i32_198
  let c1_i32_199 : BitVec 32 := 1#32
  ⟨c0_i32_197, v304, c1_i32_199⟩
def k0_off44 (k0_t25 : Fin k0_t25_loop.trips) (c0_i32_281 : BitVec 32) : Fin 4 → Nat :=
  let c1_282 : Index := 1#32
  let c8_i32_280 : BitVec 32 := 8#32
  let c0_i32_197 : BitVec 32 := 0#32
  let c1_i32_199 : BitVec 32 := 1#32
  let arg13 : BitVec 32 := Scf.iv c0_i32_197 c1_i32_199 k0_t25
  let v443 : BitVec 32 := Scalar.muli c8_i32_280 arg13
  let v444 : BitVec 32 := Scalar.addi v443 c0_i32_281
  let v445 : Index := Scalar.indexCast v444
  let c0_283 : Index := 0#32
  let c0_284 : Index := 0#32
  ![1, v445.toNat, 0, 0]
def k0_off45 (k0_t25 : Fin k0_t25_loop.trips) : Fin 3 → Nat :=
  let c1_356 : Index := 1#32
  let c0_i32_197 : BitVec 32 := 0#32
  let c1_i32_199 : BitVec 32 := 1#32
  let arg13 : BitVec 32 := Scf.iv c0_i32_197 c1_i32_199 k0_t25
  let v642 : Index := Scalar.indexCast arg13
  let c0_357 : Index := 0#32
  ![1, v642.toNat, 0]
@[reducible] def k0_t26_loop : Scf.Loop 32 :=
  let c0_i32_201 : BitVec 32 := 0#32
  let c8_i32_202 : BitVec 32 := 8#32
  let v306 : BitVec 32 := Scalar.addi c0_i32_201 c8_i32_202
  let c1_i32_203 : BitVec 32 := 1#32
  ⟨c0_i32_201, v306, c1_i32_203⟩
def k0_mult7 (k0_t1 : Fin k0_t1_loop.trips) (k0_t26 : Fin k0_t26_loop.trips) : BitVec 32 :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_201 : BitVec 32 := 0#32
  let c1_i32_203 : BitVec 32 := 1#32
  let arg13 : BitVec 32 := Scf.iv c0_i32_201 c1_i32_203 k0_t26
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off46 (k0_t26 : Fin k0_t26_loop.trips) : Fin 3 → Nat :=
  let c1_283 : Index := 1#32
  let c0_i32_201 : BitVec 32 := 0#32
  let c1_i32_203 : BitVec 32 := 1#32
  let arg13 : BitVec 32 := Scf.iv c0_i32_201 c1_i32_203 k0_t26
  let c9_i32 : BitVec 32 := 9#32
  let v451 : BitVec 32 := Scalar.muli arg13 c9_i32
  let v452 : Index := Scalar.indexCast v451
  let c0_284 : Index := 0#32
  ![1, v452.toNat, 0]
def k0_off47 (k0_t1 : Fin k0_t1_loop.trips) (k0_t26 : Fin k0_t26_loop.trips) : Fin 3 → Nat :=
  let c0_i32 : BitVec 32 := 0#32
  let c1_i32 : BitVec 32 := 1#32
  let arg12 : BitVec 32 := Scf.iv c0_i32 c1_i32 k0_t1
  let c5_i32_45 : BitVec 32 := 5#32
  let v43 : BitVec 32 := Scalar.muli arg12 c5_i32_45
  let c1_i32_46 : BitVec 32 := 1#32
  let v44 : BitVec 32 := Scalar.addi v43 c1_i32_46
  let c8_i32_280 : BitVec 32 := 8#32
  let v443 : BitVec 32 := Scalar.muli v44 c8_i32_280
  let c0_i32_201 : BitVec 32 := 0#32
  let c1_i32_203 : BitVec 32 := 1#32
  let arg13 : BitVec 32 := Scf.iv c0_i32_201 c1_i32_203 k0_t26
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
@[reducible] def k0_t27_loop : Scf.Loop 32 :=
  let c0_i32_218 : BitVec 32 := 0#32
  let c8_i32_219 : BitVec 32 := 8#32
  let v339 : BitVec 32 := Scalar.addi c0_i32_218 c8_i32_219
  let c1_i32_220 : BitVec 32 := 1#32
  ⟨c0_i32_218, v339, c1_i32_220⟩
def k0_off48 (k0_t27 : Fin k0_t27_loop.trips) (c0_i32_281 : BitVec 32) : Fin 4 → Nat :=
  let c2_282 : Index := 2#32
  let c8_i32_280 : BitVec 32 := 8#32
  let c0_i32_218 : BitVec 32 := 0#32
  let c1_i32_220 : BitVec 32 := 1#32
  let arg13 : BitVec 32 := Scf.iv c0_i32_218 c1_i32_220 k0_t27
  let v443 : BitVec 32 := Scalar.muli c8_i32_280 arg13
  let v444 : BitVec 32 := Scalar.addi v443 c0_i32_281
  let v445 : Index := Scalar.indexCast v444
  let c0_283 : Index := 0#32
  let c0_284 : Index := 0#32
  ![2, v445.toNat, 0, 0]
def k0_off49 (k0_t27 : Fin k0_t27_loop.trips) : Fin 3 → Nat :=
  let c2_356 : Index := 2#32
  let c0_i32_218 : BitVec 32 := 0#32
  let c1_i32_220 : BitVec 32 := 1#32
  let arg13 : BitVec 32 := Scf.iv c0_i32_218 c1_i32_220 k0_t27
  let v642 : Index := Scalar.indexCast arg13
  let c0_357 : Index := 0#32
  ![2, v642.toNat, 0]
@[reducible] def k0_t28_loop : Scf.Loop 32 :=
  let c0_i32_222 : BitVec 32 := 0#32
  let c8_i32_223 : BitVec 32 := 8#32
  let v341 : BitVec 32 := Scalar.addi c0_i32_222 c8_i32_223
  let c1_i32_224 : BitVec 32 := 1#32
  ⟨c0_i32_222, v341, c1_i32_224⟩
def k0_mult8 (k0_t1 : Fin k0_t1_loop.trips) (k0_t28 : Fin k0_t28_loop.trips) : BitVec 32 :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_222 : BitVec 32 := 0#32
  let c1_i32_224 : BitVec 32 := 1#32
  let arg13 : BitVec 32 := Scf.iv c0_i32_222 c1_i32_224 k0_t28
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off50 (k0_t28 : Fin k0_t28_loop.trips) : Fin 3 → Nat :=
  let c2_283 : Index := 2#32
  let c0_i32_222 : BitVec 32 := 0#32
  let c1_i32_224 : BitVec 32 := 1#32
  let arg13 : BitVec 32 := Scf.iv c0_i32_222 c1_i32_224 k0_t28
  let c9_i32 : BitVec 32 := 9#32
  let v451 : BitVec 32 := Scalar.muli arg13 c9_i32
  let v452 : Index := Scalar.indexCast v451
  let c0_284 : Index := 0#32
  ![2, v452.toNat, 0]
def k0_off51 (k0_t1 : Fin k0_t1_loop.trips) (k0_t28 : Fin k0_t28_loop.trips) : Fin 3 → Nat :=
  let c0_i32 : BitVec 32 := 0#32
  let c1_i32 : BitVec 32 := 1#32
  let arg12 : BitVec 32 := Scf.iv c0_i32 c1_i32 k0_t1
  let c5_i32_47 : BitVec 32 := 5#32
  let v45 : BitVec 32 := Scalar.muli arg12 c5_i32_47
  let c2_i32 : BitVec 32 := 2#32
  let v46 : BitVec 32 := Scalar.addi v45 c2_i32
  let c8_i32_280 : BitVec 32 := 8#32
  let v443 : BitVec 32 := Scalar.muli v46 c8_i32_280
  let c0_i32_222 : BitVec 32 := 0#32
  let c1_i32_224 : BitVec 32 := 1#32
  let arg13 : BitVec 32 := Scf.iv c0_i32_222 c1_i32_224 k0_t28
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
@[reducible] def k0_t29_loop : Scf.Loop 32 :=
  let c0_i32_239 : BitVec 32 := 0#32
  let c8_i32_240 : BitVec 32 := 8#32
  let v374 : BitVec 32 := Scalar.addi c0_i32_239 c8_i32_240
  let c1_i32_241 : BitVec 32 := 1#32
  ⟨c0_i32_239, v374, c1_i32_241⟩
def k0_off52 (k0_t29 : Fin k0_t29_loop.trips) (c0_i32_281 : BitVec 32) : Fin 4 → Nat :=
  let c3_282 : Index := 3#32
  let c8_i32_280 : BitVec 32 := 8#32
  let c0_i32_239 : BitVec 32 := 0#32
  let c1_i32_241 : BitVec 32 := 1#32
  let arg13 : BitVec 32 := Scf.iv c0_i32_239 c1_i32_241 k0_t29
  let v443 : BitVec 32 := Scalar.muli c8_i32_280 arg13
  let v444 : BitVec 32 := Scalar.addi v443 c0_i32_281
  let v445 : Index := Scalar.indexCast v444
  let c0_283 : Index := 0#32
  let c0_284 : Index := 0#32
  ![3, v445.toNat, 0, 0]
def k0_off53 (k0_t29 : Fin k0_t29_loop.trips) : Fin 3 → Nat :=
  let c3_356 : Index := 3#32
  let c0_i32_239 : BitVec 32 := 0#32
  let c1_i32_241 : BitVec 32 := 1#32
  let arg13 : BitVec 32 := Scf.iv c0_i32_239 c1_i32_241 k0_t29
  let v642 : Index := Scalar.indexCast arg13
  let c0_357 : Index := 0#32
  ![3, v642.toNat, 0]
@[reducible] def k0_t30_loop : Scf.Loop 32 :=
  let c0_i32_243 : BitVec 32 := 0#32
  let c8_i32_244 : BitVec 32 := 8#32
  let v376 : BitVec 32 := Scalar.addi c0_i32_243 c8_i32_244
  let c1_i32_245 : BitVec 32 := 1#32
  ⟨c0_i32_243, v376, c1_i32_245⟩
def k0_mult9 (k0_t1 : Fin k0_t1_loop.trips) (k0_t30 : Fin k0_t30_loop.trips) : BitVec 32 :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_243 : BitVec 32 := 0#32
  let c1_i32_245 : BitVec 32 := 1#32
  let arg13 : BitVec 32 := Scf.iv c0_i32_243 c1_i32_245 k0_t30
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off54 (k0_t30 : Fin k0_t30_loop.trips) : Fin 3 → Nat :=
  let c3_283 : Index := 3#32
  let c0_i32_243 : BitVec 32 := 0#32
  let c1_i32_245 : BitVec 32 := 1#32
  let arg13 : BitVec 32 := Scf.iv c0_i32_243 c1_i32_245 k0_t30
  let c9_i32 : BitVec 32 := 9#32
  let v451 : BitVec 32 := Scalar.muli arg13 c9_i32
  let v452 : Index := Scalar.indexCast v451
  let c0_284 : Index := 0#32
  ![3, v452.toNat, 0]
def k0_off55 (k0_t1 : Fin k0_t1_loop.trips) (k0_t30 : Fin k0_t30_loop.trips) : Fin 3 → Nat :=
  let c0_i32 : BitVec 32 := 0#32
  let c1_i32 : BitVec 32 := 1#32
  let arg12 : BitVec 32 := Scf.iv c0_i32 c1_i32 k0_t1
  let c5_i32_48 : BitVec 32 := 5#32
  let v47 : BitVec 32 := Scalar.muli arg12 c5_i32_48
  let c3_i32 : BitVec 32 := 3#32
  let v48 : BitVec 32 := Scalar.addi v47 c3_i32
  let c8_i32_280 : BitVec 32 := 8#32
  let v443 : BitVec 32 := Scalar.muli v48 c8_i32_280
  let c0_i32_243 : BitVec 32 := 0#32
  let c1_i32_245 : BitVec 32 := 1#32
  let arg13 : BitVec 32 := Scf.iv c0_i32_243 c1_i32_245 k0_t30
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
@[reducible] def k0_t31_loop : Scf.Loop 32 :=
  let c0_i32_260 : BitVec 32 := 0#32
  let c8_i32_261 : BitVec 32 := 8#32
  let v409 : BitVec 32 := Scalar.addi c0_i32_260 c8_i32_261
  let c1_i32_262 : BitVec 32 := 1#32
  ⟨c0_i32_260, v409, c1_i32_262⟩
def k0_off56 (k0_t31 : Fin k0_t31_loop.trips) (c0_i32_281 : BitVec 32) : Fin 4 → Nat :=
  let c4_282 : Index := 4#32
  let c8_i32_280 : BitVec 32 := 8#32
  let c0_i32_260 : BitVec 32 := 0#32
  let c1_i32_262 : BitVec 32 := 1#32
  let arg13 : BitVec 32 := Scf.iv c0_i32_260 c1_i32_262 k0_t31
  let v443 : BitVec 32 := Scalar.muli c8_i32_280 arg13
  let v444 : BitVec 32 := Scalar.addi v443 c0_i32_281
  let v445 : Index := Scalar.indexCast v444
  let c0_283 : Index := 0#32
  let c0_284 : Index := 0#32
  ![4, v445.toNat, 0, 0]
def k0_off57 (k0_t31 : Fin k0_t31_loop.trips) : Fin 3 → Nat :=
  let c4_356 : Index := 4#32
  let c0_i32_260 : BitVec 32 := 0#32
  let c1_i32_262 : BitVec 32 := 1#32
  let arg13 : BitVec 32 := Scf.iv c0_i32_260 c1_i32_262 k0_t31
  let v642 : Index := Scalar.indexCast arg13
  let c0_357 : Index := 0#32
  ![4, v642.toNat, 0]
@[reducible] def k0_t32_loop : Scf.Loop 32 :=
  let c0_i32_264 : BitVec 32 := 0#32
  let c8_i32_265 : BitVec 32 := 8#32
  let v411 : BitVec 32 := Scalar.addi c0_i32_264 c8_i32_265
  let c1_i32_266 : BitVec 32 := 1#32
  ⟨c0_i32_264, v411, c1_i32_266⟩
def k0_mult10 (k0_t1 : Fin k0_t1_loop.trips) (k0_t32 : Fin k0_t32_loop.trips) : BitVec 32 :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_264 : BitVec 32 := 0#32
  let c1_i32_266 : BitVec 32 := 1#32
  let arg13 : BitVec 32 := Scf.iv c0_i32_264 c1_i32_266 k0_t32
  let v444 : BitVec 32 := Scalar.addi v443 arg13
  let c140_i32 : BitVec 32 := 140#32
  let v445 : BitVec 1 := Scalar.cmpi .sge v444 c140_i32
  let v446 : BitVec 32 := Scalar.extui v445
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  v449
def k0_off58 (k0_t32 : Fin k0_t32_loop.trips) : Fin 3 → Nat :=
  let c4_283 : Index := 4#32
  let c0_i32_264 : BitVec 32 := 0#32
  let c1_i32_266 : BitVec 32 := 1#32
  let arg13 : BitVec 32 := Scf.iv c0_i32_264 c1_i32_266 k0_t32
  let c9_i32 : BitVec 32 := 9#32
  let v451 : BitVec 32 := Scalar.muli arg13 c9_i32
  let v452 : Index := Scalar.indexCast v451
  let c0_284 : Index := 0#32
  ![4, v452.toNat, 0]
def k0_off59 (k0_t1 : Fin k0_t1_loop.trips) (k0_t32 : Fin k0_t32_loop.trips) : Fin 3 → Nat :=
  let c0_i32 : BitVec 32 := 0#32
  let c1_i32 : BitVec 32 := 1#32
  let arg12 : BitVec 32 := Scf.iv c0_i32 c1_i32 k0_t1
  let c5_i32_49 : BitVec 32 := 5#32
  let v49 : BitVec 32 := Scalar.muli arg12 c5_i32_49
  let c4_i32 : BitVec 32 := 4#32
  let v50 : BitVec 32 := Scalar.addi v49 c4_i32
  let c8_i32_280 : BitVec 32 := 8#32
  let v443 : BitVec 32 := Scalar.muli v50 c8_i32_280
  let c0_i32_264 : BitVec 32 := 0#32
  let c1_i32_266 : BitVec 32 := 1#32
  let arg13 : BitVec 32 := Scf.iv c0_i32_264 c1_i32_266 k0_t32
  let v444 : BitVec 32 := Scalar.addi v443 arg13
  let c140_i32 : BitVec 32 := 140#32
  let v445 : BitVec 1 := Scalar.cmpi .sge v444 c140_i32
  let v446 : BitVec 32 := Scalar.extui v445
  let v456 : Index := Scalar.indexCast v446
  let c140_i32_281 : BitVec 32 := 140#32
  let v447 : BitVec 32 := Scalar.muli v446 c140_i32_281
  let v448 : BitVec 32 := Scalar.subi v444 v447
  let c32_i32_282 : BitVec 32 := 32#32
  let v449 : BitVec 32 := Scalar.muli v448 c32_i32_282
  let v450 : BitVec 32 := v449
  let v457 : Index := Scalar.indexCast v450
  let c0_285 : Index := 0#32
  ![v456.toNat, v457.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x8960x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4480x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x140x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x140x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x140x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x140x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S12x8960x1536 : Shape := ⟨3, ![12, 8960, 1536]⟩
abbrev S12x140x64x1536 : Shape := ⟨4, ![12, 140, 64, 1536]⟩
abbrev S_ : Shape := ⟨0, ![]⟩
abbrev S12x140x1536 : Shape := ⟨3, ![12, 140, 1536]⟩
abbrev S12x140x1x1536 : Shape := ⟨4, ![12, 140, 1, 1536]⟩
abbrev S12x4480x2x1536 : Shape := ⟨4, ![12, 4480, 2, 1536]⟩
abbrev S12x4480x1x1536 : Shape := ⟨4, ![12, 4480, 1, 1536]⟩
abbrev S12x4480x1536 : Shape := ⟨3, ![12, 4480, 1536]⟩

abbrev nBuf : Space → Nat
  | .hbm => 132
  | .vmem => 0
  | .smem => 0
  | _ => 0

abbrev hbmTy0_0 (i : Nat) : BufTy := match i % 128 with
  | 0 => ⟨S12x8960x1536, .bf16⟩
  | 1 => ⟨S12x8960x1536, .f32⟩
  | 2 => ⟨S12x140x64x1536, .f32⟩
  | 3 => ⟨S_, .f32⟩
  | 4 => ⟨S12x140x1536, .f32⟩
  | 5 => ⟨S12x140x1x1536, .f32⟩
  | 6 => ⟨S_, .f32⟩
  | 7 => ⟨S12x140x1536, .f32⟩
  | 8 => ⟨S12x140x1x1536, .f32⟩
  | 9 => ⟨S12x140x1x1536, .i1⟩
  | 10 => ⟨S12x140x1x1536, .f32⟩
  | 11 => ⟨S_, .f32⟩
  | 12 => ⟨S12x140x1x1536, .f32⟩
  | 13 => ⟨S12x140x1x1536, .f32⟩
  | 14 => ⟨S_, .f32⟩
  | 15 => ⟨S12x140x1x1536, .f32⟩
  | 16 => ⟨S12x140x1x1536, .f32⟩
  | 17 => ⟨S_, .f32⟩
  | 18 => ⟨S12x140x1x1536, .f32⟩
  | 19 => ⟨S12x140x1x1536, .f32⟩
  | 20 => ⟨S12x140x1x1536, .f32⟩
  | 21 => ⟨S_, .i32⟩
  | 22 => ⟨S_, .f32⟩
  | 23 => ⟨S_, .i32⟩
  | 24 => ⟨S12x140x64x1536, .f32⟩
  | 25 => ⟨S12x140x1x1536, .f32⟩
  | 26 => ⟨S_, .i32⟩
  | 27 => ⟨S_, .i32⟩
  | 28 => ⟨S12x140x1x1536, .f32⟩
  | 29 => ⟨S_, .f32⟩
  | 30 => ⟨S_, .i32⟩
  | 31 => ⟨S_, .i1⟩
  | 32 => ⟨S_, .i32⟩
  | 33 => ⟨S_, .i32⟩
  | 34 => ⟨S12x140x64x1536, .f32⟩
  | 35 => ⟨S12x140x64x1536, .f32⟩
  | 36 => ⟨S12x140x64x1536, .f32⟩
  | 37 => ⟨S12x140x64x1536, .f32⟩
  | 38 => ⟨S12x140x64x1536, .f32⟩
  | 39 => ⟨S_, .f32⟩
  | 40 => ⟨S_, .f32⟩
  | 41 => ⟨S_, .f32⟩
  | 42 => ⟨S12x140x64x1536, .f32⟩
  | 43 => ⟨S12x140x64x1536, .f32⟩
  | 44 => ⟨S_, .f32⟩
  | 45 => ⟨S12x140x64x1536, .f32⟩
  | 46 => ⟨S12x140x64x1536, .f32⟩
  | 47 => ⟨S12x140x64x1536, .f32⟩
  | 48 => ⟨S12x140x64x1536, .f32⟩
  | 49 => ⟨S12x140x64x1536, .f32⟩
  | 50 => ⟨S12x140x64x1536, .f32⟩
  | 51 => ⟨S12x140x64x1536, .f32⟩
  | 52 => ⟨S12x140x64x1536, .f32⟩
  | 53 => ⟨S12x140x64x1536, .f32⟩
  | 54 => ⟨S_, .f32⟩
  | 55 => ⟨S_, .f32⟩
  | 56 => ⟨S_, .f32⟩
  | 57 => ⟨S12x140x64x1536, .f32⟩
  | 58 => ⟨S12x140x64x1536, .i1⟩
  | 59 => ⟨S_, .f32⟩
  | 60 => ⟨S12x140x64x1536, .f32⟩
  | 61 => ⟨S12x140x64x1536, .f32⟩
  | 62 => ⟨S_, .f32⟩
  | 63 => ⟨S12x140x64x1536, .f32⟩
  | 64 => ⟨S12x140x64x1536, .f32⟩
  | 65 => ⟨S12x140x64x1536, .f32⟩
  | 66 => ⟨S12x140x64x1536, .f32⟩
  | 67 => ⟨S12x140x64x1536, .f32⟩
  | 68 => ⟨S_, .f32⟩
  | 69 => ⟨S12x140x64x1536, .f32⟩
  | 70 => ⟨S12x140x64x1536, .f32⟩
  | 71 => ⟨S12x140x64x1536, .f32⟩
  | 72 => ⟨S12x140x64x1536, .f32⟩
  | 73 => ⟨S12x140x64x1536, .f32⟩
  | 74 => ⟨S12x140x64x1536, .f32⟩
  | 75 => ⟨S12x140x64x1536, .f32⟩
  | 76 => ⟨S_, .f32⟩
  | 77 => ⟨S12x140x1536, .f32⟩
  | 78 => ⟨S12x140x1x1536, .f32⟩
  | 79 => ⟨S_, .f32⟩
  | 80 => ⟨S12x140x1x1536, .f32⟩
  | 81 => ⟨S12x140x1x1536, .f32⟩
  | 82 => ⟨S_, .f32⟩
  | 83 => ⟨S_, .f32⟩
  | 84 => ⟨S_, .i32⟩
  | 85 => ⟨S_, .i32⟩
  | 86 => ⟨S12x140x64x1536, .f32⟩
  | 87 => ⟨S12x140x64x1536, .f32⟩
  | 88 => ⟨S12x140x64x1536, .f32⟩
  | 89 => ⟨S12x140x64x1536, .f32⟩
  | 90 => ⟨S12x140x64x1536, .f32⟩
  | 91 => ⟨S_, .f32⟩
  | 92 => ⟨S_, .f32⟩
  | 93 => ⟨S_, .f32⟩
  | 94 => ⟨S12x140x64x1536, .f32⟩
  | 95 => ⟨S12x140x64x1536, .f32⟩
  | 96 => ⟨S_, .f32⟩
  | 97 => ⟨S12x140x64x1536, .f32⟩
  | 98 => ⟨S12x140x64x1536, .f32⟩
  | 99 => ⟨S12x140x64x1536, .i32⟩
  | 100 => ⟨S12x140x64x1536, .i32⟩
  | 101 => ⟨S12x140x1x1536, .f32⟩
  | 102 => ⟨S12x140x1x1536, .f32⟩
  | 103 => ⟨S12x140x64x1536, .f32⟩
  | 104 => ⟨S12x140x64x1536, .f32⟩
  | 105 => ⟨S12x140x64x1536, .f32⟩
  | 106 => ⟨S12x140x64x1536, .f32⟩
  | 107 => ⟨S12x140x64x1536, .f32⟩
  | 108 => ⟨S12x140x64x1536, .f32⟩
  | 109 => ⟨S12x140x64x1536, .f32⟩
  | 110 => ⟨S_, .f32⟩
  | 111 => ⟨S12x140x64x1536, .f32⟩
  | 112 => ⟨S12x140x64x1536, .f32⟩
  | 113 => ⟨S_, .f32⟩
  | 114 => ⟨S12x140x1536, .f32⟩
  | 115 => ⟨S_, .f32⟩
  | 116 => ⟨S12x140x1536, .f32⟩
  | 117 => ⟨S12x140x1536, .f32⟩
  | 118 => ⟨S12x140x1x1536, .f32⟩
  | 119 => ⟨S12x140x1536, .f32⟩
  | 120 => ⟨S12x4480x2x1536, .i32⟩
  | 121 => ⟨S12x4480x1x1536, .i32⟩
  | 122 => ⟨S12x4480x1536, .i32⟩
  | 123 => ⟨S12x4480x1x1536, .i32⟩
  | 124 => ⟨S12x4480x1536, .i32⟩
  | 125 => ⟨S_, .i32⟩
  | 126 => ⟨S12x4480x1536, .i32⟩
  | 127 => ⟨S12x4480x1536, .i32⟩
  | _ => ⟨S12x8960x1536, .bf16⟩

abbrev hbmTy0_1 (i : Nat) : BufTy := match i % 128 with
  | 0 => ⟨S12x4480x1536, .i32⟩
  | 1 => ⟨S12x4480x1536, .i8⟩
  | 2 => ⟨S12x140x1536, .f32⟩
  | 3 => ⟨S12x140x1536, .f32⟩
  | _ => ⟨S12x8960x1536, .bf16⟩

abbrev hbmTy (i : Nat) : BufTy := match i / 128 with
  | 0 => hbmTy0_0 i
  | 1 => hbmTy0_1 i
  | _ => ⟨S12x8960x1536, .bf16⟩

abbrev bufTy : (tb : Table) → Fin (tcTables nBuf tb) → BufTy
  | .hbm, ⟨i, _⟩ => hbmTy i
  | _, _ => ⟨S12x8960x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_call0_v0 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_cst_4 : Ref sig .tc := ⟨.hbm, 22, rfl⟩
abbrev main_c_5 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_while0c_c_17 : Ref sig .tc := ⟨.hbm, 30, rfl⟩
abbrev main_while0c_v48 : Ref sig .tc := ⟨.hbm, 31, rfl⟩
abbrev main_while0b_c_17 : Ref sig .tc := ⟨.hbm, 32, rfl⟩
abbrev main_while0b_v48 : Ref sig .tc := ⟨.hbm, 33, rfl⟩
abbrev main_while0b_v49 : Ref sig .tc := ⟨.hbm, 34, rfl⟩
abbrev main_while0b_v50 : Ref sig .tc := ⟨.hbm, 35, rfl⟩
abbrev main_while0b_v51 : Ref sig .tc := ⟨.hbm, 36, rfl⟩
abbrev main_while0b_v52 : Ref sig .tc := ⟨.hbm, 37, rfl⟩
abbrev main_while0b_v53 : Ref sig .tc := ⟨.hbm, 38, rfl⟩
abbrev main_while0b_cst_18 : Ref sig .tc := ⟨.hbm, 39, rfl⟩
abbrev main_while0b_cst_19 : Ref sig .tc := ⟨.hbm, 40, rfl⟩
abbrev main_while0b_call2_v0 : Ref sig .tc := ⟨.hbm, 41, rfl⟩
abbrev main_while0b_call2_v1 : Ref sig .tc := ⟨.hbm, 42, rfl⟩
abbrev main_while0b_call2_v2 : Ref sig .tc := ⟨.hbm, 43, rfl⟩
abbrev main_while0b_call2_v3 : Ref sig .tc := ⟨.hbm, 44, rfl⟩
abbrev main_while0b_call2_v4 : Ref sig .tc := ⟨.hbm, 45, rfl⟩
abbrev main_while0b_v54 : Ref sig .tc := ⟨.hbm, 46, rfl⟩
abbrev main_while0b_v55 : Ref sig .tc := ⟨.hbm, 47, rfl⟩
abbrev main_while0b_v56 : Ref sig .tc := ⟨.hbm, 48, rfl⟩
abbrev main_while0b_v57 : Ref sig .tc := ⟨.hbm, 49, rfl⟩
abbrev main_while0b_v58 : Ref sig .tc := ⟨.hbm, 50, rfl⟩
abbrev main_while0b_v59 : Ref sig .tc := ⟨.hbm, 51, rfl⟩
abbrev main_while0b_v60 : Ref sig .tc := ⟨.hbm, 52, rfl⟩
abbrev main_while0b_v61 : Ref sig .tc := ⟨.hbm, 53, rfl⟩
abbrev main_while0b_cst_20 : Ref sig .tc := ⟨.hbm, 54, rfl⟩
abbrev main_while0b_v62 : Ref sig .tc := ⟨.hbm, 55, rfl⟩
abbrev main_while0b_cst_21 : Ref sig .tc := ⟨.hbm, 56, rfl⟩
abbrev main_while0b_v63 : Ref sig .tc := ⟨.hbm, 57, rfl⟩
abbrev main_while0b_v64 : Ref sig .tc := ⟨.hbm, 58, rfl⟩
abbrev main_while0b_cst_22 : Ref sig .tc := ⟨.hbm, 59, rfl⟩
abbrev main_while0b_call3_v0 : Ref sig .tc := ⟨.hbm, 60, rfl⟩
abbrev main_while0b_v65 : Ref sig .tc := ⟨.hbm, 61, rfl⟩
abbrev main_while0b_cst_23 : Ref sig .tc := ⟨.hbm, 62, rfl⟩
abbrev main_while0b_v66 : Ref sig .tc := ⟨.hbm, 63, rfl⟩
abbrev main_while0b_v67 : Ref sig .tc := ⟨.hbm, 64, rfl⟩
abbrev main_while0b_v68 : Ref sig .tc := ⟨.hbm, 65, rfl⟩
abbrev main_while0b_v69 : Ref sig .tc := ⟨.hbm, 66, rfl⟩
abbrev main_while0b_v70 : Ref sig .tc := ⟨.hbm, 67, rfl⟩
abbrev main_while0b_cst_24 : Ref sig .tc := ⟨.hbm, 68, rfl⟩
abbrev main_while0b_v71 : Ref sig .tc := ⟨.hbm, 69, rfl⟩
abbrev main_while0b_v72 : Ref sig .tc := ⟨.hbm, 70, rfl⟩
abbrev main_while0b_v73 : Ref sig .tc := ⟨.hbm, 71, rfl⟩
abbrev main_while0b_v74 : Ref sig .tc := ⟨.hbm, 72, rfl⟩
abbrev main_while0b_v75 : Ref sig .tc := ⟨.hbm, 73, rfl⟩
abbrev main_while0b_v76 : Ref sig .tc := ⟨.hbm, 74, rfl⟩
abbrev main_while0b_v77 : Ref sig .tc := ⟨.hbm, 75, rfl⟩
abbrev main_while0b_cst_25 : Ref sig .tc := ⟨.hbm, 76, rfl⟩
abbrev main_while0b_v78 : Ref sig .tc := ⟨.hbm, 77, rfl⟩
abbrev main_while0b_v79 : Ref sig .tc := ⟨.hbm, 78, rfl⟩
abbrev main_while0b_cst_26 : Ref sig .tc := ⟨.hbm, 79, rfl⟩
abbrev main_while0b_v80 : Ref sig .tc := ⟨.hbm, 80, rfl⟩
abbrev main_while0b_v81 : Ref sig .tc := ⟨.hbm, 81, rfl⟩
abbrev main_while0b_cst_27 : Ref sig .tc := ⟨.hbm, 82, rfl⟩
abbrev main_while0b_v82 : Ref sig .tc := ⟨.hbm, 83, rfl⟩
abbrev main_while0b_c_28 : Ref sig .tc := ⟨.hbm, 84, rfl⟩
abbrev main_while0b_v83 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_cst_6 : Ref sig .tc := ⟨.hbm, 91, rfl⟩
abbrev main_cst_7 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v20 : Ref sig .tc := ⟨.hbm, 98, rfl⟩
abbrev main_v21 : Ref sig .tc := ⟨.hbm, 99, rfl⟩
abbrev main_v22_0 : Ref sig .tc := ⟨.hbm, 100, rfl⟩
abbrev main_v22_1 : Ref sig .tc := ⟨.hbm, 101, rfl⟩
abbrev main_v22_2 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_cst_8 : Ref sig .tc := ⟨.hbm, 110, rfl⟩
abbrev main_v30 : Ref sig .tc := ⟨.hbm, 111, rfl⟩
abbrev main_v31 : Ref sig .tc := ⟨.hbm, 112, rfl⟩
abbrev main_cst_9 : Ref sig .tc := ⟨.hbm, 113, rfl⟩
abbrev main_v32 : Ref sig .tc := ⟨.hbm, 114, rfl⟩
abbrev main_cst_10 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_c_11 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩

abbrev nD : Nat := 1
abbrev τ : Topo := Topo.v7x

variable {F : FTy → Type} [FloatOps F]

abbrev main_while0_count : Scf.Loop 32 := ⟨0#32, 20#32, 1#32⟩
-- ==== Proof.Triple.lean ====
/- Runs of straight-line and looping programs over a memory that is described by ONE state.
   `Own σ` holds every buffer of the kernel at the contents the state `σ` names; a run relates the state before to
   the value returned and the state after. The rules below go through a sequence, a load, a store and a counted loop. -/
module

public import Idealize.ShloMosaic.Lib.Tactic
public import Idealize.ShloMosaic.Lib.Pipeline.Kit

@[expose] public section

noncomputable section

namespace Cert.Proof.Triple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {Λ : Labels}

/-- Contents `X` overwritten by `w` on the rectangle `r`. -/
def upd {s : Shape} {e : EltTy} (r : Rect s) (w : r.shape.Idx → Val e) (X : s.Idx → Val e) : s.Idx → Val e := fun y =>
  open Classical in if h : ∃ x, r.emb x = y then w h.choose else X y

/-- Inside the rectangle the new contents are what was written. -/
theorem upd_emb {s : Shape} {e : EltTy} (r : Rect s) (w : r.shape.Idx → Val e) (X : s.Idx → Val e) (x : r.shape.Idx) :
    upd r w X (r.emb x) = w x := by
  unfold upd
  rw [dif_pos ⟨x, rfl⟩]
  congr 1
  exact r.emb.injective (Exists.choose_spec (⟨x, rfl⟩ : ∃ x', r.emb x' = r.emb x))

/-- Outside the rectangle the contents stay. -/
theorem upd_of_not {s : Shape} {e : EltTy} (r : Rect s) (w : r.shape.Idx → Val e) (X : s.Idx → Val e) (y : s.Idx)
    (h : ∀ x, r.emb x ≠ y) : upd r w X y = X y := by
  unfold upd
  rw [dif_neg (fun ⟨x, hx⟩ => h x hx)]

variable {St : Type} (defs : Defs nD τ sig Val Λ) (𝒱 : Variants) (c : Dev nD) (Own : St → sProp (MT nD τ sig Unit Val ℕ (UR sig nD τ) ℕ))

/-- From state `σ` the program `p` runs to its return, every buffer held at a state which with the value
    returned satisfies `Q`. -/
def Run {α : Type} (σ : St) (p : Prog (TpuEff nD τ sig Val Λ .tc) α) (Q : α → St → Prop) : Prop :=
  Own σ ⊢ wp Idealize.ShloMosaic.frame (wpE (Ix := Unit) (Name := ℕ) (U := UR sig nD τ) (Lvl := ℕ) defs 𝒱 (c : Thread nD τ) none) Set.univ p (fun r => iprop(∃ σ', ⌜Q r σ'⌝ ∗ Own σ'))

/-- The buffer behind the memref `m` is one component of the state: `get` reads its contents, `set` replaces them. -/
structure Cell {s : Shape} {e : EltTy} (m : Memref sig .tc .vmem s e) (get : St → s.Idx → Val e) (set : St → (s.Idx → Val e) → St) : Prop where
  out : ∀ σ, Own σ ⊢ iprop(owns (c : Thread nD τ) m fullShare (get σ) ∗ (∀ X, owns (c : Thread nD τ) m fullShare X -∗ Own (set σ X)))
  eta : ∀ σ, set σ (get σ) = σ

variable {defs 𝒱 c Own}

/-- A run's conclusion may be weakened. -/
theorem Run.mono {α : Type} {σ : St} {p : Prog (TpuEff nD τ sig Val Λ .tc) α} {Q Q' : α → St → Prop}
    (h : Run defs 𝒱 c Own σ p Q) (hQ : ∀ a σ', Q a σ' → Q' a σ') : Run defs 𝒱 c Own σ p Q' := by
  unfold Run at h ⊢
  refine h.trans (wp_mono _ _ _ fun a => ?_)
  iintro ⟨%σ', %h1, H⟩
  iexists σ'
  isplitr
  · ipureintro; exact hQ _ _ h1
  · iexact H

/-- A program that only returns. -/
theorem Run.ret {α : Type} {σ : St} (a : α) {Q : α → St → Prop} (h : Q a σ) : Run defs 𝒱 c Own σ (pure a) Q := by
  unfold Run
  show _ ⊢ wp _ _ _ (Prog.ret a) _
  rw [wp_ret]
  iintro H
  imodintro
  iexists σ
  isplitr
  · ipureintro; exact h
  · iexact H

/-- One program after another. -/
theorem Run.bind {α β : Type} {σ : St} {p : Prog (TpuEff nD τ sig Val Λ .tc) α} {k : α → Prog (TpuEff nD τ sig Val Λ .tc) β}
    {Q : α → St → Prop} {Q' : β → St → Prop} (h : Run defs 𝒱 c Own σ p Q)
    (hk : ∀ a σ', Q a σ' → Run defs 𝒱 c Own σ' (k a) Q') : Run defs 𝒱 c Own σ (p >>= k) Q' := by
  unfold Run at h hk ⊢
  rw [wp_bind]
  refine h.trans (wp_mono _ _ _ fun a => ?_)
  iintro ⟨%σ', %h1, H⟩
  iapply (hk a σ' h1)
  iexact H

/-- A load returns what the state says the buffer holds there. -/
theorem Run.load {s : Shape} {e : EltTy} {m : Memref sig .tc .vmem s e} {get : St → s.Idx → Val e} {set : St → (s.Idx → Val e) → St}
    (hc : Cell c Own m get set) {σ : St} (r : LoadRect s) (hl : m.view.LoadsAt r) {Q : (r.shape.Idx → Val e) → St → Prop}
    (h : Q (fun x => get σ (r.idx x)) σ) : Run defs 𝒱 c Own σ (Prog.lift (.load m r hl)) Q := by
  unfold Run Prog.lift
  refine (hc.out σ).trans ?_
  unfold owns
  iintro ⟨⟨%f, %hf, H⟩, HK⟩
  iapply (wp_load 𝒱 (c : Thread nD τ) none Set.univ (m.view.setOn_subset_set r.set)) $$ H
  iintro H
  rw [wp_ret]
  imodintro
  iexists σ
  isplitr
  · ipureintro
    have : m.view.readAt Val r f = fun x => get σ (r.idx x) := by
      funext x; rw [View.readAt_apply, hf]
    rw [this]; exact h
  · have h2 := hc.eta σ
    iapply (show iprop(Own (set σ (get σ))) ⊢ Own σ from by rw [h2])
    iapply HK
    iexists f
    isplitr
    · ipureintro; exact hf
    · iexact H

/-- A store replaces the contents on the rectangle. -/
theorem Run.store {s : Shape} {e : EltTy} {m : Memref sig .tc .vmem s e} {get : St → s.Idx → Val e} {set : St → (s.Idx → Val e) → St}
    (hc : Cell c Own m get set) {σ : St} (r : Rect s) (w : r.shape.Idx → Val e) (hx : (m.access r).Stores Finset.univ)
    (hm : (Finset.univ : Finset r.shape.Idx) = Finset.univ ∨ ∀ a, r.stride a = 1) {Q : PUnit → St → Prop}
    (h : Q ⟨⟩ (set σ (upd r w (get σ)))) : Run defs 𝒱 c Own σ (Prog.lift (.store m r w Finset.univ hx hm)) Q := by
  unfold Run Prog.lift
  refine (hc.out σ).trans ?_
  unfold owns
  iintro ⟨⟨%f, %hf, H⟩, HK⟩
  have hS : (m.access r).setOn Finset.univ ⊆ m.view.set := by
    rw [View.setOn_univ]; exact m.view.set_slice_subset r
  have hw := wp_store (defs := defs) (Q := fun r => iprop(∃ σ', ⌜Q r σ'⌝ ∗ Own σ')) 𝒱 (c : Thread nD τ) none Set.univ
    (m := m) (r := r) (w := w) (Mk := Finset.univ) (hx := hx) (hm := hm) (Γ := .empty) (k := Prog.ret) (S := m.view.set) (f := f) hS
  change (m.view.loc (c : Thread nD τ) ↦[m.view.set]{fullShare} f) ⊢ _ at hw
  iapply hw $$ H
  iintro H
  rw [wp_ret]
  imodintro
  iexists _
  isplitr
  · ipureintro; exact h
  · iapply HK
    iexists _
    isplitr
    swap
    · iexact H
    · ipureintro
      funext y
      by_cases hy : ∃ x, r.emb x = y
      · obtain ⟨x, rfl⟩ := hy
        rw [upd_emb]
        exact congrFun (View.read_write_univ (v := m.access r) f w) x
      · rw [upd_of_not _ _ _ _ (fun x hx => hy ⟨x, hx⟩), ← hf]
        show _root_.cast _ _ = _root_.cast _ _
        rw [View.write_of_not_mem]
        rw [View.setOn_univ]
        intro hmem
        rw [show (m.access r).set = r.set.map m.view.emb from m.view.set_slice r, Finset.mem_map' ] at hmem
        obtain ⟨x, hx⟩ := r.exists_idx_of_mem hmem
        exact hy ⟨x, hx⟩

/-- A counted loop by an invariant over the trip, the values carried and the state. -/
theorem Run.loop {w : Nat} {β : Type} {σ : St} (lb ub st : BitVec w) (hok : Scf.OK lb ub st) (init : β)
    (body : Fin (Scf.trips lb ub st) → β → Prog (TpuEff nD τ sig Val Λ .tc) β) (I : ℕ → β → St → Prop) {Q : β → St → Prop}
    (h0 : I 0 init σ) (hs : ∀ (k : Fin (Scf.trips lb ub st)) (acc : β) (σ' : St), I k acc σ' → Run defs 𝒱 c Own σ' (body k acc) (I (k.val + 1)))
    (hq : ∀ acc σ', I (Scf.trips lb ub st) acc σ' → Q acc σ') : Run defs 𝒱 c Own σ (Scf.for lb ub st hok init body) Q := by
  unfold Run at hs ⊢
  refine BIBase.Entails.trans ?_ (Scf.wp_for _ _ _ lb ub st hok init body (fun k acc => iprop(∃ σ', ⌜I k acc σ'⌝ ∗ Own σ')) ?_)
  · iintro H
    isplitl [H]
    · iexists σ
      isplitr
      · ipureintro; exact h0
      · iexact H
    · iintro %acc ⟨%σ', %h1, H⟩
      iexists σ'
      isplitr
      · ipureintro; exact hq _ _ h1
      · iexact H
  · intro k acc
    iintro ⟨%σ', %h1, H⟩
    iapply (hs k acc σ' h1)
    iexact H

end Cert.Proof.Triple

end
-- ==== Proof.KernelState.lean ====
/- The ten buffers that the body works on, described by one state. -/
module

public import proofs.«01_k».proof.Proof.Triple
public import proofs.«01_k».proof.Proof.Gen.Kernel.Skeleton

@[expose] public section

noncomputable section

namespace Cert.Proof.KernelState

open Cert.Kernel Cert.Kernel.Gen Cert.Proof.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- What the ten buffers hold: the weights' block, the packed codes' block, the four statistics' blocks, and the four
    scratch buffers (row pairs, normalised rows, code words, statistics by group). -/
structure St (F : FTy → Type) where
  /-- the weights -/
  w : S2x8960x128.Idx → Elt F .bf16
  /-- the codes -/
  codes : S2x4480x128.Idx → Elt F .i8
  /-- the scales -/
  s : S2x140x128.Idx → Elt F .f32
  /-- the zeros -/
  z : S2x140x128.Idx → Elt F .f32
  /-- the error -/
  lp : S2x140x128.Idx → Elt F .f32
  /-- the shift -/
  shift : S2x140x128.Idx → Elt F .f32
  /-- the row-pair scratch -/
  pair : S5x288x128.Idx → Elt F .i32
  /-- the normalised-row scratch -/
  x : S5x64x8x128.Idx → Elt F .f32
  /-- the code-word scratch -/
  word : S5x72x128.Idx → Elt F .i32
  /-- the statistics scratch -/
  stat : S4x280x128.Idx → Elt F .f32

/-- The ten buffers held whole at the state's contents. -/
def Held (c : Dev nD) (arg2 : Memref sig .tc .vmem S2x8960x128 .bf16) (arg3 : Memref sig .tc .vmem S2x4480x128 .i8) (arg4 : Memref sig .tc .vmem S2x140x128 .f32) (arg5 : Memref sig .tc .vmem S2x140x128 .f32) (arg6 : Memref sig .tc .vmem S2x140x128 .f32) (arg7 : Memref sig .tc .vmem S2x140x128 .f32) (arg8 : Memref sig .tc .vmem S5x288x128 .i32) (arg9 : Memref sig .tc .vmem S5x64x8x128 .f32) (arg10 : Memref sig .tc .vmem S5x72x128 .i32) (arg11 : Memref sig .tc .vmem S4x280x128 .f32) (σ : St F) :
    sProp (MT nD τ sig Unit (Elt F) ℕ (UR sig nD τ) ℕ) :=
  iprop(owns (c : Thread nD τ) arg2 fullShare σ.w ∗ owns (c : Thread nD τ) arg3 fullShare σ.codes ∗ owns (c : Thread nD τ) arg4 fullShare σ.s ∗ owns (c : Thread nD τ) arg5 fullShare σ.z ∗ owns (c : Thread nD τ) arg6 fullShare σ.lp ∗ owns (c : Thread nD τ) arg7 fullShare σ.shift ∗ owns (c : Thread nD τ) arg8 fullShare σ.pair ∗ owns (c : Thread nD τ) arg9 fullShare σ.x ∗ owns (c : Thread nD τ) arg10 fullShare σ.word ∗ owns (c : Thread nD τ) arg11 fullShare σ.stat)

variable {c : Dev nD} {arg2 : Memref sig .tc .vmem S2x8960x128 .bf16} {arg3 : Memref sig .tc .vmem S2x4480x128 .i8} {arg4 : Memref sig .tc .vmem S2x140x128 .f32} {arg5 : Memref sig .tc .vmem S2x140x128 .f32} {arg6 : Memref sig .tc .vmem S2x140x128 .f32} {arg7 : Memref sig .tc .vmem S2x140x128 .f32} {arg8 : Memref sig .tc .vmem S5x288x128 .i32} {arg9 : Memref sig .tc .vmem S5x64x8x128 .f32} {arg10 : Memref sig .tc .vmem S5x72x128 .i32} {arg11 : Memref sig .tc .vmem S4x280x128 .f32}

/-- The weights buffer is one component of the state. -/
theorem cell2 : Cell c (Held (F := F) c arg2 arg3 arg4 arg5 arg6 arg7 arg8 arg9 arg10 arg11) arg2 (·.w) (fun σ X => { σ with w := X }) where
  out σ := by
    unfold Held
    iintro ⟨H2, H3, H4, H5, H6, H7, H8, H9, H10, H11⟩
    isplitl [H2]
    · iexact H2
    · iintro %X HX
      isplitl [HX]; · iexact HX
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  eta _ := rfl

/-- The codes buffer is one component of the state. -/
theorem cell3 : Cell c (Held (F := F) c arg2 arg3 arg4 arg5 arg6 arg7 arg8 arg9 arg10 arg11) arg3 (·.codes) (fun σ X => { σ with codes := X }) where
  out σ := by
    unfold Held
    iintro ⟨H2, H3, H4, H5, H6, H7, H8, H9, H10, H11⟩
    isplitl [H3]
    · iexact H3
    · iintro %X HX
      isplitl [H2]; · iexact H2
      isplitl [HX]; · iexact HX
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  eta _ := rfl

/-- The scales buffer is one component of the state. -/
theorem cell4 : Cell c (Held (F := F) c arg2 arg3 arg4 arg5 arg6 arg7 arg8 arg9 arg10 arg11) arg4 (·.s) (fun σ X => { σ with s := X }) where
  out σ := by
    unfold Held
    iintro ⟨H2, H3, H4, H5, H6, H7, H8, H9, H10, H11⟩
    isplitl [H4]
    · iexact H4
    · iintro %X HX
      isplitl [H2]; · iexact H2
      isplitl [H3]; · iexact H3
      isplitl [HX]; · iexact HX
      isplitl [H5]; · iexact H5
      isplitl [H6]; · iexact H6
      isplitl [H7]; · iexact H7
      isplitl [H8]; · iexact H8
      isplitl [H9]; · iexact H9
      isplitl [H10]; · iexact H10
      iexact H11
  eta _ := rfl

/-- The zeros buffer is one component of the state. -/
theorem cell5 : Cell c (Held (F := F) c arg2 arg3 arg4 arg5 arg6 arg7 arg8 arg9 arg10 arg11) arg5 (·.z) (fun σ X => { σ with z := X }) where
  out σ := by
    unfold Held
    iintro ⟨H2, H3, H4, H5, H6, H7, H8, H9, H10, H11⟩
    isplitl [H5]
    · iexact H5
    · iintro %X HX
      isplitl [H2]; · iexact H2
      isplitl [H3]; · iexact H3
      isplitl [H4]; · iexact H4
      isplitl [HX]; · iexact HX
      isplitl [H6]; · iexact H6
      isplitl [H7]; · iexact H7
      isplitl [H8]; · iexact H8
      isplitl [H9]; · iexact H9
      isplitl [H10]; · iexact H10
      iexact H11
  eta _ := rfl

/-- The error buffer is one component of the state. -/
theorem cell6 : Cell c (Held (F := F) c arg2 arg3 arg4 arg5 arg6 arg7 arg8 arg9 arg10 arg11) arg6 (·.lp) (fun σ X => { σ with lp := X }) where
  out σ := by
    unfold Held
    iintro ⟨H2, H3, H4, H5, H6, H7, H8, H9, H10, H11⟩
    isplitl [H6]
    · iexact H6
    · iintro %X HX
      isplitl [H2]; · iexact H2
      isplitl [H3]; · iexact H3
      isplitl [H4]; · iexact H4
      isplitl [H5]; · iexact H5
      isplitl [HX]; · iexact HX
      isplitl [H7]; · iexact H7
      isplitl [H8]; · iexact H8
      isplitl [H9]; · iexact H9
      isplitl [H10]; · iexact H10
      iexact H11
  eta _ := rfl

/-- The shift buffer is one component of the state. -/
theorem cell7 : Cell c (Held (F := F) c arg2 arg3 arg4 arg5 arg6 arg7 arg8 arg9 arg10 arg11) arg7 (·.shift) (fun σ X => { σ with shift := X }) where
  out σ := by
    unfold Held
    iintro ⟨H2, H3, H4, H5, H6, H7, H8, H9, H10, H11⟩
    isplitl [H7]
    · iexact H7
    · iintro %X HX
      isplitl [H2]; · iexact H2
      isplitl [H3]; · iexact H3
      isplitl [H4]; · iexact H4
      isplitl [H5]; · iexact H5
      isplitl [H6]; · iexact H6
      isplitl [HX]; · iexact HX
      isplitl [H8]; · iexact H8
      isplitl [H9]; · iexact H9
      isplitl [H10]; · iexact H10
      iexact H11
  eta _ := rfl

/-- The row-pair scratch buffer is one component of the state. -/
theorem cell8 : Cell c (Held (F := F) c arg2 arg3 arg4 arg5 arg6 arg7 arg8 arg9 arg10 arg11) arg8 (·.pair) (fun σ X => { σ with pair := X }) where
  out σ := by
    unfold Held
    iintro ⟨H2, H3, H4, H5, H6, H7, H8, H9, H10, H11⟩
    isplitl [H8]
    · iexact H8
    · iintro %X HX
      isplitl [H2]; · iexact H2
      isplitl [H3]; · iexact H3
      isplitl [H4]; · iexact H4
      isplitl [H5]; · iexact H5
      isplitl [H6]; · iexact H6
      isplitl [H7]; · iexact H7
      isplitl [HX]; · iexact HX
      isplitl [H9]; · iexact H9
      isplitl [H10]; · iexact H10
      iexact H11
  eta _ := rfl

/-- The normalised-row scratch buffer is one component of the state. -/
theorem cell9 : Cell c (Held (F := F) c arg2 arg3 arg4 arg5 arg6 arg7 arg8 arg9 arg10 arg11) arg9 (·.x) (fun σ X => { σ with x := X }) where
  out σ := by
    unfold Held
    iintro ⟨H2, H3, H4, H5, H6, H7, H8, H9, H10, H11⟩
    isplitl [H9]
    · iexact H9
    · iintro %X HX
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      isplitl [H10]; · iexact H10
      iexact H11
  eta _ := rfl

/-- The code-word scratch buffer is one component of the state. -/
theorem cell10 : Cell c (Held (F := F) c arg2 arg3 arg4 arg5 arg6 arg7 arg8 arg9 arg10 arg11) arg10 (·.word) (fun σ X => { σ with word := X }) where
  out σ := by
    unfold Held
    iintro ⟨H2, H3, H4, H5, H6, H7, H8, H9, H10, H11⟩
    isplitl [H10]
    · iexact H10
    · iintro %X HX
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HX]; · iexact HX
      iexact H11
  eta _ := rfl

/-- The statistics scratch buffer is one component of the state. -/
theorem cell11 : Cell c (Held (F := F) c arg2 arg3 arg4 arg5 arg6 arg7 arg8 arg9 arg10 arg11) arg11 (·.stat) (fun σ X => { σ with stat := X }) where
  out σ := by
    unfold Held
    iintro ⟨H2, H3, H4, H5, H6, H7, H8, H9, H10, H11⟩
    isplitl [H11]
    · iexact H11
    · iintro %X HX
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HX
  eta _ := rfl

end Cert.Proof.KernelState

end
-- ==== Proof.KernelSafe.lean ====
/- The kernel's body at one grid point is SAFE: whatever its ten buffers hold, it runs to its return, never leaving
   the bounds of a buffer, and hands all ten back at some contents. -/
module

public import proofs.«01_k».proof.Proof.KernelState
public import proofs.«01_k».proof.Proof.Gen.Kernel.Skeleton

@[expose] public section

noncomputable section

namespace Cert.Proof.KernelSafe

open Cert.Kernel Cert.Kernel.Gen Cert.Proof.Triple Cert.Proof.KernelState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

set_option maxHeartbeats 0 in
set_option maxRecDepth 65536 in
/-- The body runs to its return from any contents. -/
theorem safe (defs : Defs nD τ sig (Elt F) Λ₀) (𝒱 : Variants) (c : Dev nD) (i : grid0.Coords) (arg2 : Memref sig .tc .vmem S2x8960x128 .bf16) (harg2 : arg2.IsWhole) (arg3 : Memref sig .tc .vmem S2x4480x128 .i8) (harg3 : arg3.IsWhole) (arg4 : Memref sig .tc .vmem S2x140x128 .f32) (harg4 : arg4.IsWhole) (arg5 : Memref sig .tc .vmem S2x140x128 .f32) (harg5 : arg5.IsWhole) (arg6 : Memref sig .tc .vmem S2x140x128 .f32) (harg6 : arg6.IsWhole) (arg7 : Memref sig .tc .vmem S2x140x128 .f32) (harg7 : arg7.IsWhole) (arg8 : Memref sig .tc .vmem S5x288x128 .i32) (harg8 : arg8.IsWhole) (arg9 : Memref sig .tc .vmem S5x64x8x128 .f32) (harg9 : arg9.IsWhole) (arg10 : Memref sig .tc .vmem S5x72x128 .i32) (harg10 : arg10.IsWhole) (arg11 : Memref sig .tc .vmem S4x280x128 .f32) (harg11 : arg11.IsWhole) (σ : St F) :
    Run defs 𝒱 c (Held (F := F) c arg2 arg3 arg4 arg5 arg6 arg7 arg8 arg9 arg10 arg11) σ (cc0_hqq_fit i arg2 harg2 arg3 harg3 arg4 harg4 arg5 harg5 arg6 harg6 arg7 harg7 arg8 harg8 arg9 harg9 arg10 harg10 arg11 harg11) (fun _ _ => True) := by
  rw [cc0_hqq_fit_eq_skeleton]
  unfold cc0_hqq_fit_skel
  repeat' with_reducible first
    | exact Run.ret _ trivial
    | refine Run.bind (Q := fun _ _ => True) ?_ (fun _ _ _ => ?_)
    | refine Run.loop _ _ _ _ _ _ (fun _ _ _ => True) trivial (fun k acc σ' _ => ?_) (fun _ _ _ => trivial)
    | exact Run.load cell2 _ _ trivial
    | exact Run.store cell2 _ _ _ _ trivial
    | exact Run.load cell3 _ _ trivial
    | exact Run.store cell3 _ _ _ _ trivial
    | exact Run.load cell4 _ _ trivial
    | exact Run.store cell4 _ _ _ _ trivial
    | exact Run.load cell5 _ _ trivial
    | exact Run.store cell5 _ _ _ _ trivial
    | exact Run.load cell6 _ _ trivial
    | exact Run.store cell6 _ _ _ _ trivial
    | exact Run.load cell7 _ _ trivial
    | exact Run.store cell7 _ _ _ _ trivial
    | exact Run.load cell8 _ _ trivial
    | exact Run.store cell8 _ _ _ _ trivial
    | exact Run.load cell9 _ _ trivial
    | exact Run.store cell9 _ _ _ _ trivial
    | exact Run.load cell10 _ _ trivial
    | exact Run.store cell10 _ _ _ _ trivial
    | exact Run.load cell11 _ _ trivial
    | exact Run.store cell11 _ _ _ _ trivial
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | unfold k0_t1_body
    | unfold k0_t2_body
    | unfold k0_t3_body
    | unfold k0_t4_body
    | unfold k0_t5_body
    | unfold k0_t6_body
    | unfold k0_t7_body
    | unfold k0_t8_body
    | unfold k0_t9_body
    | unfold k0_t10_body
    | unfold k0_t11_body
    | unfold k0_t12_body
    | unfold k0_t13_body
    | unfold k0_t14_body
    | unfold k0_t15_body
    | unfold k0_t16_body
    | unfold k0_t17_body
    | unfold k0_t18_body
    | unfold k0_t19_body
    | unfold k0_t20_body
    | unfold k0_t21_body
    | unfold k0_t22_body
    | unfold k0_t23_body
    | unfold k0_t24_body
    | unfold k0_t25_body
    | unfold k0_t26_body
    | unfold k0_t27_body
    | unfold k0_t28_body
    | unfold k0_t29_body
    | unfold k0_t30_body
    | unfold k0_t31_body
    | unfold k0_t32_body

end Cert.Proof.KernelSafe

end
-- ==== Proof.KernelFrameRun.lean ====
/- The kernel's frame: from any memory with its counters at zero, every run of the whole grid ends, the input array
   is what it was, and every semaphore counter is at zero again. Nothing is said here of what the outputs hold. -/
module

public import proofs.«01_k».proof.Proof.KernelSafe
public import proofs.«01_k».proof.Proof.Gen.Kernel.Frame

@[expose] public section

noncomputable section

namespace Cert.Proof.KernelFrameRun

open Cert.Kernel Cert.Kernel.Gen Cert.Proof.Triple Cert.Proof.KernelState Cert.Proof.KernelSafe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data on core `c`: the arrays as launched, nothing said of what the body leaves in a staging buffer, the
    scratch at anything between two points. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's triple at a point: six staging buffers and four scratch buffers in at anything and out at something. -/
theorem body_run (c : Dev nD) (t : Fin cfg0.N) (𝒱 : Variants) (σ : St F) :
    Held (F := F) c (st0_0 t) (st0_1 t) (st0_2 t) (st0_3 t) (st0_4 t) (st0_5 t)
        (Memref.whole cc0_scratch0) (Memref.whole cc0_scratch1) (Memref.whole cc0_scratch2) (Memref.whole cc0_scratch3) σ
      ⊢ wp frame (wpE (defs₀ (F := F)) 𝒱 (c : Thread nD τ) none) Set.univ (bodyAt0 t)
          (fun _ => iprop(∃ σ', ⌜True⌝ ∗ Held (F := F) c (st0_0 t) (st0_1 t) (st0_2 t) (st0_3 t) (st0_4 t) (st0_5 t)
            (Memref.whole cc0_scratch0) (Memref.whole cc0_scratch1) (Memref.whole cc0_scratch2) (Memref.whole cc0_scratch3) σ')) :=
  safe _ _ _ _ _ _ _ _ _ _ _ _ _ _ _ _ _ _ _ _ _ _ _ _ _

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body's obligation at each point, with the invariant opened and closed again. -/
theorem sound_body (c : Dev nD) (t : Fin cfg0.N)
    (Y : (w : Fin cfg0.W) → (cfg0.win w).block.Idx → Elt F (cfg0.win w).elt) :
    iprop(Pipeline.ΦA spec0 c ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) Variants.none (c : Thread nD τ) none) Set.univ (bodyAt0 t) (fun _ =>
        (iprop(Pipeline.ΦA spec0 c ∗ (rdat m c).owesAt () t.castSucc
          ∗ (∃ X, ⌜True⌝ ∗ owns (c : Thread nD τ) (st0_0 t) fullShare X) ∗ (∃ X, ⌜True⌝ ∗ owns (c : Thread nD τ) (st0_1 t) fullShare X)
          ∗ (∃ X, ⌜True⌝ ∗ owns (c : Thread nD τ) (st0_2 t) fullShare X) ∗ (∃ X, ⌜True⌝ ∗ owns (c : Thread nD τ) (st0_3 t) fullShare X)
          ∗ (∃ X, ⌜True⌝ ∗ owns (c : Thread nD τ) (st0_4 t) fullShare X) ∗ (∃ X, ⌜True⌝ ∗ owns (c : Thread nD τ) (st0_5 t) fullShare X)) : sProp 𝕄)) := by
  unfold Pipeline.ΦA
  rw [scopedRest0_eq]
  iintro ⟨⟨⟨⟨%d0, S0⟩, ⟨%d1, S1⟩, ⟨%d2, S2⟩, ⟨%d3, S3⟩⟩, Hg⟩, HO, H0, H1, H2, H3, H4, H5⟩
  iapply wp_wand_r
  isplitl [H0 H1 H2 H3 H4 H5 S0 S1 S2 S3]
  · iapply (body_run c t Variants.none ⟨Y 0, Y 1, Y 2, Y 3, Y 4, Y 5, d0, d1, d2, d3⟩)
    unfold Held
    simp only [owns_whole]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iexact S3
  iintro %_ ⟨%σ', -, Hσ⟩
  unfold Held
  simp only [owns_whole]
  icases Hσ with ⟨H0, H1, H2, H3, H4, H5, S0, S1, S2, S3⟩
  isplitl [S0 S1 S2 S3 Hg]
  · isplitl [S0 S1 S2 S3]
    · isplitl [S0]; · iexists _; iexact S0
      isplitl [S1]; · iexists _; iexact S1
      isplitl [S2]; · iexists _; iexact S2
      iexists _; iexact S3
    · iexact Hg
  isplitl [HO]; · iexact HO
  isplitl [H0]
  · iexists σ'.w; isplitr; swap; · iexact H0
    ipureintro; trivial
  isplitl [H1]
  · iexists σ'.codes; isplitr; swap; · iexact H1
    ipureintro; trivial
  isplitl [H2]
  · iexists σ'.s; isplitr; swap; · iexact H2
    ipureintro; trivial
  isplitl [H3]
  · iexists σ'.z; isplitr; swap; · iexact H3
    ipureintro; trivial
  isplitl [H4]
  · iexists σ'.lp; isplitr; swap; · iexact H4
    ipureintro; trivial
  iexists σ'.shift; isplitr; swap; · iexact H5
  ipureintro; trivial

/-- The obligation as the pipeline's rule asks for it. -/
theorem body_obligation (c : Dev nD) :
    (rdat m c).BodyObligation (defs₀ (F := F)) Variants.none () Set.univ := fun t Y _ => by
  rw [bigSep_W0, bigSep_W0, defs₀_row]
  exact triple_restated (sound_body m c t Y) rfl .rfl fun _ => .rfl

/-- The run of the whole grid: the input array unchanged, every counter at zero. -/
theorem run_main :
    θ_run defs (onTc (τ := τ) (main (F := F))) (s₀ m ρ)
      (fun r => (∀ c : Dev nD, r.2.mem ((c.tc : Thread nD τ).loc main_arg0) = m ((c.tc : Thread nD τ).loc main_arg0))
        ∧ r.2.sem = fun _ => 0) :=
  Pipeline.RDat.θ_run_frame cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)
    (Q' := _) (hQ' := fun r h => ⟨fun c => Pipeline.RDat.FramePost.arr_in h.1 c 0 rfl, h.2⟩)

end Cert.Proof.KernelFrameRun

end
-- ==== Proof.KernelIdealState.lean ====
/- The ten buffers that the body works on, described by one state. -/
module

public import proofs.«01_k».proof.Proof.Triple
public import proofs.«01_k».proof.Proof.Gen.KernelIdeal.Skeleton

@[expose] public section

noncomputable section

namespace Cert.Proof.KernelIdealState

open Cert.KernelIdeal Cert.KernelIdeal.Gen Cert.Proof.Triple
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- What the ten buffers hold: the weights' block, the packed codes' block, the four statistics' blocks, and the four
    scratch buffers (row pairs, normalised rows, code words, statistics by group). -/
structure St (F : FTy → Type) where
  /-- the weights -/
  w : S2x8960x128.Idx → Elt F .bf16
  /-- the codes -/
  codes : S2x4480x128.Idx → Elt F .i8
  /-- the scales -/
  s : S2x140x128.Idx → Elt F .f32
  /-- the zeros -/
  z : S2x140x128.Idx → Elt F .f32
  /-- the error -/
  lp : S2x140x128.Idx → Elt F .f32
  /-- the shift -/
  shift : S2x140x128.Idx → Elt F .f32
  /-- the row-pair scratch -/
  pair : S5x288x2x128.Idx → Elt F .bf16
  /-- the normalised-row scratch -/
  x : S5x64x8x128.Idx → Elt F .f32
  /-- the code-word scratch -/
  word : S5x72x128.Idx → Elt F .i32
  /-- the statistics scratch -/
  stat : S4x280x128.Idx → Elt F .f32

/-- The ten buffers held whole at the state's contents. -/
def Held (c : Dev nD) (arg2 : Memref sig .tc .vmem S2x8960x128 .bf16) (arg3 : Memref sig .tc .vmem S2x4480x128 .i8) (arg4 : Memref sig .tc .vmem S2x140x128 .f32) (arg5 : Memref sig .tc .vmem S2x140x128 .f32) (arg6 : Memref sig .tc .vmem S2x140x128 .f32) (arg7 : Memref sig .tc .vmem S2x140x128 .f32) (arg8 : Memref sig .tc .vmem S5x288x2x128 .bf16) (arg9 : Memref sig .tc .vmem S5x64x8x128 .f32) (arg10 : Memref sig .tc .vmem S5x72x128 .i32) (arg11 : Memref sig .tc .vmem S4x280x128 .f32) (σ : St F) :
    sProp (MT nD τ sig Unit (Elt F) ℕ (UR sig nD τ) ℕ) :=
  iprop(owns (c : Thread nD τ) arg2 fullShare σ.w ∗ owns (c : Thread nD τ) arg3 fullShare σ.codes ∗ owns (c : Thread nD τ) arg4 fullShare σ.s ∗ owns (c : Thread nD τ) arg5 fullShare σ.z ∗ owns (c : Thread nD τ) arg6 fullShare σ.lp ∗ owns (c : Thread nD τ) arg7 fullShare σ.shift ∗ owns (c : Thread nD τ) arg8 fullShare σ.pair ∗ owns (c : Thread nD τ) arg9 fullShare σ.x ∗ owns (c : Thread nD τ) arg10 fullShare σ.word ∗ owns (c : Thread nD τ) arg11 fullShare σ.stat)

variable {c : Dev nD} {arg2 : Memref sig .tc .vmem S2x8960x128 .bf16} {arg3 : Memref sig .tc .vmem S2x4480x128 .i8} {arg4 : Memref sig .tc .vmem S2x140x128 .f32} {arg5 : Memref sig .tc .vmem S2x140x128 .f32} {arg6 : Memref sig .tc .vmem S2x140x128 .f32} {arg7 : Memref sig .tc .vmem S2x140x128 .f32} {arg8 : Memref sig .tc .vmem S5x288x2x128 .bf16} {arg9 : Memref sig .tc .vmem S5x64x8x128 .f32} {arg10 : Memref sig .tc .vmem S5x72x128 .i32} {arg11 : Memref sig .tc .vmem S4x280x128 .f32}

/-- The weights buffer is one component of the state. -/
theorem cell2 : Cell c (Held (F := F) c arg2 arg3 arg4 arg5 arg6 arg7 arg8 arg9 arg10 arg11) arg2 (·.w) (fun σ X => { σ with w := X }) where
  out σ := by
    unfold Held
    iintro ⟨H2, H3, H4, H5, H6, H7, H8, H9, H10, H11⟩
    isplitl [H2]
    · iexact H2
    · iintro %X HX
      isplitl [HX]; · iexact HX
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  eta _ := rfl

/-- The codes buffer is one component of the state. -/
theorem cell3 : Cell c (Held (F := F) c arg2 arg3 arg4 arg5 arg6 arg7 arg8 arg9 arg10 arg11) arg3 (·.codes) (fun σ X => { σ with codes := X }) where
  out σ := by
    unfold Held
    iintro ⟨H2, H3, H4, H5, H6, H7, H8, H9, H10, H11⟩
    isplitl [H3]
    · iexact H3
    · iintro %X HX
      isplitl [H2]; · iexact H2
      isplitl [HX]; · iexact HX
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  eta _ := rfl

/-- The scales buffer is one component of the state. -/
theorem cell4 : Cell c (Held (F := F) c arg2 arg3 arg4 arg5 arg6 arg7 arg8 arg9 arg10 arg11) arg4 (·.s) (fun σ X => { σ with s := X }) where
  out σ := by
    unfold Held
    iintro ⟨H2, H3, H4, H5, H6, H7, H8, H9, H10, H11⟩
    isplitl [H4]
    · iexact H4
    · iintro %X HX
      isplitl [H2]; · iexact H2
      isplitl [H3]; · iexact H3
      isplitl [HX]; · iexact HX
      isplitl [H5]; · iexact H5
      isplitl [H6]; · iexact H6
      isplitl [H7]; · iexact H7
      isplitl [H8]; · iexact H8
      isplitl [H9]; · iexact H9
      isplitl [H10]; · iexact H10
      iexact H11
  eta _ := rfl

/-- The zeros buffer is one component of the state. -/
theorem cell5 : Cell c (Held (F := F) c arg2 arg3 arg4 arg5 arg6 arg7 arg8 arg9 arg10 arg11) arg5 (·.z) (fun σ X => { σ with z := X }) where
  out σ := by
    unfold Held
    iintro ⟨H2, H3, H4, H5, H6, H7, H8, H9, H10, H11⟩
    isplitl [H5]
    · iexact H5
    · iintro %X HX
      isplitl [H2]; · iexact H2
      isplitl [H3]; · iexact H3
      isplitl [H4]; · iexact H4
      isplitl [HX]; · iexact HX
      isplitl [H6]; · iexact H6
      isplitl [H7]; · iexact H7
      isplitl [H8]; · iexact H8
      isplitl [H9]; · iexact H9
      isplitl [H10]; · iexact H10
      iexact H11
  eta _ := rfl

/-- The error buffer is one component of the state. -/
theorem cell6 : Cell c (Held (F := F) c arg2 arg3 arg4 arg5 arg6 arg7 arg8 arg9 arg10 arg11) arg6 (·.lp) (fun σ X => { σ with lp := X }) where
  out σ := by
    unfold Held
    iintro ⟨H2, H3, H4, H5, H6, H7, H8, H9, H10, H11⟩
    isplitl [H6]
    · iexact H6
    · iintro %X HX
      isplitl [H2]; · iexact H2
      isplitl [H3]; · iexact H3
      isplitl [H4]; · iexact H4
      isplitl [H5]; · iexact H5
      isplitl [HX]; · iexact HX
      isplitl [H7]; · iexact H7
      isplitl [H8]; · iexact H8
      isplitl [H9]; · iexact H9
      isplitl [H10]; · iexact H10
      iexact H11
  eta _ := rfl

/-- The shift buffer is one component of the state. -/
theorem cell7 : Cell c (Held (F := F) c arg2 arg3 arg4 arg5 arg6 arg7 arg8 arg9 arg10 arg11) arg7 (·.shift) (fun σ X => { σ with shift := X }) where
  out σ := by
    unfold Held
    iintro ⟨H2, H3, H4, H5, H6, H7, H8, H9, H10, H11⟩
    isplitl [H7]
    · iexact H7
    · iintro %X HX
      isplitl [H2]; · iexact H2
      isplitl [H3]; · iexact H3
      isplitl [H4]; · iexact H4
      isplitl [H5]; · iexact H5
      isplitl [H6]; · iexact H6
      isplitl [HX]; · iexact HX
      isplitl [H8]; · iexact H8
      isplitl [H9]; · iexact H9
      isplitl [H10]; · iexact H10
      iexact H11
  eta _ := rfl

/-- The row-pair scratch buffer is one component of the state. -/
theorem cell8 : Cell c (Held (F := F) c arg2 arg3 arg4 arg5 arg6 arg7 arg8 arg9 arg10 arg11) arg8 (·.pair) (fun σ X => { σ with pair := X }) where
  out σ := by
    unfold Held
    iintro ⟨H2, H3, H4, H5, H6, H7, H8, H9, H10, H11⟩
    isplitl [H8]
    · iexact H8
    · iintro %X HX
      isplitl [H2]; · iexact H2
      isplitl [H3]; · iexact H3
      isplitl [H4]; · iexact H4
      isplitl [H5]; · iexact H5
      isplitl [H6]; · iexact H6
      isplitl [H7]; · iexact H7
      isplitl [HX]; · iexact HX
      isplitl [H9]; · iexact H9
      isplitl [H10]; · iexact H10
      iexact H11
  eta _ := rfl

/-- The normalised-row scratch buffer is one component of the state. -/
theorem cell9 : Cell c (Held (F := F) c arg2 arg3 arg4 arg5 arg6 arg7 arg8 arg9 arg10 arg11) arg9 (·.x) (fun σ X => { σ with x := X }) where
  out σ := by
    unfold Held
    iintro ⟨H2, H3, H4, H5, H6, H7, H8, H9, H10, H11⟩
    isplitl [H9]
    · iexact H9
    · iintro %X HX
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HX]; · iexact HX
      isplitl [H10]; · iexact H10
      iexact H11
  eta _ := rfl

/-- The code-word scratch buffer is one component of the state. -/
theorem cell10 : Cell c (Held (F := F) c arg2 arg3 arg4 arg5 arg6 arg7 arg8 arg9 arg10 arg11) arg10 (·.word) (fun σ X => { σ with word := X }) where
  out σ := by
    unfold Held
    iintro ⟨H2, H3, H4, H5, H6, H7, H8, H9, H10, H11⟩
    isplitl [H10]
    · iexact H10
    · iintro %X HX
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HX]; · iexact HX
      iexact H11
  eta _ := rfl

/-- The statistics scratch buffer is one component of the state. -/
theorem cell11 : Cell c (Held (F := F) c arg2 arg3 arg4 arg5 arg6 arg7 arg8 arg9 arg10 arg11) arg11 (·.stat) (fun σ X => { σ with stat := X }) where
  out σ := by
    unfold Held
    iintro ⟨H2, H3, H4, H5, H6, H7, H8, H9, H10, H11⟩
    isplitl [H11]
    · iexact H11
    · iintro %X HX
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HX
  eta _ := rfl

end Cert.Proof.KernelIdealState

end
-- ==== Proof.KernelIdealSafe.lean ====
/- The kernel's body at one grid point is SAFE: whatever its ten buffers hold, it runs to its return, never leaving
   the bounds of a buffer, and hands all ten back at some contents. -/
module

public import proofs.«01_k».proof.Proof.KernelIdealState
public import proofs.«01_k».proof.Proof.Gen.KernelIdeal.Skeleton

@[expose] public section

noncomputable section

namespace Cert.Proof.KernelIdealSafe

open Cert.KernelIdeal Cert.KernelIdeal.Gen Cert.Proof.Triple Cert.Proof.KernelIdealState
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option maxHeartbeats 0 in
set_option maxRecDepth 65536 in
/-- The body runs to its return from any contents. -/
theorem safe (defs : Defs nD τ sig (Elt F) Λ₀) (𝒱 : Variants) (c : Dev nD) (i : grid0.Coords) (arg2 : Memref sig .tc .vmem S2x8960x128 .bf16) (harg2 : arg2.IsWhole) (arg3 : Memref sig .tc .vmem S2x4480x128 .i8) (harg3 : arg3.IsWhole) (arg4 : Memref sig .tc .vmem S2x140x128 .f32) (harg4 : arg4.IsWhole) (arg5 : Memref sig .tc .vmem S2x140x128 .f32) (harg5 : arg5.IsWhole) (arg6 : Memref sig .tc .vmem S2x140x128 .f32) (harg6 : arg6.IsWhole) (arg7 : Memref sig .tc .vmem S2x140x128 .f32) (harg7 : arg7.IsWhole) (arg8 : Memref sig .tc .vmem S5x288x2x128 .bf16) (harg8 : arg8.IsWhole) (arg9 : Memref sig .tc .vmem S5x64x8x128 .f32) (harg9 : arg9.IsWhole) (arg10 : Memref sig .tc .vmem S5x72x128 .i32) (harg10 : arg10.IsWhole) (arg11 : Memref sig .tc .vmem S4x280x128 .f32) (harg11 : arg11.IsWhole) (σ : St F) :
    Run defs 𝒱 c (Held (F := F) c arg2 arg3 arg4 arg5 arg6 arg7 arg8 arg9 arg10 arg11) σ (cc0_hqq_fit i arg2 harg2 arg3 harg3 arg4 harg4 arg5 harg5 arg6 harg6 arg7 harg7 arg8 harg8 arg9 harg9 arg10 harg10 arg11 harg11) (fun _ _ => True) := by
  rw [cc0_hqq_fit_eq_skeleton]
  unfold cc0_hqq_fit_skel
  repeat' with_reducible first
    | exact Run.ret _ trivial
    | refine Run.bind (Q := fun _ _ => True) ?_ (fun _ _ _ => ?_)
    | refine Run.loop _ _ _ _ _ _ (fun _ _ _ => True) trivial (fun k acc σ' _ => ?_) (fun _ _ _ => trivial)
    | exact Run.load cell2 _ _ trivial
    | exact Run.store cell2 _ _ _ _ trivial
    | exact Run.load cell3 _ _ trivial
    | exact Run.store cell3 _ _ _ _ trivial
    | exact Run.load cell4 _ _ trivial
    | exact Run.store cell4 _ _ _ _ trivial
    | exact Run.load cell5 _ _ trivial
    | exact Run.store cell5 _ _ _ _ trivial
    | exact Run.load cell6 _ _ trivial
    | exact Run.store cell6 _ _ _ _ trivial
    | exact Run.load cell7 _ _ trivial
    | exact Run.store cell7 _ _ _ _ trivial
    | exact Run.load cell8 _ _ trivial
    | exact Run.store cell8 _ _ _ _ trivial
    | exact Run.load cell9 _ _ trivial
    | exact Run.store cell9 _ _ _ _ trivial
    | exact Run.load cell10 _ _ trivial
    | exact Run.store cell10 _ _ _ _ trivial
    | exact Run.load cell11 _ _ trivial
    | exact Run.store cell11 _ _ _ _ trivial
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | unfold k0_t1_body
    | unfold k0_t2_body
    | unfold k0_t3_body
    | unfold k0_t4_body
    | unfold k0_t5_body
    | unfold k0_t6_body
    | unfold k0_t7_body
    | unfold k0_t8_body
    | unfold k0_t9_body
    | unfold k0_t10_body
    | unfold k0_t11_body
    | unfold k0_t12_body
    | unfold k0_t13_body
    | unfold k0_t14_body
    | unfold k0_t15_body
    | unfold k0_t16_body
    | unfold k0_t17_body
    | unfold k0_t18_body
    | unfold k0_t19_body
    | unfold k0_t20_body
    | unfold k0_t21_body
    | unfold k0_t22_body
    | unfold k0_t23_body
    | unfold k0_t24_body
    | unfold k0_t25_body
    | unfold k0_t26_body
    | unfold k0_t27_body
    | unfold k0_t28_body
    | unfold k0_t29_body
    | unfold k0_t30_body
    | unfold k0_t31_body
    | unfold k0_t32_body

end Cert.Proof.KernelIdealSafe

end
-- ==== Proof.KernelIdealFrameRun.lean ====
/- The kernel's frame: from any memory with its counters at zero, every run of the whole grid ends, the input array
   is what it was, and every semaphore counter is at zero again. Nothing is said here of what the outputs hold. -/
module

public import proofs.«01_k».proof.Proof.KernelIdealSafe
public import proofs.«01_k».proof.Proof.Gen.KernelIdeal.Frame

@[expose] public section

noncomputable section

namespace Cert.Proof.KernelIdealFrameRun

open Cert.KernelIdeal Cert.KernelIdeal.Gen Cert.Proof.Triple Cert.Proof.KernelIdealState Cert.Proof.KernelIdealSafe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data on core `c`: the arrays as launched, nothing said of what the body leaves in a staging buffer, the
    scratch at anything between two points. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's triple at a point: six staging buffers and four scratch buffers in at anything and out at something. -/
theorem body_run (c : Dev nD) (t : Fin cfg0.N) (𝒱 : Variants) (σ : St F) :
    Held (F := F) c (st0_0 t) (st0_1 t) (st0_2 t) (st0_3 t) (st0_4 t) (st0_5 t)
        (Memref.whole cc0_scratch0) (Memref.whole cc0_scratch1) (Memref.whole cc0_scratch2) (Memref.whole cc0_scratch3) σ
      ⊢ wp frame (wpE (defs₀ (F := F)) 𝒱 (c : Thread nD τ) none) Set.univ (bodyAt0 t)
          (fun _ => iprop(∃ σ', ⌜True⌝ ∗ Held (F := F) c (st0_0 t) (st0_1 t) (st0_2 t) (st0_3 t) (st0_4 t) (st0_5 t)
            (Memref.whole cc0_scratch0) (Memref.whole cc0_scratch1) (Memref.whole cc0_scratch2) (Memref.whole cc0_scratch3) σ')) :=
  safe _ _ _ _ _ _ _ _ _ _ _ _ _ _ _ _ _ _ _ _ _ _ _ _ _

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body's obligation at each point, with the invariant opened and closed again. -/
theorem sound_body (c : Dev nD) (t : Fin cfg0.N)
    (Y : (w : Fin cfg0.W) → (cfg0.win w).block.Idx → Elt F (cfg0.win w).elt) :
    iprop(Pipeline.ΦA spec0 c ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) Variants.none (c : Thread nD τ) none) Set.univ (bodyAt0 t) (fun _ =>
        (iprop(Pipeline.ΦA spec0 c ∗ (rdat m c).owesAt () t.castSucc
          ∗ (∃ X, ⌜True⌝ ∗ owns (c : Thread nD τ) (st0_0 t) fullShare X) ∗ (∃ X, ⌜True⌝ ∗ owns (c : Thread nD τ) (st0_1 t) fullShare X)
          ∗ (∃ X, ⌜True⌝ ∗ owns (c : Thread nD τ) (st0_2 t) fullShare X) ∗ (∃ X, ⌜True⌝ ∗ owns (c : Thread nD τ) (st0_3 t) fullShare X)
          ∗ (∃ X, ⌜True⌝ ∗ owns (c : Thread nD τ) (st0_4 t) fullShare X) ∗ (∃ X, ⌜True⌝ ∗ owns (c : Thread nD τ) (st0_5 t) fullShare X)) : sProp 𝕄)) := by
  unfold Pipeline.ΦA
  rw [scopedRest0_eq]
  iintro ⟨⟨⟨⟨%d0, S0⟩, ⟨%d1, S1⟩, ⟨%d2, S2⟩, ⟨%d3, S3⟩⟩, Hg⟩, HO, H0, H1, H2, H3, H4, H5⟩
  iapply wp_wand_r
  isplitl [H0 H1 H2 H3 H4 H5 S0 S1 S2 S3]
  · iapply (body_run c t Variants.none ⟨Y 0, Y 1, Y 2, Y 3, Y 4, Y 5, d0, d1, d2, d3⟩)
    unfold Held
    simp only [owns_whole]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iexact S3
  iintro %_ ⟨%σ', -, Hσ⟩
  unfold Held
  simp only [owns_whole]
  icases Hσ with ⟨H0, H1, H2, H3, H4, H5, S0, S1, S2, S3⟩
  isplitl [S0 S1 S2 S3 Hg]
  · isplitl [S0 S1 S2 S3]
    · isplitl [S0]; · iexists _; iexact S0
      isplitl [S1]; · iexists _; iexact S1
      isplitl [S2]; · iexists _; iexact S2
      iexists _; iexact S3
    · iexact Hg
  isplitl [HO]; · iexact HO
  isplitl [H0]
  · iexists σ'.w; isplitr; swap; · iexact H0
    ipureintro; trivial
  isplitl [H1]
  · iexists σ'.codes; isplitr; swap; · iexact H1
    ipureintro; trivial
  isplitl [H2]
  · iexists σ'.s; isplitr; swap; · iexact H2
    ipureintro; trivial
  isplitl [H3]
  · iexists σ'.z; isplitr; swap; · iexact H3
    ipureintro; trivial
  isplitl [H4]
  · iexists σ'.lp; isplitr; swap; · iexact H4
    ipureintro; trivial
  iexists σ'.shift; isplitr; swap; · iexact H5
  ipureintro; trivial

/-- The obligation as the pipeline's rule asks for it. -/
theorem body_obligation (c : Dev nD) :
    (rdat m c).BodyObligation (defs₀ (F := F)) Variants.none () Set.univ := fun t Y _ => by
  rw [bigSep_W0, bigSep_W0, defs₀_row]
  exact triple_restated (sound_body m c t Y) rfl .rfl fun _ => .rfl

/-- The run of the whole grid: the input array unchanged, every counter at zero. -/
theorem run_main :
    θ_run defs (onTc (τ := τ) (main (F := F))) (s₀ m ρ)
      (fun r => (∀ c : Dev nD, r.2.mem ((c.tc : Thread nD τ).loc main_arg0) = m ((c.tc : Thread nD τ).loc main_arg0))
        ∧ r.2.sem = fun _ => 0) :=
  Pipeline.RDat.θ_run_frame cfgs (0 : Fin 1) launch0 defs₀ Variants.none (rdat m) m ρ main
    (hbody := body_obligation m) (hshare := fun c w => by unfold Pipeline.RDat.share; split <;> rfl)
    (howed := fun _ _ => rfl) (V := V m) (hmain := hmain m Variants.none) (hA := fun _ _ => rfl) (hΦ := fun _ _ => rfl)
    (Q' := _) (hQ' := fun r h => ⟨fun c => Pipeline.RDat.FramePost.arr_in h.1 c 0 rfl, h.2⟩)

end Cert.Proof.KernelIdealFrameRun

end
-- ==== Proof.Claims.lean ====
/- The frames of the three programs and the idealization of the kernel's program (hand-written). -/
module

public import proofs.«01_k».proof.Defs
public import proofs.«01_k».proof.Proof.KernelFrameRun
public import proofs.«01_k».proof.Proof.KernelIdealFrameRun
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem Idealize.ShloMosaic.StableHlo

namespace Cert.Proof.Claims

/-- The kernel's program terminates, faults nowhere, leaves its argument as it was and every counter at zero. -/
theorem frame_p : Cert.quiescent_Kernel := fun m ρ _ => Cert.Proof.KernelFrameRun.run_main (F := Bits) m ρ

/-- The same of its idealization. -/
theorem frame_pi : Cert.quiescent_KernelIdeal := fun m ρ _ => Cert.Proof.KernelIdealFrameRun.run_main (F := Ideal) m ρ

open Cert.ReferenceIdeal Cert.ReferenceIdeal.Gen Cert.ReferenceIdeal.Value in
/-- No operation of the reference before its loop writes the argument. -/
theorem pre_arg0 (V : Valuation τ sig (Elt Ideal)) :
    afterL preI V (Proc.devRef .tc main_arg0) = V (Proc.devRef .tc main_arg0) := by
  simp only [afterL_cons, afterL_nil]
  after_reads_simp

open Cert.ReferenceIdeal Cert.ReferenceIdeal.Gen Cert.ReferenceIdeal.Value in
/-- One trip of the reference's loop does not write the argument. -/
theorem trip_arg0 (V : Valuation τ sig (Elt Ideal)) :
    afterL bodyI (after condOps V) (Proc.devRef .tc main_arg0) = V (Proc.devRef .tc main_arg0) := by
  simp only [afterL_cons, afterL_nil]
  after_reads_simp

open Cert.ReferenceIdeal Cert.ReferenceIdeal.Gen Cert.ReferenceIdeal.Value in
/-- No operation of the reference after its loop writes the argument. -/
theorem post_arg0 (V : Valuation τ sig (Elt Ideal)) :
    afterL postI V (Proc.devRef .tc main_arg0) = V (Proc.devRef .tc main_arg0) := by
  simp only [afterL_cons, afterL_nil]
  after_reads_simp

open Cert.ReferenceIdeal Cert.ReferenceIdeal.Gen Cert.ReferenceIdeal.Value in
/-- Before every trip of the reference's loop the argument is what it was at the start. -/
theorem atK_arg0 (m : (ℓ : Loc nD τ sig) → Buf (Elt Ideal) ℓ) (c : Dev nD) :
    ∀ k, atK m k c (Proc.devRef .tc main_arg0) = m ((c.tc : Thread nD τ).loc main_arg0)
  | 0 => pre_arg0 _
  | k + 1 => (trip_arg0 _).trans (atK_arg0 m c k)

open Cert.ReferenceIdeal Cert.ReferenceIdeal.Gen Cert.ReferenceIdeal.Value in
/-- The reference leaves its argument as it was. -/
theorem final_arg0 (m : (ℓ : Loc nD τ sig) → Buf (Elt Ideal) ℓ) (c : Dev nD) :
    finalContents condOps preI bodyI postI 20 m c (Proc.devRef .tc main_arg0) = m ((c.tc : Thread nD τ).loc main_arg0) :=
  (post_arg0 _).trans ((by after_reads_simp : after condOps (atK m 20 c) (Proc.devRef .tc main_arg0) = _).trans (atK_arg0 m c 20))

open Cert.ReferenceIdeal Cert.ReferenceIdeal.Gen Cert.ReferenceIdeal.Value in
/-- The reference terminates, leaves its argument as it was and every counter at zero. -/
theorem frame_ri : Cert.quiescent_ReferenceIdeal := fun m ρ _ =>
  (θ_run Cert.ReferenceIdeal.defs _ _).mono (fun r h => ⟨fun c => (h c main_arg0 rfl).trans (final_arg0 m c),
      Idealize.ShloMosaic.sem_eq_zero_of_no_sems (by decide) r.2⟩)
    (Cert.ReferenceIdeal.Value.run_fold (F := Ideal) m ρ)

/-- Every rewrite of the idealization is sound: the i32 scratch read as pairs of bf16 numbers, the two accesses of such
    pairs, and the two exponents named by the exact numbers `2 - p` and `p - 2` of the f32 number `p` written for 0.7. -/
theorem preserves : Cert.preserves_Kernel_KernelIdeal :=
  open Cert.KernelIdeal IdealRules.bf16_pair in
  ⟨bufferStatement S5x288x2x128 S5x288x1x128, statement S16x128 S8x128, statement S1x8x2x128 S1x8x1x128,
    IdealRules.named_const.statement κ "shrink" .f32 0x3FA66666#32 _ rfl,
    IdealRules.named_const.statement κ "neg_shrink" .f32 0xBFA66666#32 _ rfl⟩

end Cert.Proof.Claims

end
-- ==== Proof.GroupMath.lean ====
/- The mathematics of one group of 64 rows, over the real numbers: what both programs compute. -/
module

public import Idealize.ShloMosaic.Lib.Pointwise

@[expose] public section

noncomputable section

namespace Cert.Proof.GroupMath

open Idealize.ShloMosaic

/-- The least of the group's 64 rows. -/
def lo (x : ℕ → ℝ) : ℝ := (Finset.range 64).inf' ⟨0, by decide⟩ x

/-- The largest of the group's 64 rows. -/
def hi (x : ℕ → ℝ) : ℝ := (Finset.range 64).sup' ⟨0, by decide⟩ x

/-- The scale: a fifteenth of the range, one for a constant group. -/
def scale (x : ℕ → ℝ) : ℝ := if hi x = lo x then 1 else (hi x - lo x) / 15

/-- The zero before the first iteration. -/
def zero0 (x : ℕ → ℝ) : ℝ := (0 - lo x) / scale x

/-- The code of `t`, an integer between 0 and 15. -/
def code (t : ℝ) : ℤ := min 15 (max 0 (Ideal.roundHalfEven t))

/-- What `t` loses by coding. -/
def frac (t : ℝ) : ℝ := t - (code t : ℝ)

/-- The exponent of the scale in the threshold. -/
def shrink : ℝ := 21810381 / 16777216

/-- The exponent of the errors in the error result. -/
def lp : ℝ := 11744051 / 16777216

/-- The factor by which the threshold grows in each iteration. -/
def growth : ℝ := 8472494 / 8388608

/-- The threshold of iteration `m`, for a scale `s`. -/
def theta (s : ℝ) (m : ℕ) : ℝ := s ^ shrink * 10 * growth ^ m

/-- One row's part of the shift of the zero. -/
def pull (th d : ℝ) : ℝ := if d = 0 then 0 else d * min (|d| ^ (-shrink)) th

/-- The zero after `m` iterations. -/
def zero (x : ℕ → ℝ) : ℕ → ℝ
  | 0 => zero0 x
  | m + 1 => zero x m - (∑ r ∈ Finset.range 64, pull (theta (scale x) m) (frac (x r / scale x + zero x m))) * (1 / 64) / theta (scale x) m

/-- What row `r` is coded from. -/
def last (x : ℕ → ℝ) (r : ℕ) : ℝ := x r / scale x + zero x 20

/-- The power of an error; nothing for no error. -/
def errPow (d : ℝ) : ℝ := |d| ^ lp

/-- The error result. -/
def err (x : ℕ → ℝ) : ℝ := (∑ r ∈ Finset.range 64, errPow (frac (last x r))) * (1 / 64) * scale x ^ lp

/-- The shift result. -/
def shift (x : ℕ → ℝ) : ℝ := zero x 20 - zero0 x

/-- What the precondition asks of a group of real rows: a range of at most `2^78`. -/
def Fits (x : ℕ → ℝ) : Prop := hi x - lo x ≤ (2 : ℝ) ^ 78

/-- A lower bound that is attained is the minimum. -/
theorem eq_lo {x : ℕ → ℝ} {m : ℝ} (h : ∃ r, r < 64 ∧ m = x r) (h' : ∀ r, r < 64 → m ≤ x r) : m = lo x := by
  obtain ⟨r, hr, rfl⟩ := h
  exact le_antisymm (Finset.le_inf' _ _ (fun i hi => h' i (Finset.mem_range.mp hi))) (Finset.inf'_le _ (Finset.mem_range.mpr hr))

/-- An upper bound that is attained is the maximum. -/
theorem eq_hi {x : ℕ → ℝ} {m : ℝ} (h : ∃ r, r < 64 ∧ m = x r) (h' : ∀ r, r < 64 → x r ≤ m) : m = hi x := by
  obtain ⟨r, hr, rfl⟩ := h
  exact le_antisymm (Finset.le_sup' _ (Finset.mem_range.mpr hr)) (Finset.sup'_le _ _ (fun i hi => h' i (Finset.mem_range.mp hi)))

/-- The minimum is at most the maximum. -/
theorem lo_le_hi (x : ℕ → ℝ) : lo x ≤ hi x :=
  (Finset.inf'_le x (Finset.mem_range.mpr (by decide : 0 < 64))).trans (Finset.le_sup' x (Finset.mem_range.mpr (by decide : 0 < 64)))

/-- The scale is positive. -/
theorem scale_pos (x : ℕ → ℝ) : 0 < scale x := by
  unfold scale
  split
  · norm_num
  · rename_i hne
    have := lt_of_le_of_ne (lo_le_hi x) (Ne.symm hne)
    exact div_pos (by linarith) (by norm_num)

/-- The scale is at most `2^78/15`. -/
theorem scale_le {x : ℕ → ℝ} (h : Fits x) : scale x ≤ 2 ^ 78 / 15 := by
  unfold scale
  split
  · norm_num
  · gcongr
    exact h

/-- The growth's powers up to the twentieth. -/
theorem growth_bounds {m : ℕ} (hm : m ≤ 20) : 1 ≤ growth ^ m ∧ growth ^ m ≤ 5 / 4 := by
  have h1 : (1 : ℝ) ≤ growth := by unfold growth; norm_num
  refine ⟨one_le_pow₀ h1, (pow_le_pow_right₀ h1 hm).trans ?_⟩
  have h2 : growth ≤ 1011 / 1000 := by unfold growth; norm_num
  refine (pow_le_pow_left₀ (by linarith) h2 20).trans ?_
  norm_num

/-- The threshold is positive. -/
theorem theta_pos (x : ℕ → ℝ) (m : ℕ) : 0 < theta (scale x) m := by
  have h1 := Real.rpow_pos_of_pos (scale_pos x) shrink
  have h2 : 0 < growth ^ m := pow_pos (by unfold growth; norm_num) m
  unfold theta
  positivity

/-- A natural power of two as a real power. -/
theorem two_pow (a b : ℕ) : (2 : ℝ) ^ a = ((2 : ℝ) ^ ((a : ℝ) / (b + 1))) ^ (b + 1) := by
  rw [← Real.rpow_natCast, ← Real.rpow_natCast, ← Real.rpow_mul (by norm_num)]
  congr 1
  push_cast
  field_simp

/-- The threshold stays below the upper clipping bound. -/
theorem theta_le {x : ℕ → ℝ} (h : Fits x) {m : ℕ} (hm : m ≤ 20) : theta (scale x) m ≤ 2 ^ 100 := by
  have hp := scale_pos x
  have h15 : (2 : ℝ) ^ ((39 : ℝ) / 10) ≤ 15 := by
    have e := two_pow 39 9
    norm_num at e
    refine le_of_pow_le_pow_left₀ (n := 10) (by norm_num) (by norm_num) ?_
    rw [← e]
    norm_num
  have h1 : (2 : ℝ) ^ 78 / 15 ≤ 2 ^ ((741 : ℝ) / 10) := by
    rw [div_le_iff₀ (by norm_num)]
    calc (2 : ℝ) ^ 78 = 2 ^ ((741 : ℝ) / 10 + 39 / 10) := by
          rw [show (741 : ℝ) / 10 + 39 / 10 = ((78 : ℕ) : ℝ) by norm_num, Real.rpow_natCast]
      _ = 2 ^ ((741 : ℝ) / 10) * 2 ^ ((39 : ℝ) / 10) := Real.rpow_add (by norm_num) _ _
      _ ≤ 2 ^ ((741 : ℝ) / 10) * 15 := by gcongr
  have h2 : scale x ^ shrink ≤ 2 ^ ((96331 : ℝ) / 1000) := by
    refine (Real.rpow_le_rpow hp.le ((scale_le h).trans h1) (by unfold shrink; norm_num)).trans ?_
    rw [← Real.rpow_mul (by norm_num)]
    refine Real.rpow_le_rpow_of_exponent_le (by norm_num) ?_
    unfold shrink
    norm_num
  have h3 : (25 / 2 : ℝ) ≤ 2 ^ ((11 : ℝ) / 3) := by
    have e := two_pow 11 2
    norm_num at e
    refine le_of_pow_le_pow_left₀ (n := 3) (by norm_num) (Real.rpow_nonneg (by norm_num) _) ?_
    rw [← e]
    norm_num
  have h4 := (growth_bounds hm).2
  have h5 : 0 ≤ growth ^ m := zero_le_one.trans (growth_bounds hm).1
  unfold theta
  calc scale x ^ shrink * 10 * growth ^ m ≤ 2 ^ ((96331 : ℝ) / 1000) * 10 * (5 / 4) := by gcongr
    _ = 2 ^ ((96331 : ℝ) / 1000) * (25 / 2) := by ring
    _ ≤ 2 ^ ((96331 : ℝ) / 1000) * 2 ^ ((11 : ℝ) / 3) := by gcongr
    _ = 2 ^ ((96331 : ℝ) / 1000 + 11 / 3) := (Real.rpow_add (by norm_num) _ _).symm
    _ ≤ 2 ^ (100 : ℝ) := Real.rpow_le_rpow_of_exponent_le (by norm_num) (by norm_num)
    _ = 2 ^ 100 := by
      rw [show (100 : ℝ) = ((100 : ℕ) : ℝ) by norm_num, Real.rpow_natCast]

/-- A range of 0 or 15 scales. -/
theorem hi_scaled (x : ℕ → ℝ) : hi x / scale x - lo x / scale x ≤ 15 := by
  rw [← sub_div, div_le_iff₀ (scale_pos x)]
  unfold scale
  split
  · rename_i e
    rw [e]
    norm_num
  · linarith

/-- Rounding moves a real by at most a half. -/
theorem round_near (t : ℝ) : |t - (Ideal.roundHalfEven t : ℝ)| ≤ 1 / 2 := by
  have h0 := Int.floor_le t
  have h1 := Int.lt_floor_add_one t
  unfold Ideal.roundHalfEven
  dsimp only
  rw [abs_le]
  split_ifs <;> push_cast <;> constructor <;> linarith

/-- What `t` loses by coding is small for a `t` near the codes. -/
theorem frac_le {t a : ℝ} (h0 : a ≤ t) (h1 : t ≤ a + 15) : |frac t| ≤ |a| + 1 / 2 := by
  have hr := abs_le.mp (round_near t)
  have ha := neg_abs_le a
  have ha' := le_abs_self a
  have hn := abs_nonneg a
  have k : ∀ r : ℤ, Ideal.roundHalfEven t = r → |frac t| ≤ |a| + 1 / 2 := fun r e => by
    rw [e] at hr
    unfold frac code
    rw [e, abs_le]
    rcases lt_or_ge r 0 with h | h
    · have h' : (r : ℝ) ≤ -1 := by exact_mod_cast (show r ≤ -1 by omega)
      rw [max_eq_left h.le, min_eq_right (by norm_num)]
      push_cast
      constructor <;> linarith
    rcases lt_or_ge 15 r with h2 | h2
    · have h' : (16 : ℝ) ≤ (r : ℝ) := by exact_mod_cast (show 16 ≤ r by omega)
      rw [max_eq_right h, min_eq_left h2.le]
      push_cast
      constructor <;> linarith
    · rw [max_eq_right h, min_eq_right h2]
      constructor <;> linarith
  exact k _ rfl

/-- The pull, divided by its threshold, is no larger than the error. -/
theorem pull_le {th : ℝ} (h : 0 < th) (d : ℝ) : |pull th d / th| ≤ |d| := by
  unfold pull
  split
  · rename_i e
    rw [e, zero_div]
  · have h0 : 0 ≤ min (|d| ^ (-shrink)) th := le_min (Real.rpow_nonneg (abs_nonneg d) _) h.le
    rw [abs_div, abs_mul, abs_of_pos h, abs_of_nonneg h0, div_le_iff₀ h]
    exact mul_le_mul_of_nonneg_left (min_le_right _ _) (abs_nonneg d)

/-- A sum of pulls, divided by the threshold, is the sum of the divided pulls. -/
theorem sum_pull (th : ℝ) (d : ℕ → ℝ) :
    (∑ r ∈ Finset.range 64, pull th (d r)) * (1 / 64) / th = (∑ r ∈ Finset.range 64, pull th (d r) / th) * (1 / 64) := by
  rw [← Finset.sum_div]
  ring

/-- The scaled minimum strays from zero by less than doubling in each iteration. -/
theorem zero_near (x : ℕ → ℝ) : ∀ m, |lo x / scale x + zero x m| ≤ 2 ^ m - 1 / 2
  | 0 => by
      have : lo x / scale x + zero x 0 = 0 := by
        show lo x / scale x + (0 - lo x) / scale x = 0
        rw [← add_div, add_sub_cancel, zero_div]
      rw [this, abs_zero]
      norm_num
  | m + 1 => by
      have h := zero_near x m
      have hb : ∀ r ∈ Finset.range 64, |pull (theta (scale x) m) (frac (x r / scale x + zero x m)) / theta (scale x) m| ≤ 2 ^ m := fun r hr => by
        have h0 : lo x ≤ x r := Finset.inf'_le _ hr
        have h1 : x r ≤ hi x := Finset.le_sup' _ hr
        have h0' : lo x / scale x ≤ x r / scale x := div_le_div_of_nonneg_right h0 (scale_pos x).le
        have h1' : x r / scale x ≤ hi x / scale x := div_le_div_of_nonneg_right h1 (scale_pos x).le
        have h2 := hi_scaled x
        refine (pull_le (theta_pos x m) _).trans ((frac_le (a := lo x / scale x + zero x m) (by linarith) (by linarith)).trans ?_)
        linarith
      have hs : |∑ r ∈ Finset.range 64, pull (theta (scale x) m) (frac (x r / scale x + zero x m)) / theta (scale x) m| ≤ 64 * 2 ^ m := by
        refine (Finset.abs_sum_le_sum_abs _ _).trans ((Finset.sum_le_sum hb).trans ?_)
        rw [Finset.sum_const, Finset.card_range, nsmul_eq_mul]
        norm_num
      have e : lo x / scale x + zero x (m + 1) = lo x / scale x + zero x m
          - (∑ r ∈ Finset.range 64, pull (theta (scale x) m) (frac (x r / scale x + zero x m)) / theta (scale x) m) * (1 / 64) := by
        rw [← sum_pull]
        show lo x / scale x + (zero x m - _) = _
        ring
      rw [e, pow_succ]
      rw [abs_le] at h hs ⊢
      constructor <;> linarith [h.1, h.2, hs.1, hs.2]

/-- An error in the first twenty iterations is at most `2^20`. -/
theorem error_le (x : ℕ → ℝ) {m r : ℕ} (hm : m ≤ 20) (hr : r < 64) : |frac (x r / scale x + zero x m)| ≤ 2 ^ 20 := by
  have h := zero_near x m
  have h0 : lo x ≤ x r := Finset.inf'_le _ (Finset.mem_range.mpr hr)
  have h1 : x r ≤ hi x := Finset.le_sup' _ (Finset.mem_range.mpr hr)
  have h0' : lo x / scale x ≤ x r / scale x := div_le_div_of_nonneg_right h0 (scale_pos x).le
  have h1' : x r / scale x ≤ hi x / scale x := div_le_div_of_nonneg_right h1 (scale_pos x).le
  have h2 := hi_scaled x
  have h3 : (2 : ℝ) ^ m ≤ 2 ^ 20 := pow_le_pow_right₀ (by norm_num) hm
  refine (frac_le (a := lo x / scale x + zero x m) (by linarith) (by linarith)).trans ?_
  linarith

/-- The threshold, clipped as the kernel clips it. -/
def clipped (th : ℝ) : ℝ := min (2 ^ 100) (max (1 / 2 ^ 40) th)

/-- A clipped threshold is positive. -/
theorem clipped_pos (th : ℝ) : 0 < clipped th := lt_min (by norm_num) (lt_max_of_lt_left (by norm_num))

/-- A threshold below all powers of the error leaves the error itself. -/
theorem pull_small {th d : ℝ} (h0 : 0 < th) (h : th ≤ 1 / 2 ^ 40) (hd : |d| ≤ 2 ^ 20) : pull th d / th = d := by
  unfold pull
  split
  · rename_i e
    rw [e, zero_div]
  · rename_i hne
    have hp := abs_pos.mpr hne
    have hs : (0 : ℝ) ≤ shrink := by unfold shrink; norm_num
    have k : |d| ^ shrink ≤ 2 ^ 40 := by
      refine (Real.rpow_le_rpow hp.le hd hs).trans ?_
      rw [← Real.rpow_natCast, ← Real.rpow_natCast, ← Real.rpow_mul (by norm_num)]
      refine Real.rpow_le_rpow_of_exponent_le (by norm_num) ?_
      unfold shrink
      norm_num
    have k' : (1 : ℝ) / 2 ^ 40 ≤ |d| ^ (-shrink) := by
      rw [Real.rpow_neg hp.le, ← one_div]
      exact one_div_le_one_div_of_le (Real.rpow_pos_of_pos hp _) k
    rw [min_eq_right (h.trans k'), mul_div_assoc, div_self h0.ne', mul_one]

/-- Clipping the threshold changes no pull of the first twenty iterations. -/
theorem pull_clipped {x : ℕ → ℝ} (h : Fits x) {m r : ℕ} (hm : m ≤ 20) (hr : r < 64) :
    pull (clipped (theta (scale x) m)) (frac (x r / scale x + zero x m)) / clipped (theta (scale x) m)
      = pull (theta (scale x) m) (frac (x r / scale x + zero x m)) / theta (scale x) m := by
  have h1 := theta_le h hm
  rcases le_total (1 / 2 ^ 40) (theta (scale x) m) with h0 | h0
  · have e : clipped (theta (scale x) m) = theta (scale x) m := by
      unfold clipped
      rw [max_eq_right h0, min_eq_right h1]
    rw [e]
  · have e : clipped (theta (scale x) m) = 1 / 2 ^ 40 := by
      unfold clipped
      rw [max_eq_left h0, min_eq_right (by norm_num)]
    rw [e, pull_small (by norm_num) le_rfl (error_le x hm hr), pull_small (theta_pos x m) h0 (error_le x hm hr)]

/-- The next zero, with a clipped threshold. -/
theorem zero_clipped {x : ℕ → ℝ} (h : Fits x) {m : ℕ} (hm : m ≤ 20) :
    zero x m - (∑ r ∈ Finset.range 64, pull (clipped (theta (scale x) m)) (frac (x r / scale x + zero x m))) * (1 / 64) / clipped (theta (scale x) m)
      = zero x (m + 1) := by
  rw [sum_pull, Finset.sum_congr rfl (fun r hr => pull_clipped h hm (Finset.mem_range.mp hr)), ← sum_pull]
  rfl

/-- A code is between 0 and 15. -/
theorem code_bounds (t : ℝ) : 0 ≤ code t ∧ code t ≤ 15 := by
  unfold code
  omega

/-- The shrinking of an error `e = s·d` towards zero, as the reference writes it. -/
def shrunk (β e : ℝ) : ℝ := (SignType.sign e : ℝ) * max (|e| - 1 / β * (if 0 < |e| then |e| else 1) ^ (1 - shrink)) 0

/-- What the shrinking takes away from an error is the pull divided by the threshold. -/
theorem sub_shrunk {s β d : ℝ} (hs : 0 < s) (hβ : 0 < β) : d - shrunk β (s * d) / s = pull (s ^ shrink * β) d / (s ^ shrink * β) := by
  unfold shrunk pull
  by_cases hd : d = 0
  · subst hd
    simp
  rw [if_neg hd]
  have ha : 0 < |d| := abs_pos.mpr hd
  have hsp : 0 < s ^ shrink := Real.rpow_pos_of_pos hs _
  have hdp : 0 < |d| ^ (-shrink) := Real.rpow_pos_of_pos ha _
  have e1 : |s * d| = s * |d| := by rw [abs_mul, abs_of_pos hs]
  have e2 : (SignType.sign (s * d) : ℝ) = SignType.sign d := by rw [sign_mul, sign_pos hs, one_mul]
  have e3 : (s * |d|) ^ (1 - shrink) = s * |d| * (|d| ^ (-shrink) / s ^ shrink) := by
    rw [Real.rpow_sub (by positivity), Real.rpow_one, Real.mul_rpow hs.le ha.le, Real.rpow_neg ha.le]
    field_simp
  have e4 : (SignType.sign d : ℝ) * |d| = d := sign_mul_abs d
  rw [e1, e2, if_pos (by positivity), e3]
  rcases le_total (|d| ^ (-shrink)) (s ^ shrink * β) with h | h
  · rw [min_eq_left h, max_eq_left]
    · have : (SignType.sign d : ℝ) * (s * |d| - 1 / β * (s * |d| * (|d| ^ (-shrink) / s ^ shrink)))
          = s * ((SignType.sign d : ℝ) * |d|) * (1 - 1 / β * (|d| ^ (-shrink) / s ^ shrink)) := by ring
      rw [this, e4]
      field_simp
      ring
    · have : s * |d| - 1 / β * (s * |d| * (|d| ^ (-shrink) / s ^ shrink)) = s * |d| * (1 - |d| ^ (-shrink) / (s ^ shrink * β)) := by
        field_simp
      rw [this]
      refine mul_nonneg (by positivity) ?_
      rw [sub_nonneg, div_le_one (by positivity)]
      exact h
  · rw [min_eq_right h, max_eq_right]
    · field_simp
      simp
    · have : s * |d| - 1 / β * (s * |d| * (|d| ^ (-shrink) / s ^ shrink)) = s * |d| * (1 - |d| ^ (-shrink) / (s ^ shrink * β)) := by
        field_simp
      rw [this]
      refine mul_nonpos_of_nonneg_of_nonpos (by positivity) ?_
      rw [sub_nonpos, one_le_div (by positivity)]
      exact h

end Cert.Proof.GroupMath
-- ==== Proof.Scalars.lean ====
/- The programs' scalar operations on real numbers, at exact arithmetic. -/
module

public import proofs.«01_k».proof.Proof.GroupMath
public import Idealize.ShloMosaic.Lib.IdealHost

@[expose] public section

noncomputable section

namespace Cert.Proof.Scalars

open Idealize.ShloMosaic Cert.Proof.GroupMath

/-- The constant 15. -/
theorem c15 : Ideal.ofBits .f32 0x41700000#32 = ((15 : ℝ) : EReal) := by
  simp [Ideal.ofBits, Ideal.ieee, -EReal.coe_mul]; norm_num

/-- The constant 10. -/
theorem c10 : Ideal.ofBits .f32 0x41200000#32 = ((10 : ℝ) : EReal) := by
  simp [Ideal.ofBits, Ideal.ieee, -EReal.coe_mul]; norm_num

/-- The constant 2. -/
theorem c2 : Ideal.ofBits .f32 0x40000000#32 = ((2 : ℝ) : EReal) := by
  simp [Ideal.ofBits, Ideal.ieee, -EReal.coe_mul]; norm_num

/-- The constant 1. -/
theorem c1 : Ideal.ofBits .f32 0x3F800000#32 = ((1 : ℝ) : EReal) := by
  simp [Ideal.ofBits, Ideal.ieee, -EReal.coe_mul]; norm_num

/-- The constant 0. -/
theorem c0 : Ideal.ofBits .f32 0x00000000#32 = ((0 : ℝ) : EReal) := by
  simp [Ideal.ofBits, Ideal.ieee, -EReal.coe_mul]

/-- The constant 64. -/
theorem c64 : Ideal.ofBits .f32 0x42800000#32 = ((64 : ℝ) : EReal) := by
  simp [Ideal.ofBits, Ideal.ieee, -EReal.coe_mul]; norm_num

/-- The constant 1/64. -/
theorem c64th : Ideal.ofBits .f32 0x3C800000#32 = ((1 / 64 : ℝ) : EReal) := by
  simp [Ideal.ofBits, Ideal.ieee, -EReal.coe_mul]; norm_num

/-- The upper clipping bound. -/
theorem cUpper : Ideal.ofBits .f32 0x71800000#32 = ((2 ^ 100 : ℝ) : EReal) := by
  simp [Ideal.ofBits, Ideal.ieee, -EReal.coe_mul, -EReal.coe_pow]; norm_num

/-- The lower clipping bound. -/
theorem cLower : Ideal.ofBits .f32 0x2B800000#32 = ((1 / 2 ^ 40 : ℝ) : EReal) := by
  simp [Ideal.ofBits, Ideal.ieee, -EReal.coe_mul, -EReal.coe_pow]; norm_num

/-- The growth of the threshold. -/
theorem cGrowth : Ideal.ofBits .f32 0x3F8147AE#32 = ((growth : ℝ) : EReal) := by
  unfold growth
  simp [Ideal.ofBits, Ideal.ieee, -EReal.coe_mul]; norm_num

/-- The exponent of the errors. -/
theorem cLp : Ideal.ofBits .f32 0x3F333333#32 = ((lp : ℝ) : EReal) := by
  unfold lp
  simp [Ideal.ofBits, Ideal.ieee, -EReal.coe_mul]; norm_num

/-- The exponent of the shrinking. -/
theorem cShrink : Ideal.ofBits .f32 0xBE99999A#32 = ((1 - shrink : ℝ) : EReal) := by
  unfold shrink
  simp [Ideal.ofBits, Ideal.ieee, -EReal.coe_mul, -EReal.coe_neg, -EReal.coe_sub]; norm_num

/-- The precondition's largest range. -/
theorem cRange : Ideal.ofBits .f32 0x66800000#32 = (((2 : ℝ) ^ 78 : ℝ) : EReal) := by
  simp [Ideal.ofBits, Ideal.ieee, -EReal.coe_mul, -EReal.coe_pow]; norm_num

/-- Plus infinity. -/
theorem cTop : Ideal.ofBits .f32 0x7F800000#32 = ⊤ := by
  simp [Ideal.ofBits, Ideal.ieee]

/-- Minus infinity. -/
theorem cBot : Ideal.ofBits .f32 0xFF800000#32 = ⊥ := by
  simp [Ideal.ofBits, Ideal.ieee]

/-- The minimum of two reals. -/
theorem coe_min (a b : ℝ) : min (a : EReal) (b : EReal) = ((min a b : ℝ) : EReal) :=
  (Monotone.map_min EReal.coe_strictMono.monotone).symm

/-- The maximum of two reals. -/
theorem coe_max (a b : ℝ) : max (a : EReal) (b : EReal) = ((max a b : ℝ) : EReal) :=
  (Monotone.map_max EReal.coe_strictMono.monotone).symm

/-- The quotient of two reals. -/
theorem div_real (a : ℝ) {b : ℝ} (h : b ≠ 0) : Ideal.div (a : EReal) (b : EReal) = ((a / b : ℝ) : EReal) := by
  rw [Ideal.div_coe h, ← EReal.coe_mul, mul_one_div]

/-- The absolute value of a real. -/
theorem abs_real (a : ℝ) : max (a : EReal) (-(a : EReal)) = ((|a| : ℝ) : EReal) := by
  rw [← EReal.coe_neg, coe_max]
  rfl

/-- The clamped rounding of a real is its code. -/
theorem code_real (t : ℝ) : min ((15 : ℝ) : EReal) (max ((0 : ℝ) : EReal) (Ideal.liftRound Ideal.roundHalfEven (t : EReal))) = (((code t : ℤ) : ℝ) : EReal) := by
  rw [Ideal.liftRound_coe, coe_max, coe_min]
  unfold code
  push_cast
  rfl

/-- A power taken as `2 ^ (ln x / ln 2 · e)`, for a positive base. -/
theorem power_pos {x : ℝ} (hx : 0 < x) (e : ℝ) :
    Ideal.exp2 (Ideal.div (Ideal.log (x : EReal)) (Ideal.log ((2 : ℝ) : EReal)) * (e : EReal)) = ((x ^ e : ℝ) : EReal) := by
  have h2 : Real.log 2 ≠ 0 := (Real.log_pos (by norm_num)).ne'
  rw [Ideal.log_coe, Ideal.log_coe, if_neg (by linarith), if_neg (by norm_num), div_real _ h2, ← EReal.coe_mul, Ideal.exp2_coe]
  congr 1
  show (2 : ℝ) ^ (Real.log x / Real.log 2 * e) = x ^ e
  rw [Real.rpow_def_of_pos (by norm_num), Real.rpow_def_of_pos hx]
  congr 1
  field_simp

/-- The quotient of the logarithms for the base zero. -/
theorem log_zero : Ideal.div (Ideal.log ((0 : ℝ) : EReal)) (Ideal.log ((2 : ℝ) : EReal)) = ⊥ := by
  have h2 : 0 < Real.log 2 := Real.log_pos (by norm_num)
  rw [Ideal.log_coe, Ideal.log_coe, if_pos le_rfl, if_neg (by norm_num), Ideal.div_coe h2.ne']
  exact EReal.bot_mul_coe_of_pos (by positivity)

/-- The same power of zero, to a negative exponent. -/
theorem pow_zero_neg {e : ℝ} (he : e < 0) :
    Ideal.exp2 (Ideal.div (Ideal.log ((0 : ℝ) : EReal)) (Ideal.log ((2 : ℝ) : EReal)) * (e : EReal)) = ⊤ := by
  rw [log_zero, EReal.bot_mul_coe_of_neg he, Ideal.exp2_top]

/-- The same power of zero, to a positive exponent. -/
theorem pow_zero_pos {e : ℝ} (he : 0 < e) :
    Ideal.exp2 (Ideal.div (Ideal.log ((0 : ℝ) : EReal)) (Ideal.log ((2 : ℝ) : EReal)) * (e : EReal)) = ((0 : ℝ) : EReal) := by
  rw [log_zero, EReal.bot_mul_coe_of_pos he, Ideal.exp2_bot]
  rfl

/-- The pull of an error: its product with a power of its size, cut off at the threshold. -/
theorem pull_real (d : ℝ) (th : ℝ) :
    (d : EReal) * min (Ideal.exp2 (Ideal.div (Ideal.log ((|d| : ℝ) : EReal)) (Ideal.log ((2 : ℝ) : EReal)) * ((-shrink : ℝ) : EReal))) (th : EReal)
      = ((pull th d : ℝ) : EReal) := by
  unfold pull
  split
  · rename_i h
    subst h
    rw [abs_zero, pow_zero_neg (by unfold shrink; norm_num), min_eq_right le_top, ← EReal.coe_mul, zero_mul]
  · rename_i h
    rw [power_pos (abs_pos.mpr h), coe_min, ← EReal.coe_mul]

/-- The power of an error. -/
theorem errPow_real (d : ℝ) :
    Ideal.exp2 (Ideal.div (Ideal.log ((|d| : ℝ) : EReal)) (Ideal.log ((2 : ℝ) : EReal)) * ((lp : ℝ) : EReal)) = ((errPow d : ℝ) : EReal) := by
  have hlp : (0 : ℝ) < lp := by unfold lp; norm_num
  unfold errPow
  by_cases h : d = 0
  · subst h
    rw [abs_zero, pow_zero_pos hlp, Real.zero_rpow hlp.ne']
  · rw [power_pos (abs_pos.mpr h)]

/-- The sum of reals. -/
theorem sum_real {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- Choosing by a comparison is choosing by the equation. -/
theorem select_eq {α : Type} (a b : ℝ) (t f : α) : (if Ideal.cmp .oeq (a : EReal) (b : EReal) = 1#1 then t else f) = if a = b then t else f := by
  by_cases h : a = b
  · simp [Ideal.cmp, h]
  · simp [Ideal.cmp, h]

/-- A code as an integer word, as the programs convert it. -/
theorem word_real {v : Ideal .f32} {t : ℝ} (h : (v : EReal) = (((code t : ℤ) : ℝ) : EReal)) : Ideal.fptosi 32 v = BitVec.ofInt 32 (code t) := by
  have hb := code_bounds t
  rw [h]
  unfold Ideal.fptosi
  rw [Ideal.toIntClamped_coe, if_pos (by exact_mod_cast hb.1), Int.floor_intCast]
  congr 1
  omega

/-- The integer of a code's word. -/
theorem toInt_code (t : ℝ) : (BitVec.ofInt 32 (code t)).toInt = code t := by
  have hb := code_bounds t
  rw [BitVec.toInt_ofInt, Int.bmod_def]
  omega

end Cert.Proof.Scalars
-- ==== Proof.ReferenceReal.lean ====
/- What the reference's array operations compute for one group, as the real mathematics of the group. -/
module

public import proofs.«01_k».proof.Proof.Gen.ReferenceIdeal.Run
public import proofs.«01_k».proof.Proof.Scalars
public import Idealize.ShloMosaic.Lib.Tactic.CleanTypes

@[expose] public section

noncomputable section

namespace Cert.Proof.ReferenceReal

open Cert.ReferenceIdeal Cert.ReferenceIdeal.Gen Idealize.ShloMosaic Cert.Proof.GroupMath Cert.Proof.Scalars

/-- An array of the weights' grouped shape. -/
abbrev Full := FVec Ideal S12x140x64x1536 .f32

/-- An array of one number per group. -/
abbrev Per := FVec Ideal S12x140x1x1536 .f32

/-- The same without the rows' axis. -/
abbrev Flat := FVec Ideal S12x140x1536 .f32

/-- A number. -/
abbrev Num := FVec Ideal S_ .f32

/-- The weights in groups of 64 rows. -/
def grouped (A : FVec Ideal S12x8960x1536 .bf16) : Full := shapeCast S12x140x64x1536 (extf .f32 A bitsLt_bf16_f32) shapeCasts_S12x8960x1536_S12x140x64x1536

/-- One number per group, with the rows' axis. -/
def per (v : Flat) : Per := broadcastInDim S12x140x1x1536 ![0, 1, 3] bcast_S12x140x1536_S12x140x1x1536_0_1_3 v

/-- A constant per group. -/
def perCon (c : BitVec 32) : Per := broadcastInDim S12x140x1x1536 ![] bcast_S_S12x140x1x1536 (constant S_ .f32 c)

/-- The groups' minima. -/
def least (X : Full) : Flat := Host.reduce FloatOps.minimumf X (constant S_ .f32 0x7F800000#32) reducesTo_S12x140x64x1536_S12x140x1536_d2 h_S_

/-- The groups' maxima. -/
def most (X : Full) : Flat := Host.reduce FloatOps.maximumf X (constant S_ .f32 0xFF800000#32) reducesTo_S12x140x64x1536_S12x140x1536_d2 h_S_

/-- The scales. -/
def scales (X : Full) : Per :=
  select (cmpf .oeq (per (most X)) (per (least X))) (perCon 0x3F800000#32) (Host.divf (subf (per (most X)) (per (least X))) (perCon 0x41700000#32))

/-- The zeros before the first iteration. -/
def zeros0 (X : Full) : Per := Host.divf (subf (perCon 0x00000000#32) (per (least X))) (scales X)

/-- One number per group, repeated over its rows. -/
def rep (s : Per) : Full := broadcastInDim S12x140x64x1536 ![0, 1, 2, 3] bcast_S12x140x1x1536_S12x140x64x1536_0_1_2_3 s

/-- A constant array. -/
def con (c : BitVec 32) : Full := broadcastInDim S12x140x64x1536 ![] bcast_S_S12x140x64x1536 (constant S_ .f32 c)

/-- The codes. -/
def codes (W : Full) (s z : Per) : Full := minimumf (con 0x41700000#32) (maximumf (con 0x00000000#32) (Host.roundeven (addf (Host.divf W (rep s)) (rep z))))

/-- What coding loses, for codes `Q`. -/
def errors (W Q : Full) (s z : Per) : Full := subf W (mulf (subf Q (rep z)) (rep s))

/-- The errors shrunk towards zero. -/
def shrunken (β : Num) (E : Full) : Full :=
  mulf (Host.sign E) (maximumf (subf (Host.absf E) (mulf (broadcastInDim S12x140x64x1536 ![] bcast_S_S12x140x64x1536 (Host.divf (constant S_ .f32 0x3F800000#32) β))
    (Host.powf (select (cmpf .ogt (Host.absf E) (con 0x00000000#32)) (Host.absf E) (con 0x3F800000#32)) (con 0xBE99999A#32)))) (con 0x00000000#32))

/-- The sum over a group's rows. -/
def total (X : Full) : Flat := Host.reduceAdd X (constant S_ .f32 0x00000000#32) reducesTo_S12x140x64x1536_S12x140x1536_d2 h_S_

/-- One iteration of the zeros. -/
def next (W : Full) (s z : Per) (β : Num) : Per :=
  Host.divf (per (total (subf (codes W s z) (Host.divf (subf W (shrunken β (errors W (codes W s z) s z))) (rep s))))) (perCon 0x42800000#32)

/-- The codes as integers. -/
def words (W : Full) (s z : Per) : IVec S12x140x64x1536 32 := fptosi 32 (codes W s z)

/-- The error result. -/
def errs (W : Full) (s z : Per) : Flat :=
  Host.divf (total (Host.powf (Host.absf (errors W (sitofp .f32 (words W s z)) s z)) (con 0x3F333333#32)))
    (broadcastInDim S12x140x1536 ![] bcast_S_S12x140x1536 (constant S_ .f32 0x42800000#32))

/-- One number per group, without the rows' axis. -/
def flat (s : Per) : Flat := shapeCast S12x140x1536 s shapeCasts_S12x140x1x1536_S12x140x1536

/-- One half of the rows, by parity. -/
def half (q : IVec S12x140x64x1536 32) : IVec S12x4480x1536 32 × IVec S12x4480x1536 32 :=
  (shapeCast S12x4480x1536 (extractStridedSlice S12x4480x1x1536 ![0, 0, 0, 0] (shapeCast S12x4480x2x1536 q shapeCasts_S12x140x64x1536_S12x4480x2x1536)
      slices_S12x4480x2x1536_S12x4480x1x1536_0_0_0_0) shapeCasts_S12x4480x1x1536_S12x4480x1536,
    shapeCast S12x4480x1536 (extractStridedSlice S12x4480x1x1536 ![0, 0, 1, 0] (shapeCast S12x4480x2x1536 q shapeCasts_S12x140x64x1536_S12x4480x2x1536)
      slices_S12x4480x2x1536_S12x4480x1x1536_0_0_1_0) shapeCasts_S12x4480x1x1536_S12x4480x1536)

/-- Two codes packed in a byte. -/
def packed (q : IVec S12x140x64x1536 32) : IVec S12x4480x1536 8 :=
  trunci 8 (ori (half q).1 (Host.shli (half q).2 (broadcastInDim S12x4480x1536 ![] bcast_S_S12x4480x1536 (constantI S_ 32 4#32)))) natLt_8_32

variable {W Q : Full} {s z : Per} {b : Fin 12} {g : Fin 140} {l : Fin 1536} {x : ℕ → ℝ}

/-- The rows of group `g` of batch `b` at column `l` are the reals `x`. -/
def Rows (W : Full) (b : Fin 12) (g : Fin 140) (l : Fin 1536) (x : ℕ → ℝ) : Prop := ∀ r : Fin 64, (W (ix4 b g r l) : EReal) = ((x r.val : ℝ) : EReal)

/-- The minimum, as a fold. -/
theorem least_at (X : Full) (b : Fin 12) (g : Fin 140) (l : Fin 1536) :
    (least X (ix3 b g l) : EReal) = Finset.univ.fold min ⊤ (fun r : Fin 64 => (X (ix4 b g r l) : EReal)) := by
  unfold least
  clean_types
  pointwise
  rw [cTop]

/-- The maximum, as a fold. -/
theorem most_at (X : Full) (b : Fin 12) (g : Fin 140) (l : Fin 1536) :
    (most X (ix3 b g l) : EReal) = Finset.univ.fold max ⊥ (fun r : Fin 64 => (X (ix4 b g r l) : EReal)) := by
  unfold most
  clean_types
  pointwise
  rw [cBot]

/-- The minimum of real rows. -/
theorem least_real (h : Rows W b g l x) : (least W (ix3 b g l) : EReal) = ((lo x : ℝ) : EReal) := by
  rw [least_at]
  refine le_antisymm ?_ ?_
  · obtain ⟨r, hr, e⟩ := Finset.exists_mem_eq_inf' (show (Finset.range 64).Nonempty from ⟨0, by decide⟩) x
    rw [Finset.fold_min_le]
    refine Or.inr ⟨⟨r, Finset.mem_range.mp hr⟩, Finset.mem_univ _, ?_⟩
    rw [h]
    exact EReal.coe_le_coe_iff.mpr (le_of_eq e.symm)
  · rw [Finset.le_fold_min]
    refine ⟨le_top, fun r _ => ?_⟩
    rw [h]
    exact EReal.coe_le_coe_iff.mpr (Finset.inf'_le x (Finset.mem_range.mpr r.isLt))

/-- The maximum of real rows. -/
theorem most_real (h : Rows W b g l x) : (most W (ix3 b g l) : EReal) = ((hi x : ℝ) : EReal) := by
  rw [most_at]
  refine le_antisymm ?_ ?_
  · rw [Finset.fold_max_le]
    refine ⟨bot_le, fun r _ => ?_⟩
    rw [h]
    exact EReal.coe_le_coe_iff.mpr (Finset.le_sup' x (Finset.mem_range.mpr r.isLt))
  · obtain ⟨r, hr, e⟩ := Finset.exists_mem_eq_sup' (show (Finset.range 64).Nonempty from ⟨0, by decide⟩) x
    rw [Finset.le_fold_max]
    refine Or.inr ⟨⟨r, Finset.mem_range.mp hr⟩, Finset.mem_univ _, ?_⟩
    rw [h]
    exact EReal.coe_le_coe_iff.mpr (le_of_eq e)

/-- One number per group, read. -/
theorem per_at (v : Flat) (b : Fin 12) (g : Fin 140) (l : Fin 1536) : per v (ix4 b g 0 l) = v (ix3 b g l) := by
  unfold per
  pointwise

/-- A constant per group, read. -/
theorem perCon_at (c : BitVec 32) (b : Fin 12) (g : Fin 140) (l : Fin 1536) : (perCon c (ix4 b g 0 l) : EReal) = Ideal.ofBits .f32 c := rfl

/-- A number per group repeated over the rows, read. -/
theorem rep_at (s : Per) (b : Fin 12) (g : Fin 140) (r : Fin 64) (l : Fin 1536) : rep s (ix4 b g r l) = s (ix4 b g 0 l) := by
  unfold rep
  pointwise

/-- The scale, for any minima and maxima. -/
theorem scaleOf_real {M L : Per} {p q : ℝ} (hM : (M (ix4 b g 0 l) : EReal) = (p : EReal)) (hL : (L (ix4 b g 0 l) : EReal) = (q : EReal)) :
    (select (cmpf .oeq M L) (perCon 0x3F800000#32) (Host.divf (subf M L) (perCon 0x41700000#32)) (ix4 b g 0 l) : EReal)
      = ((if p = q then 1 else (p - q) / 15 : ℝ) : EReal) := by
  show (if Ideal.cmp .oeq (M (ix4 b g 0 l) : EReal) (L (ix4 b g 0 l)) = 1#1 then Ideal.ofBits .f32 0x3F800000#32
    else Ideal.div ((M (ix4 b g 0 l) : EReal) - (L (ix4 b g 0 l) : EReal)) (Ideal.ofBits .f32 0x41700000#32)) = _
  rw [hM, hL, select_eq, c1, c15, ← EReal.coe_sub, div_real _ (by norm_num)]
  split <;> rfl

/-- The first zero, for any minima and scales. -/
theorem zeroOf_real {L S : Per} {p q : ℝ} (hL : (L (ix4 b g 0 l) : EReal) = (p : EReal)) (hS : (S (ix4 b g 0 l) : EReal) = (q : EReal)) (hq : q ≠ 0) :
    (Host.divf (subf (perCon 0x00000000#32) L) S (ix4 b g 0 l) : EReal) = (((0 - p) / q : ℝ) : EReal) := by
  show Ideal.div (Ideal.ofBits .f32 0x00000000#32 - (L (ix4 b g 0 l) : EReal)) (S (ix4 b g 0 l) : EReal) = _
  rw [hL, hS, c0, ← EReal.coe_sub, div_real _ hq]

/-- The scale. -/
theorem scales_real (h : Rows W b g l x) : (scales W (ix4 b g 0 l) : EReal) = ((scale x : ℝ) : EReal) :=
  scaleOf_real (M := per (most W)) (L := per (least W)) ((per_at _ _ _ _).trans (most_real h)) ((per_at _ _ _ _).trans (least_real h))

/-- The first zero. -/
theorem zeros0_real (h : Rows W b g l x) : (zeros0 W (ix4 b g 0 l) : EReal) = ((zero0 x : ℝ) : EReal) :=
  zeroOf_real (L := per (least W)) (S := scales W) ((per_at _ _ _ _).trans (least_real h)) (scales_real h) (scale_pos x).ne'

/-- A code. -/
theorem codes_real {a S Z : ℝ} {r : Fin 64} (hW : (W (ix4 b g r l) : EReal) = (a : EReal)) (hs : (s (ix4 b g 0 l) : EReal) = (S : EReal))
    (hz : (z (ix4 b g 0 l) : EReal) = (Z : EReal)) (hS : S ≠ 0) : (codes W s z (ix4 b g r l) : EReal) = (((code (a / S + Z) : ℤ) : ℝ) : EReal) := by
  show min (Ideal.ofBits .f32 0x41700000#32) (max (Ideal.ofBits .f32 0x00000000#32) (Ideal.liftRound Ideal.roundHalfEven
    (Ideal.div (W (ix4 b g r l) : EReal) (rep s (ix4 b g r l)) + (rep z (ix4 b g r l) : EReal)))) = _
  rw [rep_at, rep_at, hW, hs, hz, div_real _ hS, ← EReal.coe_add, c15, c0, code_real]

/-- An error is the scale times what coding loses. -/
theorem errors_real {a S Z : ℝ} {r : Fin 64} (hW : (W (ix4 b g r l) : EReal) = (a : EReal)) (hs : (s (ix4 b g 0 l) : EReal) = (S : EReal))
    (hz : (z (ix4 b g 0 l) : EReal) = (Z : EReal)) (hS : S ≠ 0) (hQ : (Q (ix4 b g r l) : EReal) = (((code (a / S + Z) : ℤ) : ℝ) : EReal)) :
    (errors W Q s z (ix4 b g r l) : EReal) = ((S * frac (a / S + Z) : ℝ) : EReal) := by
  show (W (ix4 b g r l) : EReal) - ((Q (ix4 b g r l) : EReal) - (rep z (ix4 b g r l) : EReal)) * (rep s (ix4 b g r l) : EReal) = _
  rw [rep_at, rep_at, hW, hs, hz, hQ, ← EReal.coe_sub, ← EReal.coe_mul, ← EReal.coe_sub]
  congr 1
  unfold frac
  field_simp
  ring

/-- A shrunk error. -/
theorem shrunken_real {β : Num} {E : Full} {B e : ℝ} {r : Fin 64} (hE : (E (ix4 b g r l) : EReal) = (e : EReal)) (hβ : (β ix0 : EReal) = (B : EReal))
    (hB : B ≠ 0) : (shrunken β E (ix4 b g r l) : EReal) = ((shrunk B e : ℝ) : EReal) := by
  have e0 : (shrunken β E (ix4 b g r l) : EReal) = Ideal.sign (E (ix4 b g r l)) *
      max (FloatOps.absf (E (ix4 b g r l)) - Ideal.div 1 (β ix0) *
        Ideal.pow (if 0 < FloatOps.absf (E (ix4 b g r l)) then FloatOps.absf (E (ix4 b g r l)) else 1) (Ideal.ofBits FTy.f32 0xBE99999A#32)) 0 := by
    unfold shrunken con
    pointwise
  have e1 : (FloatOps.absf (E (ix4 b g r l)) : EReal) = ((|e| : ℝ) : EReal) := by
    show max (E (ix4 b g r l) : EReal) (-(E (ix4 b g r l) : EReal)) = _
    rw [hE, abs_real]
  have e2 : (if (0 : EReal) < ((|e| : ℝ) : EReal) then ((|e| : ℝ) : EReal) else 1) = (((if 0 < |e| then |e| else 1) : ℝ) : EReal) := by
    by_cases h : 0 < |e|
    · rw [if_pos h, if_pos (EReal.coe_pos.mpr h)]
    · rw [if_neg h, if_neg (fun h' => h (EReal.coe_pos.mp h'))]
      rfl
  rw [e0, e1, hE, hβ, Ideal.sign_coe, e2, cShrink, Ideal.pow_coe_coe, show (1 : EReal) = ((1 : ℝ) : EReal) from rfl, div_real _ hB, ← EReal.coe_mul,
    ← EReal.coe_sub, show (0 : EReal) = ((0 : ℝ) : EReal) from rfl, coe_max, ← EReal.coe_mul]
  rfl

/-- The sum of real rows. -/
theorem total_real {X : Full} (h : Rows X b g l x) : (total X (ix3 b g l) : EReal) = ((∑ r ∈ Finset.range 64, x r : ℝ) : EReal) := by
  have e : (total X (ix3 b g l) : EReal) = ∑ r : Fin 64, (X (ix4 b g r l) : EReal) := by
    unfold total
    pointwise
  rw [e, Finset.sum_congr rfl (fun r _ => h r), sum_real, Finset.sum_range]

/-- One iteration of the zero. -/
theorem next_real {β : Num} {m : ℕ} (h : Rows W b g l x) (hs : (s (ix4 b g 0 l) : EReal) = ((scale x : ℝ) : EReal))
    (hz : (z (ix4 b g 0 l) : EReal) = ((zero x m : ℝ) : EReal)) (hβ : (β ix0 : EReal) = ((10 * growth ^ m : ℝ) : EReal)) :
    (next W s z β (ix4 b g 0 l) : EReal) = ((zero x (m + 1) : ℝ) : EReal) := by
  have hS := scale_pos x
  have hB : (0 : ℝ) < 10 * growth ^ m := by unfold growth; positivity
  have ht : theta (scale x) m = scale x ^ shrink * (10 * growth ^ m) := by unfold theta; ring
  have hr : Rows (subf (codes W s z) (Host.divf (subf W (shrunken β (errors W (codes W s z) s z))) (rep s))) b g l
      (fun r => zero x m - pull (theta (scale x) m) (frac (x r / scale x + zero x m)) / theta (scale x) m) := fun r => by
    have hc := codes_real (r := r) (h r) hs hz hS.ne'
    have he := errors_real (h r) hs hz hS.ne' hc
    show (codes W s z (ix4 b g r l) : EReal) - Ideal.div ((W (ix4 b g r l) : EReal) - (shrunken β (errors W (codes W s z) s z) (ix4 b g r l) : EReal)) (rep s (ix4 b g r l)) = _
    rw [rep_at, hc, h r, shrunken_real he hβ hB.ne', hs, ← EReal.coe_sub, div_real _ hS.ne', ← EReal.coe_sub]
    congr 1
    rw [ht]
    refine Eq.trans ?_ (congrArg (fun t => zero x m - t) (sub_shrunk (d := frac (x r.val / scale x + zero x m)) hS hB))
    simp only [frac]
    field_simp
    ring
  show Ideal.div (per (total _) (ix4 b g 0 l) : EReal) (perCon 0x42800000#32 (ix4 b g 0 l) : EReal) = _
  rw [per_at, total_real hr, perCon_at, c64, div_real _ (by norm_num)]
  congr 1
  rw [Finset.sum_sub_distrib, ← Finset.sum_div, Finset.sum_const, Finset.card_range]
  show _ = zero x m - _
  ring

/-- A code as an integer word. -/
theorem words_at {r : Fin 64} {t : ℝ} (h : (codes W s z (ix4 b g r l) : EReal) = (((code t : ℤ) : ℝ) : EReal)) :
    words W s z (ix4 b g r l) = BitVec.ofInt 32 (code t) := word_real h

/-- The error result. -/
theorem errs_real (h : Rows W b g l x) (hs : (s (ix4 b g 0 l) : EReal) = ((scale x : ℝ) : EReal))
    (hz : (z (ix4 b g 0 l) : EReal) = ((zero x 20 : ℝ) : EReal)) : (errs W s z (ix3 b g l) : EReal) = ((err x : ℝ) : EReal) := by
  have hS := scale_pos x
  have hr : Rows (Host.powf (Host.absf (errors W (sitofp .f32 (words W s z)) s z)) (con 0x3F333333#32)) b g l
      (fun r => errPow (frac (last x r)) * scale x ^ lp) := fun r => by
    have hc := codes_real (r := r) (h r) hs hz hS.ne'
    have hq : (sitofp (F := Ideal) .f32 (words W s z) (ix4 b g r l) : EReal) = (((code (x r.val / scale x + zero x 20) : ℤ) : ℝ) : EReal) := by
      show (((words W s z (ix4 b g r l)).toInt : ℝ) : EReal) = _
      rw [words_at hc, toInt_code]
    have he := errors_real (h r) hs hz hS.ne' hq
    show Ideal.pow (max (errors W (sitofp .f32 (words W s z)) s z (ix4 b g r l) : EReal) (-(errors W (sitofp .f32 (words W s z)) s z (ix4 b g r l) : EReal)))
      (Ideal.ofBits .f32 0x3F333333#32) = _
    rw [he, abs_real, cLp, Ideal.pow_coe_coe]
    congr 1
    show |scale x * frac (last x r)| ^ lp = |frac (last x r)| ^ lp * scale x ^ lp
    rw [abs_mul, abs_of_pos hS, Real.mul_rpow hS.le (abs_nonneg _), mul_comm]
  show Ideal.div (total _ (ix3 b g l) : EReal) (Ideal.ofBits .f32 0x42800000#32) = _
  rw [total_real hr, c64, div_real _ (by norm_num)]
  congr 1
  rw [← Finset.sum_mul]
  unfold err
  ring

/-- The reads of the rows of one parity. -/
theorem half_at (q : IVec S12x140x64x1536 32) (b : Fin 12) (i : Fin 4480) (l : Fin 1536) :
    (half q).1 (ix3 b i l) = q (ix4 b ⟨i.val / 32, by omega⟩ ⟨i.val % 32 * 2, by omega⟩ l)
      ∧ (half q).2 (ix3 b i l) = q (ix4 b ⟨i.val / 32, by omega⟩ ⟨i.val % 32 * 2 + 1, by omega⟩ l) := by
  unfold half
  constructor
  · pointwise
  · pointwise

/-- A number per group without the rows' axis, read. -/
theorem flat_at (s : Per) (b : Fin 12) (g : Fin 140) (l : Fin 1536) : flat s (ix3 b g l) = s (ix4 b g 0 l) := by
  unfold flat
  pointwise

/-- The grouped weights, read. -/
theorem grouped_at (A : FVec Ideal S12x8960x1536 .bf16) (b : Fin 12) (g : Fin 140) (r : Fin 64) (l : Fin 1536) :
    (grouped A (ix4 b g r l) : EReal) = A (ix3 b ⟨g.val * 64 + r.val, by omega⟩ l) := by
  unfold grouped
  pointwise

end Cert.Proof.ReferenceReal
-- ==== Proof.Precondition.lean ====
/- What the precondition says of one group: its rows are real numbers, and their range is bounded. -/
module

public import proofs.«01_k».proof.Pre_fits
public import proofs.«01_k».proof.Proof.ReferenceReal

@[expose] public section

noncomputable section

namespace Cert.Proof.Precondition

open Cert.ReferenceIdeal Cert.ReferenceIdeal.Gen Idealize.ShloMosaic Cert.Proof.ReferenceReal Cert.Proof.GroupMath Cert.Proof.Scalars

/-- The shape relations of the precondition's operations. -/
theorem facts : Cert.Pre_fits.Facts where
  bitsLt_bf16_f32 := bitsLt_bf16_f32
  shapeCasts_S12x8960x1536_S12x140x64x1536 := shapeCasts_S12x8960x1536_S12x140x64x1536
  reducesTo_S12x140x64x1536_S12x140x1536_d2 := reducesTo_S12x140x64x1536_S12x140x1536_d2
  h_S_ := h_S_
  bcast_S_S12x140x1536 := bcast_S_S12x140x1536

attribute [local instance] facts

/-- A constant per group, without the rows' axis. -/
def flatCon (c : BitVec 32) : Flat := broadcastInDim S12x140x1536 ![] bcast_S_S12x140x1536 (constant S_ .f32 c)

/-- The precondition, from the groups' minima and maxima. -/
def fitsOf (L M : Flat) : IVec S12x140x1536 1 :=
  andi (andi (cmpf .ogt L (flatCon 0xFF800000#32)) (cmpf .olt M (flatCon 0x7F800000#32))) (cmpf .ole (subf M L) (flatCon 0x66800000#32))

/-- The precondition is that of the groups' minima and maxima. -/
theorem fn_eq (A : FVec Ideal S12x8960x1536 .bf16) : Cert.Pre_fits.fn (F := Ideal) A = fitsOf (least (grouped A)) (most (grouped A)) := rfl

/-- What the precondition says at one group. -/
theorem fitsOf_at {L M : Flat} {y : S12x140x1536.Idx} (h : fitsOf L M y = 1#1) :
    (⊥ : EReal) < L y ∧ (M y : EReal) < ⊤ ∧ (M y : EReal) - (L y : EReal) ≤ (((2 : ℝ) ^ 78 : ℝ) : EReal) := by
  have e : (BitVec.ofBool (decide (Ideal.ofBits .f32 0xFF800000#32 < (L y : EReal))) &&& BitVec.ofBool (decide ((M y : EReal) < Ideal.ofBits .f32 0x7F800000#32)))
      &&& BitVec.ofBool (decide ((M y : EReal) - (L y : EReal) ≤ Ideal.ofBits .f32 0x66800000#32)) = 1#1 := h
  rw [cBot, cTop, cRange] at e
  have k : ∀ a b c : Bool, (BitVec.ofBool a &&& BitVec.ofBool b) &&& BitVec.ofBool c = 1#1 → a = true ∧ b = true ∧ c = true := by decide
  obtain ⟨h1, h2, h3⟩ := k _ _ _ e
  exact ⟨of_decide_eq_true h1, of_decide_eq_true h2, of_decide_eq_true h3⟩

/-- The precondition gives every group real rows that fit. -/
theorem rows_of_fits {A : FVec Ideal S12x8960x1536 .bf16} (h : Cert.Pre_fits.fn (F := Ideal) A = fun _ => 1#1) (b : Fin 12) (g : Fin 140) (l : Fin 1536) :
    ∃ x, Rows (grouped A) b g l x ∧ Fits x := by
  rw [fn_eq] at h
  obtain ⟨h1, h2, h3⟩ := fitsOf_at (congrFun h (ix3 b g l))
  rw [least_at, Finset.lt_fold_min] at h1
  rw [most_at, Finset.fold_max_lt] at h2
  have hx : Rows (grouped A) b g l (fun r => if hr : r < 64 then ((grouped A (ix4 b g ⟨r, hr⟩ l) : EReal)).toReal else 0) := fun r => by
    dsimp only
    rw [dif_pos r.isLt]
    exact (EReal.coe_toReal (h2.2 r (Finset.mem_univ _)).ne (h1.2 r (Finset.mem_univ _)).ne').symm
  refine ⟨_, hx, ?_⟩
  rw [least_real hx, most_real hx, ← EReal.coe_sub] at h3
  exact EReal.coe_le_coe_iff.mp h3

end Cert.Proof.Precondition
-- ==== Proof.KernelIdealModel.lean ====
/- What the idealized kernel computes for one tile of eight row groups, as vectors of shape 8x128 (row: group of the tile,
   lane: column), in the program's own operations. -/
module

public import proofs.«01_k».proof.Proof.KernelIdealState
public import Idealize.ShloMosaic.Lib.ValueIdxCore
public import Idealize.ShloMosaic.Lib.ValueLayout

@[expose] public section

noncomputable section

namespace Cert.Proof.KernelIdealModel

open Cert.KernelIdeal Cert.KernelIdeal.Gen Idealize.ShloMosaic Idealize.ShloMosaic.ValueIdx

/-- A vector of eight groups by 128 columns. -/
abbrev V := FVec Ideal S8x128 .f32

/-- The constant vector of a bit pattern. -/
def cst (b : BitVec 32) : V := broadcast S8x128 (Scalar.ofBits .f32 b)

/-- The weights' block, as a buffer holds it. -/
abbrev Wt := S2x8960x128.Idx → Elt Ideal .bf16

/-- Row `p` of the eight groups of tile `n` (groups counted over both batches of the block). -/
def wAt (w : Wt) (n p : ℕ) : FVec Ideal S8x128 .bf16 := fun y =>
  w (ix3 ⟨(8 * n + (y 0).val) / 140 % 2, Nat.mod_lt _ (by decide)⟩ ⟨((8 * n + (y 0).val) % 140 * 64 + p) % 8960, Nat.mod_lt _ (by decide)⟩ (y 1))

/-- The minimum of the rows of one parity, over the first `j + 1` pairs. -/
def mnPar (w : Wt) (n p : ℕ) : ℕ → FVec Ideal S8x128 .bf16
  | 0 => wAt w n p
  | j + 1 => minimumf (mnPar w n p j) (wAt w n (2 * (j + 1) + p))

/-- The maximum of the rows of one parity, over the first `j + 1` pairs. -/
def mxPar (w : Wt) (n p : ℕ) : ℕ → FVec Ideal S8x128 .bf16
  | 0 => wAt w n p
  | j + 1 => maximumf (mxPar w n p j) (wAt w n (2 * (j + 1) + p))

/-- The groups' minima. -/
def mnV (w : Wt) (n : ℕ) : V := minimumf (extf .f32 (mnPar w n 0 31)) (extf .f32 (mnPar w n 1 31))

/-- The groups' maxima. -/
def mxV (w : Wt) (n : ℕ) : V := maximumf (extf .f32 (mxPar w n 0 31)) (extf .f32 (mxPar w n 1 31))

/-- The groups' scales. -/
def sV (w : Wt) (n : ℕ) : V := k0_pay187 (mnV w n) (mxV w n)

/-- The reciprocals of the scales. -/
def rsV (w : Wt) (n : ℕ) : V := k0_pay188 (mnV w n) (mxV w n)

/-- The zeros before the first iteration. -/
def z0V (w : Wt) (n : ℕ) : V := k0_pay189 (mnV w n) (mxV w n)

/-- Row `r` divided by the scale. -/
def xV (w : Wt) (n r : ℕ) : V := mulf (extf .f32 (wAt w n r)) (rsV w n)

/-- The power `x ^ e` as the kernel takes it. -/
def powV (x : V) (e : Ideal .f32) : V := exp2 (mulf (divf (log x) (log (cst 0x40000000#32))) (broadcast S8x128 e))

/-- The code of `t`. -/
def quantV (t : V) : V := minimumf (cst 0x41700000#32) (maximumf (cst 0x00000000#32) (roundeven t))

/-- What `t` loses by coding. -/
def fracV (t : V) : V := subf t (quantV t)

/-- The threshold kept in range. -/
def clipV (th : V) : V := minimumf (cst 0x71800000#32) (maximumf (cst 0x2B800000#32) th)

/-- One row's part of the shift of the zero. -/
def pullV (th t : V) : V := mulf (fracV t) (minimumf (powV (absf (fracV t)) (Named.named κ "neg_shrink" 0xBFA66666#32)) (clipV th))

/-- Four partial sums used in rotation: after `r` rows. -/
def sums (f : ℕ → V) : ℕ → V × V × V × V
  | 0 => (cst 0x00000000#32, cst 0x00000000#32, cst 0x00000000#32, cst 0x00000000#32)
  | r + 1 => ((sums f r).2.1, (sums f r).2.2.1, (sums f r).2.2.2, addf (sums f r).1 (f r))

/-- Four partial sums, each over one row in four of eight: after `i` blocks of eight rows. -/
def sums8 (f : ℕ → V) : ℕ → V × V × V × V
  | 0 => (cst 0x00000000#32, cst 0x00000000#32, cst 0x00000000#32, cst 0x00000000#32)
  | i + 1 => (addf (addf (sums8 f i).1 (f (8 * i))) (f (8 * i + 4)), addf (addf (sums8 f i).2.1 (f (8 * i + 1))) (f (8 * i + 5)),
      addf (addf (sums8 f i).2.2.1 (f (8 * i + 2))) (f (8 * i + 6)), addf (addf (sums8 f i).2.2.2 (f (8 * i + 3))) (f (8 * i + 7)))

/-- The mean of 64 rows from four partial sums. -/
def meanV (a : V × V × V × V) : V := mulf (addf (addf a.1 a.2.1) (addf a.2.2.1 a.2.2.2)) (cst 0x3C800000#32)

/-- The zeros after one iteration. -/
def zNext (x : ℕ → V) (th z : V) : V := subf z (divf (meanV (sums (fun r => pullV th (addf (x r) z)) 64)) (clipV th))

/-- The threshold at iteration `m`, as a vector. -/
def thV (w : Wt) (n : ℕ) : ℕ → V
  | 0 => mulf (powV (sV w n) (Named.named κ "shrink" 0x3FA66666#32)) (cst 0x41200000#32)
  | m + 1 => mulf (thV w n m) (cst 0x3F8147AE#32)

/-- The zeros after `m` iterations. -/
def zV (w : Wt) (n : ℕ) : ℕ → V
  | 0 => z0V w n
  | m + 1 => zNext (xV w n) (thV w n m) (zV w n m)

/-- Row `r` plus the last zeros: what is coded. -/
def tV (w : Wt) (n r : ℕ) : V := addf (xV w n r) (zV w n 20)

/-- The mean of the coding errors' powers. -/
def errV (w : Wt) (n : ℕ) : V := meanV (sums8 (fun r => powV (absf (fracV (tV w n r))) (Scalar.ofBits .f32 0x3F333333#32)) 8)

/-- The error result. -/
def lpV (w : Wt) (n : ℕ) : V := mulf (errV w n) (powV (sV w n) (Scalar.ofBits .f32 0x3F333333#32))

/-- The shift result. -/
def shiftV (w : Wt) (n : ℕ) : V := subf (zV w n 20) (z0V w n)

/-- The code of row `r` as a word shifted into its place. -/
def nibV (w : Wt) (n r : ℕ) (a : BitVec 32) : IVec S8x128 32 := shli (fptosi 32 (quantV (tV w n r))) (broadcast S8x128 a)

/-- Eight codes in a word. -/
def wordV (w : Wt) (n i : ℕ) : IVec S8x128 32 :=
  ori (ori (ori (ori (ori (ori (ori (nibV w n (8 * i) 0#32) (nibV w n (8 * i + 1) 4#32)) (nibV w n (8 * i + 2) 8#32)) (nibV w n (8 * i + 3) 12#32))
    (nibV w n (8 * i + 4) 16#32)) (nibV w n (8 * i + 5) 20#32)) (nibV w n (8 * i + 6) 24#32)) (nibV w n (8 * i + 7) 28#32)

/-- Plane `k`, row `r` of the normalised-row scratch. -/
def atX (X : S5x64x8x128.Idx → Elt Ideal .f32) (k r : ℕ) : V := fun y =>
  X (ix4 ⟨k % 5, Nat.mod_lt _ (by decide)⟩ ⟨r % 64, Nat.mod_lt _ (by decide)⟩ (y 0) (y 1))

/-- Plane `k`, pair `j`, parity `h` of the row-pair scratch. -/
def atP (P : S5x288x2x128.Idx → Elt Ideal .bf16) (k j : ℕ) (h : Fin 2) : FVec Ideal S8x128 .bf16 := fun y =>
  P (ix4 ⟨k % 5, Nat.mod_lt _ (by decide)⟩ ⟨(9 * j + (y 0).val) % 288, Nat.mod_lt _ (by decide)⟩ h (y 1))

/-- Plane `k`, word `i` of the code-word scratch. -/
def atC (C : S5x72x128.Idx → Elt Ideal .i32) (k i : ℕ) : IVec S8x128 32 := fun y =>
  C (ix3 ⟨k % 5, Nat.mod_lt _ (by decide)⟩ ⟨(9 * (y 0).val + i) % 72, Nat.mod_lt _ (by decide)⟩ (y 1))

/-- Statistic `a` of tile `n` in the statistics scratch. -/
def atS (S : S4x280x128.Idx → Elt Ideal .f32) (a n : ℕ) : V := fun y =>
  S (ix3 ⟨a % 4, Nat.mod_lt _ (by decide)⟩ ⟨(8 * n + (y 0).val) % 280, Nat.mod_lt _ (by decide)⟩ (y 1))

/-- Row `r` of the packed codes of tile `n` in the codes' block. -/
def atK (C : S2x4480x128.Idx → Elt Ideal .i8) (n r : ℕ) : IVec S8x128 8 := fun y =>
  C (ix3 ⟨(8 * n + (y 0).val) / 140 % 2, Nat.mod_lt _ (by decide)⟩ ⟨((8 * n + (y 0).val) % 140 * 32 + r) % 4480, Nat.mod_lt _ (by decide)⟩ (y 1))

/-- Row `r` of the packed codes: a byte of a word. -/
def codeV (w : Wt) (n r : ℕ) : IVec S8x128 8 := fun y => (wordV w n (r / 4) y).extractLsb' (8 * (r % 4)) 8

end Cert.Proof.KernelIdealModel
-- ==== Proof.KernelIdealAccess.lean ====
/- What the idealized kernel's loads and stores read and leave in the scratch buffers, in terms of the planes' rows. -/
module

public import proofs.«01_k».proof.Proof.KernelIdealModel

@[expose] public section

noncomputable section

namespace Cert.Proof.KernelIdealAccess

open Cert.KernelIdeal Cert.KernelIdeal.Gen Cert.Proof.Triple Cert.Proof.KernelIdealModel Idealize.ShloMosaic Idealize.ShloMosaic.ValueIdx

/-- An update read at an index of the rectangle, the index given by its coordinates. -/
theorem upd_at {s : Shape} {e : EltTy} (r : Rect s) (w : r.shape.Idx → Elt Ideal e) (X : s.Idx → Elt Ideal e) (x : r.shape.Idx) (y : s.Idx)
    (h : ∀ a, (y a).val = r.off a + r.stride a * (x a).val) : upd r w X y = w x := by
  have : y = r.emb x := funext fun a => Fin.ext (h a)
  rw [this, upd_emb]

/-- An update read at an index that differs from every index of the rectangle on one axis. -/
theorem upd_off {s : Shape} {e : EltTy} (r : Rect s) (w : r.shape.Idx → Elt Ideal e) (X : s.Idx → Elt Ideal e) (y : s.Idx) (a : Fin s.rank)
    (h : ∀ n : ℕ, n < r.size a → (y a).val ≠ r.off a + r.stride a * n) : upd r w X y = X y :=
  upd_of_not _ _ _ _ fun x hx => h (x a).val (x a).isLt (by rw [← hx]; rfl)

/-- A 1x1x8x128 vector as an 8x128 one. -/
theorem drop_11 {e : Type} (v : S1x1x8x128.Idx → e) (y : S8x128.Idx) :
    shapeCast S8x128 v shapeCasts_S1x1x8x128_S8x128 y = v (ix4 0 0 (y 0) (y 1)) :=
  shapeCast_apply _ _ _ _ (by
    rw [Shape.rowMajor_val_four, Shape.rowMajor_val_two]
    show ((0 * 1 + 0) * 8 + (y 0).val) * 128 + (y 1).val = (y 0).val * 128 + (y 1).val
    omega)

/-- An 8x128 vector as a 1x1x8x128 one. -/
theorem add_11 {e : Type} (v : S8x128.Idx → e) (y : S8x128.Idx) :
    shapeCast S1x1x8x128 v shapeCasts_S8x128_S1x1x8x128 (ix4 0 0 (y 0) (y 1)) = v y :=
  shapeCast_apply _ _ _ _ (by
    rw [Shape.rowMajor_val_four, Shape.rowMajor_val_two]
    show (y 0).val * 128 + (y 1).val = ((0 * 1 + 0) * 8 + (y 0).val) * 128 + (y 1).val
    omega)

/-- A 1x8x128 vector as an 8x128 one. -/
theorem drop_1 {e : Type} (v : S1x8x128.Idx → e) (y : S8x128.Idx) :
    shapeCast S8x128 v shapeCasts_S1x8x128_S8x128 y = v (ix3 0 (y 0) (y 1)) :=
  shapeCast_apply _ _ _ _ (by
    rw [Shape.rowMajor_val_three, Shape.rowMajor_val_two]
    show (0 * 8 + (y 0).val) * 128 + (y 1).val = (y 0).val * 128 + (y 1).val
    omega)

/-- An 8x128 vector as a 1x8x128 one. -/
theorem add_1 {e : Type} (v : S8x128.Idx → e) (y : S8x128.Idx) :
    shapeCast S1x8x128 v shapeCasts_S8x128_S1x8x128 (ix3 0 (y 0) (y 1)) = v y :=
  shapeCast_apply _ _ _ _ (by
    rw [Shape.rowMajor_val_three, Shape.rowMajor_val_two]
    show (y 0).val * 128 + (y 1).val = (0 * 8 + (y 0).val) * 128 + (y 1).val
    omega)

/-- A load of a normalised row. -/
theorem load_x (X : S5x64x8x128.Idx → Elt Ideal .f32) {k r : ℕ} (hk : k < 5) (hr : r < 64) {off : Fin 4 → ℕ} (h : off = ![k, r, 0, 0])
    (inb) : shapeCast S8x128 (fun x => X ((Rect.unit (s := S5x64x8x128) off S1x1x8x128.size inb).toLoadRect.idx x)) shapeCasts_S1x1x8x128_S8x128 = atX X k r := by
  subst h
  funext y
  refine (drop_11 _ y).trans (congrArg X (funext fun a => Fin.ext ?_))
  rw [LoadRect.idx_apply]
  fin_cases a
  · show k + 1 * 0 = k % 5
    omega
  · show r + 1 * 0 = r % 64
    omega
  · show 0 + 1 * (y 0).val = (y 0).val
    omega
  · show 0 + 1 * (y 1).val = (y 1).val
    omega

/-- A store of a normalised row replaces that row. -/
theorem store_x_same (X : S5x64x8x128.Idx → Elt Ideal .f32) {k r : ℕ} (hk : k < 5) (hr : r < 64) {off : Fin 4 → ℕ} (h : off = ![k, r, 0, 0])
    (inb) (v : V) : atX (upd (Rect.unit (s := S5x64x8x128) off S1x1x8x128.size inb) (shapeCast S1x1x8x128 v shapeCasts_S8x128_S1x1x8x128) X) k r = v := by
  subst h
  funext y
  have hx : ∀ a : Fin 4, ((ix4 (⟨k % 5, Nat.mod_lt _ (by decide)⟩ : Fin 5) (⟨r % 64, Nat.mod_lt _ (by decide)⟩ : Fin 64) (y 0) (y 1) : S5x64x8x128.Idx) a).val
      = (![k, r, 0, 0] : Fin 4 → ℕ) a + 1 * ((ix4 0 0 (y 0) (y 1) : S1x1x8x128.Idx) a).val := by
    intro a
    fin_cases a
    · show k % 5 = k + 1 * 0
      omega
    · show r % 64 = r + 1 * 0
      omega
    · show (y 0).val = 0 + 1 * (y 0).val
      omega
    · show (y 1).val = 0 + 1 * (y 1).val
      omega
  exact (upd_at (Rect.unit (s := S5x64x8x128) ![k, r, 0, 0] S1x1x8x128.size inb) _ X (ix4 0 0 (y 0) (y 1) : S1x1x8x128.Idx) _ hx).trans (add_11 v y)

/-- A store of a normalised row leaves the others. -/
theorem store_x_other (X : S5x64x8x128.Idx → Elt Ideal .f32) {k r k' r' : ℕ} (hk : k < 5) (hr : r < 64) (hk' : k' < 5) (hr' : r' < 64)
    (hne : k' ≠ k ∨ r' ≠ r) {off : Fin 4 → ℕ} (h : off = ![k, r, 0, 0]) (inb) (w) :
    atX (upd (Rect.unit (s := S5x64x8x128) off S1x1x8x128.size inb) w X) k' r' = atX X k' r' := by
  subst h
  funext y
  rcases hne with hne | hne
  · refine upd_off _ _ _ _ 0 fun n hn => ?_
    have : n < 1 := hn
    show k' % 5 ≠ k + 1 * n
    omega
  · refine upd_off _ _ _ _ 1 fun n hn => ?_
    have : n < 1 := hn
    show r' % 64 ≠ r + 1 * n
    omega

/-- The rows of one parity of a vector of row pairs. -/
def parity (v : S1x8x2x128.Idx → Elt Ideal .bf16) (h : Fin 2) : FVec Ideal S8x128 .bf16 :=
  shapeCast S8x128 (shapeCast S1x8x128 (rowsOfParity h S1x8x1x128 v bitcasts_S1x8x2x128_w16_S1x8x1x128_w32) shapeCasts_S1x8x1x128_S1x8x128) shapeCasts_S1x8x128_S8x128

/-- They are the pairs' members of that parity. -/
theorem parity_apply (v : S1x8x2x128.Idx → Elt Ideal .bf16) (h : Fin 2) (y : S8x128.Idx) : parity v h y = v (ix4 0 (y 0) h (y 1)) := by
  unfold parity
  refine (drop_1 _ y).trans ((shapeCast_apply _ _ _ (ix4 0 (y 0) 0 (y 1)) (by
    rw [Shape.rowMajor_val_three, Shape.rowMajor_val_four]
    show ((0 * 8 + (y 0).val) * 1 + 0) * 128 + (y 1).val = (0 * 8 + (y 0).val) * 128 + (y 1).val
    omega)).trans ?_)
  unfold rowsOfParity
  refine congrArg v (funext fun a => Fin.ext ?_)
  fin_cases a
  · rfl
  · rfl
  · show 2 * 0 + h.val = h.val
    omega
  · rfl

/-- Row pairs interleaved and taken apart again. -/
theorem parity_pay182 (v : S1x8x2x128.Idx → Elt Ideal .bf16) (h : Fin 2) :
    rowsOfParity h S8x128 (k0_pay182 (F := Ideal) v) bitcasts_S16x128_w16_S8x128_w32 = parity v h := by
  funext y
  show interleaveRows S16x128 (parity v 0) (parity v 1) bitcasts_S16x128_w16_S8x128_w32 (ix2 ⟨2 * (y 0).val + h.val, by have h8 : (y 0).val < 8 := (y 0).isLt; omega⟩ (y 1)) = _
  unfold interleaveRows
  match h with
  | 0 =>
    refine (if_pos (show (2 * (y 0).val + 0) % 2 = 0 by omega)).trans ?_
    refine congrArg (parity v 0) (funext fun a => Fin.ext ?_)
    fin_cases a
    · show (2 * (y 0).val + 0) / 2 = (y 0).val
      omega
    · rfl
  | 1 =>
    refine (if_neg (show ¬ (2 * (y 0).val + 1) % 2 = 0 by omega)).trans ?_
    refine congrArg (parity v 1) (funext fun a => Fin.ext ?_)
    fin_cases a
    · show (2 * (y 0).val + 1) / 2 = (y 0).val
      omega
    · rfl

/-- Sixteen rows regrouped as eight pairs. -/
theorem pay179_apply (v : S1x16x128.Idx → Elt Ideal .bf16) (x : S1x8x2x128.Idx) :
    k0_pay179 (F := Ideal) v x = v (ix3 0 ⟨2 * (x 1).val + (x 2).val, by have h1 : (x 1).val < 8 := (x 1).isLt; have h2 : (x 2).val < 2 := (x 2).isLt; omega⟩ (x 3)) := by
  have h1 : (x 1).val < 8 := (x 1).isLt
  have h2 : (x 2).val < 2 := (x 2).isLt
  have key : ∀ h : Fin 2, ∀ y : S1x8x1x128.Idx, shapeCast S1x8x1x128 (shapeCast S1x8x128 (rowsOfParity h S8x128 (shapeCast S16x128 v shapeCasts_S1x16x128_S16x128) bitcasts_S16x128_w16_S8x128_w32) shapeCasts_S8x128_S1x8x128) shapeCasts_S1x8x128_S1x8x1x128 y
      = v (ix3 0 ⟨2 * (y 1).val + h.val, by have h1 : (y 1).val < 8 := (y 1).isLt; omega⟩ (y 3)) := by
    intro h y
    have hy0 : (y 0).val < 1 := (y 0).isLt
    have hy2 : (y 2).val < 1 := (y 2).isLt
    refine (shapeCast_apply _ _ y (ix3 0 (y 1) (y 3)) (by
      rw [Shape.rowMajor_val_three, Shape.rowMajor_val_four]
      show (0 * 8 + (y 1).val) * 128 + (y 3).val = (((y 0).val * 8 + (y 1).val) * 1 + (y 2).val) * 128 + (y 3).val
      omega)).trans ?_
    refine (add_1 _ (ix2 (y 1) (y 3))).trans ?_
    unfold rowsOfParity
    refine shapeCast_apply _ _ _ _ ?_
    rw [Shape.rowMajor_val_three, Shape.rowMajor_val_two]
    show (0 * 16 + (2 * (y 1).val + h.val)) * 128 + (y 3).val = (2 * (y 1).val + h.val) * 128 + (y 3).val
    omega
  unfold k0_pay179
  dsimp only
  unfold interleaveRows
  by_cases hp : (x 2).val = 0
  · refine (if_pos (show (x 2).val % 2 = 0 by omega)).trans ((key 0 _).trans ?_)
    refine congrArg v (funext fun a => Fin.ext ?_)
    fin_cases a
    · rfl
    · show 2 * (x 1).val + 0 = 2 * (x 1).val + (x 2).val
      omega
    · rfl
  · refine (if_neg (show ¬ (x 2).val % 2 = 0 by omega)).trans ((key 1 _).trans ?_)
    refine congrArg v (funext fun a => Fin.ext ?_)
    fin_cases a
    · rfl
    · show 2 * (x 1).val + 1 = 2 * (x 1).val + (x 2).val
      omega
    · rfl

/-- A load of row pairs. -/
theorem load_p (P : S5x288x2x128.Idx → Elt Ideal .bf16) {k j : ℕ} (hk : k < 5) (hj : j < 32) {off : Fin 4 → ℕ} (h : off = ![k, 9 * j, 0, 0])
    (inb) (p : Fin 2) : parity (fun x => P ((Rect.unit (s := S5x288x2x128) off S1x8x2x128.size inb).toLoadRect.idx x)) p = atP P k j p := by
  subst h
  funext y
  refine (parity_apply _ p y).trans (congrArg P (funext fun a => Fin.ext ?_))
  rw [LoadRect.idx_apply]
  have h8 : (y 0).val < 8 := (y 0).isLt
  fin_cases a
  · show k + 1 * 0 = k % 5
    omega
  · show 9 * j + 1 * (y 0).val = (9 * j + (y 0).val) % 288
    omega
  · show 0 + 1 * p.val = p.val
    omega
  · show 0 + 1 * (y 1).val = (y 1).val
    omega

end Cert.Proof.KernelIdealAccess
-- ==== Proof.KernelIdealAccess2.lean ====
/- What gathering row pairs, storing code words, scattering codes and storing statistics leave in the buffers. -/
module

public import proofs.«01_k».proof.Proof.KernelIdealAccess

@[expose] public section

noncomputable section

namespace Cert.Proof.KernelIdealAccess

open Cert.KernelIdeal Cert.KernelIdeal.Gen Cert.Proof.Triple Cert.Proof.KernelIdealModel Idealize.ShloMosaic Idealize.ShloMosaic.ValueIdx

/-- One chunk of a gather: sixteen rows of group `g` become eight row pairs, each in its place. -/
theorem gather_same (P : S5x288x2x128.Idx → Elt Ideal .bf16) (w : Wt) {k n g a : ℕ} (hk : k < 5) (hn : n < 35) (hg : g < 8) (ha : a < 4)
    {off1 : Fin 3 → ℕ} (h1 : off1 = ![(8 * n + g) / 140, (8 * n + g) % 140 * 64 + 16 * a, 0]) (inb1)
    {off2 : Fin 4 → ℕ} (h2 : off2 = ![k, 72 * a + g, 0, 0]) (inb2) (pos)
    (j : ℕ) (hj : 8 * a ≤ j) (hj' : j < 8 * a + 8) (h : Fin 2) (y : S8x128.Idx) (hy : (y 0).val = g) :
    atP (upd (⟨(⟨off2, S1x8x2x128.size, ![1, 9, 1, 1], inb2⟩ : LoadRect S5x288x2x128), pos⟩ : Rect S5x288x2x128)
      (k0_pay179 (F := Ideal) (fun x => w ((Rect.unit (s := S2x8960x128) off1 S1x16x128.size inb1).toLoadRect.idx x))) P) k j h y = wAt w n (2 * j + h.val) y := by
  subst h1 h2
  have hh : h.val < 2 := h.isLt
  have hx : ∀ b : Fin 4, ((ix4 (⟨k % 5, Nat.mod_lt _ (by decide)⟩ : Fin 5) (⟨(9 * j + (y 0).val) % 288, Nat.mod_lt _ (by decide)⟩ : Fin 288) h (y 1) : S5x288x2x128.Idx) b).val
      = (![k, 72 * a + g, 0, 0] : Fin 4 → ℕ) b + (![1, 9, 1, 1] : Fin 4 → ℕ) b * ((ix4 0 ⟨j - 8 * a, by omega⟩ h (y 1) : S1x8x2x128.Idx) b).val := by
    intro b
    fin_cases b
    · show k % 5 = k + 1 * 0
      omega
    · show (9 * j + (y 0).val) % 288 = 72 * a + g + 9 * (j - 8 * a)
      omega
    · show h.val = 0 + 1 * h.val
      omega
    · show (y 1).val = 0 + 1 * (y 1).val
      omega
  refine (upd_at (⟨(⟨![k, 72 * a + g, 0, 0], S1x8x2x128.size, ![1, 9, 1, 1], inb2⟩ : LoadRect S5x288x2x128), pos⟩ : Rect S5x288x2x128) _ P (ix4 0 ⟨j - 8 * a, by omega⟩ h (y 1) : S1x8x2x128.Idx) _ hx).trans ?_
  refine (pay179_apply _ _).trans (congrArg w (funext fun b => Fin.ext ?_))
  rw [LoadRect.idx_apply]
  fin_cases b
  · show (8 * n + g) / 140 + 1 * 0 = (8 * n + (y 0).val) / 140 % 2
    omega
  · show (8 * n + g) % 140 * 64 + 16 * a + 1 * (2 * (j - 8 * a) + h.val) = ((8 * n + (y 0).val) % 140 * 64 + (2 * j + h.val)) % 8960
    rw [hy]
    omega
  · show 0 + 1 * (y 1).val = (y 1).val
    omega

/-- It leaves the other pairs and the other groups. -/
theorem gather_other (P : S5x288x2x128.Idx → Elt Ideal .bf16) {k g a : ℕ} (hg : g < 8) (ha : a < 4)
    {off2 : Fin 4 → ℕ} (h2 : off2 = ![k, 72 * a + g, 0, 0]) (inb2) (pos) (u)
    (j : ℕ) (hj : j < 32) (h : Fin 2) (y : S8x128.Idx) (hne : (y 0).val ≠ g ∨ j < 8 * a ∨ 8 * a + 8 ≤ j) :
    atP (upd (⟨(⟨off2, S1x8x2x128.size, ![1, 9, 1, 1], inb2⟩ : LoadRect S5x288x2x128), pos⟩ : Rect S5x288x2x128) u P) k j h y = atP P k j h y := by
  subst h2
  refine upd_off _ _ _ _ 1 fun m hm => ?_
  have h8 : (y 0).val < 8 := (y 0).isLt
  have hm : m < 8 := hm
  show (9 * j + (y 0).val) % 288 ≠ 72 * a + g + 9 * m
  omega

/-- Storing a block's words. -/
theorem word_same (C : S5x72x128.Idx → Elt Ideal .i32) {k i : ℕ} (hk : k < 5) (hi : i < 8) {off : Fin 3 → ℕ} (ho : off = ![k, i, 0]) (inb) (pos) (v : IVec S8x128 32) :
    atC (upd (⟨(⟨off, S1x8x128.size, ![1, 9, 1], inb⟩ : LoadRect S5x72x128), pos⟩ : Rect S5x72x128) (shapeCast S1x8x128 v shapeCasts_S8x128_S1x8x128) C) k i = v := by
  subst ho
  funext y
  have h8 : (y 0).val < 8 := (y 0).isLt
  have hx : ∀ b : Fin 3, ((ix3 (⟨k % 5, Nat.mod_lt _ (by decide)⟩ : Fin 5) (⟨(9 * (y 0).val + i) % 72, Nat.mod_lt _ (by decide)⟩ : Fin 72) (y 1) : S5x72x128.Idx) b).val
      = (![k, i, 0] : Fin 3 → ℕ) b + (![1, 9, 1] : Fin 3 → ℕ) b * ((ix3 0 (y 0) (y 1) : S1x8x128.Idx) b).val := by
    intro b
    fin_cases b
    · show k % 5 = k + 1 * 0
      omega
    · show (9 * (y 0).val + i) % 72 = i + 9 * (y 0).val
      omega
    · show (y 1).val = 0 + 1 * (y 1).val
      omega
  exact (upd_at (⟨(⟨![k, i, 0], S1x8x128.size, ![1, 9, 1], inb⟩ : LoadRect S5x72x128), pos⟩ : Rect S5x72x128) _ C (ix3 0 (y 0) (y 1) : S1x8x128.Idx) _ hx).trans (add_1 v y)

/-- It leaves the other blocks' words. -/
theorem word_other (C : S5x72x128.Idx → Elt Ideal .i32) {k i i' : ℕ} (hi : i < 8) (hi' : i' < 8) (hne : i' ≠ i) {off : Fin 3 → ℕ} (ho : off = ![k, i, 0]) (inb) (pos) (u) :
    atC (upd (⟨(⟨off, S1x8x128.size, ![1, 9, 1], inb⟩ : LoadRect S5x72x128), pos⟩ : Rect S5x72x128) u C) k i' = atC C k i' := by
  subst ho
  funext y
  have h8 : (y 0).val < 8 := (y 0).isLt
  refine upd_off _ _ _ _ 1 fun m hm => ?_
  have hm : m < 8 := hm
  show (9 * (y 0).val + i') % 72 ≠ i + 9 * m
  omega

/-- Or-ing together single bits. -/
theorem bits8 : ∀ b : Fin 8 → Bool, ∀ q : Fin 8,
    ((List.finRange 8).foldl (fun (acc : BitVec 8) (q : Fin 8) => if b q then acc ||| BitVec.twoPow 8 q.val else acc) 0).getLsbD q.val = b q := by
  decide +kernel

/-- Words seen as bytes. -/
theorem bytes_apply (v : IVec S8x128 32) (y : S32x128.Idx) :
    bitcast S32x128 8 v bitcasts_S8x128_w32_S32x128_w8 y
      = (v (ix2 ⟨(y 0).val / 4, by have h : (y 0).val < 32 := (y 0).isLt; omega⟩ (y 1))).extractLsb' (8 * ((y 0).val % 4)) 8 := by
  refine BitVec.eq_of_getLsbD_eq fun q hq => ?_
  have h32 : (y 0).val < 32 := (y 0).isLt
  unfold bitcast
  refine (bits8 _ ⟨q, hq⟩).trans ?_
  rw [BitVec.getLsbD_extractLsb']
  simp only [hq, decide_true, Bool.true_and]
  refine congrArg₂ BitVec.getLsbD ?_ (show ((y 0).val * 8 + q) % 32 = 8 * ((y 0).val % 4) + q by omega)
  refine congrArg v (funext fun a => Fin.ext ?_)
  fin_cases a
  · show ((y 0).val * 8 + q) / 32 = (y 0).val / 4
    omega
  · rfl

/-- Scattering one group's words: its rows of packed codes. -/
theorem scatter_same (K : S2x4480x128.Idx → Elt Ideal .i8) (C : S5x72x128.Idx → Elt Ideal .i32) {k n g : ℕ} (hk : k < 5) (hn : n < 35) (hg : g < 8)
    {off1 : Fin 3 → ℕ} (h1 : off1 = ![k, 9 * g, 0]) (inb1) {off2 : Fin 3 → ℕ} (h2 : off2 = ![(8 * n + g) / 140, (8 * n + g) % 140 * 32, 0]) (inb2)
    (r : ℕ) (hr : r < 32) (y : S8x128.Idx) (hy : (y 0).val = g) :
    atK (upd (Rect.unit (s := S2x4480x128) off2 S1x32x128.size inb2) (k0_pay258 (F := Ideal) (fun x => C ((Rect.unit (s := S5x72x128) off1 S1x8x128.size inb1).toLoadRect.idx x))) K) n r y
      = (atC C k (r / 4) y).extractLsb' (8 * (r % 4)) 8 := by
  subst h1 h2
  have hx : ∀ b : Fin 3, ((ix3 (⟨(8 * n + (y 0).val) / 140 % 2, Nat.mod_lt _ (by decide)⟩ : Fin 2) (⟨((8 * n + (y 0).val) % 140 * 32 + r) % 4480, Nat.mod_lt _ (by decide)⟩ : Fin 4480) (y 1) : S2x4480x128.Idx) b).val
      = (![(8 * n + g) / 140, (8 * n + g) % 140 * 32, 0] : Fin 3 → ℕ) b + 1 * ((ix3 0 ⟨r, hr⟩ (y 1) : S1x32x128.Idx) b).val := by
    intro b
    fin_cases b
    · show (8 * n + (y 0).val) / 140 % 2 = (8 * n + g) / 140 + 1 * 0
      omega
    · show ((8 * n + (y 0).val) % 140 * 32 + r) % 4480 = (8 * n + g) % 140 * 32 + 1 * r
      rw [hy]
      omega
    · show (y 1).val = 0 + 1 * (y 1).val
      omega
  refine (upd_at (Rect.unit (s := S2x4480x128) ![(8 * n + g) / 140, (8 * n + g) % 140 * 32, 0] S1x32x128.size inb2) _ K (ix3 0 ⟨r, hr⟩ (y 1) : S1x32x128.Idx) _ hx).trans ?_
  unfold k0_pay258
  refine (shapeCast_apply _ shapeCasts_S32x128_S1x32x128 _ (ix2 ⟨r, hr⟩ (y 1) : S32x128.Idx) (by
    rw [Shape.rowMajor_val_three, Shape.rowMajor_val_two]
    show r * 128 + (y 1).val = (0 * 32 + r) * 128 + (y 1).val
    omega)).trans ?_
  refine (bytes_apply _ _).trans ?_
  show BitVec.extractLsb' (8 * (r % 4)) 8 _ = _
  congr 1
  refine (drop_1 _ _).trans (congrArg C (funext fun b => Fin.ext ?_))
  rw [LoadRect.idx_apply]
  fin_cases b
  · show k + 1 * 0 = k % 5
    omega
  · show 9 * g + 1 * (r / 4) = (9 * (y 0).val + r / 4) % 72
    omega
  · show 0 + 1 * (y 1).val = (y 1).val
    omega

/-- It leaves the other groups' rows. -/
theorem scatter_other (K : S2x4480x128.Idx → Elt Ideal .i8) {n n' g : ℕ} (hn : n < 35) (hn' : n' < 35) (hg : g < 8)
    {off2 : Fin 3 → ℕ} (h2 : off2 = ![(8 * n + g) / 140, (8 * n + g) % 140 * 32, 0]) (inb2) (u)
    (r : ℕ) (hr : r < 32) (y : S8x128.Idx) (hne : n' ≠ n ∨ (y 0).val ≠ g) :
    atK (upd (Rect.unit (s := S2x4480x128) off2 S1x32x128.size inb2) u K) n' r y = atK K n' r y := by
  subst h2
  have h8 : (y 0).val < 8 := (y 0).isLt
  have hf : (8 * n' + (y 0).val) / 140 ≠ (8 * n + g) / 140 ∨ (8 * n' + (y 0).val) % 140 ≠ (8 * n + g) % 140 := by omega
  rcases hf with hf | hf
  · refine upd_off _ _ _ _ 0 fun m hm => ?_
    have hm : m < 1 := hm
    show (8 * n' + (y 0).val) / 140 % 2 ≠ (8 * n + g) / 140 + 1 * m
    omega
  · refine upd_off _ _ _ _ 1 fun m hm => ?_
    have hm : m < 32 := hm
    show ((8 * n' + (y 0).val) % 140 * 32 + r) % 4480 ≠ (8 * n + g) % 140 * 32 + 1 * m
    omega

/-- Storing a tile's statistic. -/
theorem stat_same (S : S4x280x128.Idx → Elt Ideal .f32) {a n : ℕ} (ha : a < 4) (hn : n < 35) {off : Fin 3 → ℕ} (ho : off = ![a, 8 * n, 0]) (inb) (v : V) :
    atS (upd (Rect.unit (s := S4x280x128) off S1x8x128.size inb) (shapeCast S1x8x128 v shapeCasts_S8x128_S1x8x128) S) a n = v := by
  subst ho
  funext y
  have h8 : (y 0).val < 8 := (y 0).isLt
  have hx : ∀ b : Fin 3, ((ix3 (⟨a % 4, Nat.mod_lt _ (by decide)⟩ : Fin 4) (⟨(8 * n + (y 0).val) % 280, Nat.mod_lt _ (by decide)⟩ : Fin 280) (y 1) : S4x280x128.Idx) b).val
      = (![a, 8 * n, 0] : Fin 3 → ℕ) b + 1 * ((ix3 0 (y 0) (y 1) : S1x8x128.Idx) b).val := by
    intro b
    fin_cases b
    · show a % 4 = a + 1 * 0
      omega
    · show (8 * n + (y 0).val) % 280 = 8 * n + 1 * (y 0).val
      omega
    · show (y 1).val = 0 + 1 * (y 1).val
      omega
  exact (upd_at (Rect.unit (s := S4x280x128) ![a, 8 * n, 0] S1x8x128.size inb) _ S (ix3 0 (y 0) (y 1) : S1x8x128.Idx) _ hx).trans (add_1 v y)

/-- It leaves the other statistics and the other tiles. -/
theorem stat_other (S : S4x280x128.Idx → Elt Ideal .f32) {a n a' n' : ℕ} (ha : a < 4) (hn : n < 35) (ha' : a' < 4) (hn' : n' < 35) (hne : a' ≠ a ∨ n' ≠ n)
    {off : Fin 3 → ℕ} (ho : off = ![a, 8 * n, 0]) (inb) (u) :
    atS (upd (Rect.unit (s := S4x280x128) off S1x8x128.size inb) u S) a' n' = atS S a' n' := by
  subst ho
  funext y
  have h8 : (y 0).val < 8 := (y 0).isLt
  rcases hne with hne | hne
  · refine upd_off _ _ _ _ 0 fun m hm => ?_
    have hm : m < 1 := hm
    show a' % 4 ≠ a + 1 * m
    omega
  · refine upd_off _ _ _ _ 1 fun m hm => ?_
    have hm : m < 8 := hm
    show (8 * n' + (y 0).val) % 280 ≠ 8 * n + 1 * m
    omega

end Cert.Proof.KernelIdealAccess
-- ==== Proof.KernelIdealOffsets.lean ====
/- Where each access of the idealized kernel starts, in closed form: the programs compute these offsets with 32-bit integer
   arithmetic. -/
module

public import proofs.«01_k».proof.KernelIdeal

@[expose] public section

namespace Cert.Proof.KernelIdealOffsets

open Cert.KernelIdeal Idealize.ShloMosaic

/-- Tile 0: the weights of row group `g` start here, sixteen rows at a time. -/
theorem off1 : ∀ (i : Fin k0_t1_loop.trips) (g : Fin k0_t2_loop.trips) (a : Fin 4), k0_off1 i g (BitVec.ofNat 32 (16 * a.val)) = ![(8 * (5 * i.val + 0) + g.val) / 140, (8 * (5 * i.val + 0) + g.val) % 140 * 64 + 16 * a.val, 0] := by decide +kernel

/-- Tile 0: where a group's row pairs go. -/
theorem off2 : ∀ (g : Fin k0_t2_loop.trips) (a : Fin 4), k0_off2 g (BitVec.ofNat 32 (72 * a.val)) = ![0, 72 * a.val + g.val, 0, 0] := by decide +kernel

/-- Tile 0: the row pairs read for the extremes. -/
theorem off3 : ∀ (j : Fin k0_t3_loop.trips), k0_off3 j = ![0, 9 * (j.val + 1), 0, 0] := by decide +kernel

/-- Tile 0: the row pairs read for the normalised rows. -/
theorem off4 : ∀ (j : Fin k0_t4_loop.trips), k0_off4 j = ![0, 9 * j.val, 0, 0] := by decide +kernel

/-- Tile 0: the even normalised rows. -/
theorem off5 : ∀ (j : Fin k0_t4_loop.trips), k0_off5 j = ![0, 2 * j.val, 0, 0] := by decide +kernel

/-- Tile 0: the odd normalised rows. -/
theorem off6 : ∀ (j : Fin k0_t4_loop.trips), k0_off6 j = ![0, 2 * j.val + 1, 0, 0] := by decide +kernel

/-- Tile 0: the row read by a pass over the rows. -/
theorem off31 : ∀ (r : Fin k0_t18_loop.trips), k0_off31 r = ![0, r.val, 0, 0] := by decide +kernel

/-- Tile 0: the rows whose codes make up one word. -/
theorem off36 : ∀ (i : Fin k0_t23_loop.trips) (a : Fin 8), k0_off36 i (BitVec.ofNat 32 a.val) = ![0, 8 * i.val + a.val, 0, 0] := by decide +kernel

/-- Tile 0: where the words go. -/
theorem off37 : ∀ (i : Fin k0_t23_loop.trips), k0_off37 i = ![0, i.val, 0] := by decide +kernel

/-- Tile 0: the words of one group. -/
theorem off38 : ∀ (g : Fin k0_t24_loop.trips), k0_off38 g = ![0, 9 * g.val, 0] := by decide +kernel

/-- Tile 0: where a group's packed codes go. -/
theorem off39 : ∀ (i : Fin k0_t1_loop.trips) (g : Fin k0_t24_loop.trips), k0_off39 i g = ![(8 * (5 * i.val + 0) + g.val) / 140, (8 * (5 * i.val + 0) + g.val) % 140 * 32, 0] := by decide +kernel

/-- Tile 1: the weights of row group `g` start here, sixteen rows at a time. -/
theorem off7 : ∀ (i : Fin k0_t1_loop.trips) (g : Fin k0_t5_loop.trips) (a : Fin 4), k0_off7 i g (BitVec.ofNat 32 (16 * a.val)) = ![(8 * (5 * i.val + 1) + g.val) / 140, (8 * (5 * i.val + 1) + g.val) % 140 * 64 + 16 * a.val, 0] := by decide +kernel

/-- Tile 1: where a group's row pairs go. -/
theorem off8 : ∀ (g : Fin k0_t5_loop.trips) (a : Fin 4), k0_off8 g (BitVec.ofNat 32 (72 * a.val)) = ![1, 72 * a.val + g.val, 0, 0] := by decide +kernel

/-- Tile 1: the row pairs read for the extremes. -/
theorem off9 : ∀ (j : Fin k0_t6_loop.trips), k0_off9 j = ![1, 9 * (j.val + 1), 0, 0] := by decide +kernel

/-- Tile 1: the row pairs read for the normalised rows. -/
theorem off10 : ∀ (j : Fin k0_t7_loop.trips), k0_off10 j = ![1, 9 * j.val, 0, 0] := by decide +kernel

/-- Tile 1: the even normalised rows. -/
theorem off11 : ∀ (j : Fin k0_t7_loop.trips), k0_off11 j = ![1, 2 * j.val, 0, 0] := by decide +kernel

/-- Tile 1: the odd normalised rows. -/
theorem off12 : ∀ (j : Fin k0_t7_loop.trips), k0_off12 j = ![1, 2 * j.val + 1, 0, 0] := by decide +kernel

/-- Tile 1: the row read by a pass over the rows. -/
theorem off32 : ∀ (r : Fin k0_t19_loop.trips), k0_off32 r = ![1, r.val, 0, 0] := by decide +kernel

/-- Tile 1: the rows whose codes make up one word. -/
theorem off44 : ∀ (i : Fin k0_t25_loop.trips) (a : Fin 8), k0_off44 i (BitVec.ofNat 32 a.val) = ![1, 8 * i.val + a.val, 0, 0] := by decide +kernel

/-- Tile 1: where the words go. -/
theorem off45 : ∀ (i : Fin k0_t25_loop.trips), k0_off45 i = ![1, i.val, 0] := by decide +kernel

/-- Tile 1: the words of one group. -/
theorem off46 : ∀ (g : Fin k0_t26_loop.trips), k0_off46 g = ![1, 9 * g.val, 0] := by decide +kernel

/-- Tile 1: where a group's packed codes go. -/
theorem off47 : ∀ (i : Fin k0_t1_loop.trips) (g : Fin k0_t26_loop.trips), k0_off47 i g = ![(8 * (5 * i.val + 1) + g.val) / 140, (8 * (5 * i.val + 1) + g.val) % 140 * 32, 0] := by decide +kernel

/-- Tile 2: the weights of row group `g` start here, sixteen rows at a time. -/
theorem off13 : ∀ (i : Fin k0_t1_loop.trips) (g : Fin k0_t8_loop.trips) (a : Fin 4), k0_off13 i g (BitVec.ofNat 32 (16 * a.val)) = ![(8 * (5 * i.val + 2) + g.val) / 140, (8 * (5 * i.val + 2) + g.val) % 140 * 64 + 16 * a.val, 0] := by decide +kernel

/-- Tile 2: where a group's row pairs go. -/
theorem off14 : ∀ (g : Fin k0_t8_loop.trips) (a : Fin 4), k0_off14 g (BitVec.ofNat 32 (72 * a.val)) = ![2, 72 * a.val + g.val, 0, 0] := by decide +kernel

/-- Tile 2: the row pairs read for the extremes. -/
theorem off15 : ∀ (j : Fin k0_t9_loop.trips), k0_off15 j = ![2, 9 * (j.val + 1), 0, 0] := by decide +kernel

/-- Tile 2: the row pairs read for the normalised rows. -/
theorem off16 : ∀ (j : Fin k0_t10_loop.trips), k0_off16 j = ![2, 9 * j.val, 0, 0] := by decide +kernel

/-- Tile 2: the even normalised rows. -/
theorem off17 : ∀ (j : Fin k0_t10_loop.trips), k0_off17 j = ![2, 2 * j.val, 0, 0] := by decide +kernel

/-- Tile 2: the odd normalised rows. -/
theorem off18 : ∀ (j : Fin k0_t10_loop.trips), k0_off18 j = ![2, 2 * j.val + 1, 0, 0] := by decide +kernel

/-- Tile 2: the row read by a pass over the rows. -/
theorem off33 : ∀ (r : Fin k0_t20_loop.trips), k0_off33 r = ![2, r.val, 0, 0] := by decide +kernel

/-- Tile 2: the rows whose codes make up one word. -/
theorem off48 : ∀ (i : Fin k0_t27_loop.trips) (a : Fin 8), k0_off48 i (BitVec.ofNat 32 a.val) = ![2, 8 * i.val + a.val, 0, 0] := by decide +kernel

/-- Tile 2: where the words go. -/
theorem off49 : ∀ (i : Fin k0_t27_loop.trips), k0_off49 i = ![2, i.val, 0] := by decide +kernel

/-- Tile 2: the words of one group. -/
theorem off50 : ∀ (g : Fin k0_t28_loop.trips), k0_off50 g = ![2, 9 * g.val, 0] := by decide +kernel

/-- Tile 2: where a group's packed codes go. -/
theorem off51 : ∀ (i : Fin k0_t1_loop.trips) (g : Fin k0_t28_loop.trips), k0_off51 i g = ![(8 * (5 * i.val + 2) + g.val) / 140, (8 * (5 * i.val + 2) + g.val) % 140 * 32, 0] := by decide +kernel

/-- Tile 3: the weights of row group `g` start here, sixteen rows at a time. -/
theorem off19 : ∀ (i : Fin k0_t1_loop.trips) (g : Fin k0_t11_loop.trips) (a : Fin 4), k0_off19 i g (BitVec.ofNat 32 (16 * a.val)) = ![(8 * (5 * i.val + 3) + g.val) / 140, (8 * (5 * i.val + 3) + g.val) % 140 * 64 + 16 * a.val, 0] := by decide +kernel

/-- Tile 3: where a group's row pairs go. -/
theorem off20 : ∀ (g : Fin k0_t11_loop.trips) (a : Fin 4), k0_off20 g (BitVec.ofNat 32 (72 * a.val)) = ![3, 72 * a.val + g.val, 0, 0] := by decide +kernel

/-- Tile 3: the row pairs read for the extremes. -/
theorem off21 : ∀ (j : Fin k0_t12_loop.trips), k0_off21 j = ![3, 9 * (j.val + 1), 0, 0] := by decide +kernel

/-- Tile 3: the row pairs read for the normalised rows. -/
theorem off22 : ∀ (j : Fin k0_t13_loop.trips), k0_off22 j = ![3, 9 * j.val, 0, 0] := by decide +kernel

/-- Tile 3: the even normalised rows. -/
theorem off23 : ∀ (j : Fin k0_t13_loop.trips), k0_off23 j = ![3, 2 * j.val, 0, 0] := by decide +kernel

/-- Tile 3: the odd normalised rows. -/
theorem off24 : ∀ (j : Fin k0_t13_loop.trips), k0_off24 j = ![3, 2 * j.val + 1, 0, 0] := by decide +kernel

/-- Tile 3: the row read by a pass over the rows. -/
theorem off34 : ∀ (r : Fin k0_t21_loop.trips), k0_off34 r = ![3, r.val, 0, 0] := by decide +kernel

/-- Tile 3: the rows whose codes make up one word. -/
theorem off52 : ∀ (i : Fin k0_t29_loop.trips) (a : Fin 8), k0_off52 i (BitVec.ofNat 32 a.val) = ![3, 8 * i.val + a.val, 0, 0] := by decide +kernel

/-- Tile 3: where the words go. -/
theorem off53 : ∀ (i : Fin k0_t29_loop.trips), k0_off53 i = ![3, i.val, 0] := by decide +kernel

/-- Tile 3: the words of one group. -/
theorem off54 : ∀ (g : Fin k0_t30_loop.trips), k0_off54 g = ![3, 9 * g.val, 0] := by decide +kernel

/-- Tile 3: where a group's packed codes go. -/
theorem off55 : ∀ (i : Fin k0_t1_loop.trips) (g : Fin k0_t30_loop.trips), k0_off55 i g = ![(8 * (5 * i.val + 3) + g.val) / 140, (8 * (5 * i.val + 3) + g.val) % 140 * 32, 0] := by decide +kernel

/-- Tile 4: the weights of row group `g` start here, sixteen rows at a time. -/
theorem off25 : ∀ (i : Fin k0_t1_loop.trips) (g : Fin k0_t14_loop.trips) (a : Fin 4), k0_off25 i g (BitVec.ofNat 32 (16 * a.val)) = ![(8 * (5 * i.val + 4) + g.val) / 140, (8 * (5 * i.val + 4) + g.val) % 140 * 64 + 16 * a.val, 0] := by decide +kernel

/-- Tile 4: where a group's row pairs go. -/
theorem off26 : ∀ (g : Fin k0_t14_loop.trips) (a : Fin 4), k0_off26 g (BitVec.ofNat 32 (72 * a.val)) = ![4, 72 * a.val + g.val, 0, 0] := by decide +kernel

/-- Tile 4: the row pairs read for the extremes. -/
theorem off27 : ∀ (j : Fin k0_t15_loop.trips), k0_off27 j = ![4, 9 * (j.val + 1), 0, 0] := by decide +kernel

/-- Tile 4: the row pairs read for the normalised rows. -/
theorem off28 : ∀ (j : Fin k0_t16_loop.trips), k0_off28 j = ![4, 9 * j.val, 0, 0] := by decide +kernel

/-- Tile 4: the even normalised rows. -/
theorem off29 : ∀ (j : Fin k0_t16_loop.trips), k0_off29 j = ![4, 2 * j.val, 0, 0] := by decide +kernel

/-- Tile 4: the odd normalised rows. -/
theorem off30 : ∀ (j : Fin k0_t16_loop.trips), k0_off30 j = ![4, 2 * j.val + 1, 0, 0] := by decide +kernel

/-- Tile 4: the row read by a pass over the rows. -/
theorem off35 : ∀ (r : Fin k0_t22_loop.trips), k0_off35 r = ![4, r.val, 0, 0] := by decide +kernel

/-- Tile 4: the rows whose codes make up one word. -/
theorem off56 : ∀ (i : Fin k0_t31_loop.trips) (a : Fin 8), k0_off56 i (BitVec.ofNat 32 a.val) = ![4, 8 * i.val + a.val, 0, 0] := by decide +kernel

/-- Tile 4: where the words go. -/
theorem off57 : ∀ (i : Fin k0_t31_loop.trips), k0_off57 i = ![4, i.val, 0] := by decide +kernel

/-- Tile 4: the words of one group. -/
theorem off58 : ∀ (g : Fin k0_t32_loop.trips), k0_off58 g = ![4, 9 * g.val, 0] := by decide +kernel

/-- Tile 4: where a group's packed codes go. -/
theorem off59 : ∀ (i : Fin k0_t1_loop.trips) (g : Fin k0_t32_loop.trips), k0_off59 i g = ![(8 * (5 * i.val + 4) + g.val) / 140, (8 * (5 * i.val + 4) + g.val) % 140 * 32, 0] := by decide +kernel

/-- Where a tile's statistic 0 goes. -/
theorem off40 : ∀ (i : Fin k0_t1_loop.trips) (a : Fin 5), k0_off40 i (BitVec.ofNat 32 a.val) = ![0, 8 * (5 * i.val + a.val), 0] := by decide +kernel

/-- Where a tile's statistic 1 goes. -/
theorem off41 : ∀ (i : Fin k0_t1_loop.trips) (a : Fin 5), k0_off41 i (BitVec.ofNat 32 a.val) = ![1, 8 * (5 * i.val + a.val), 0] := by decide +kernel

/-- Where a tile's statistic 2 goes. -/
theorem off42 : ∀ (i : Fin k0_t1_loop.trips) (a : Fin 5), k0_off42 i (BitVec.ofNat 32 a.val) = ![2, 8 * (5 * i.val + a.val), 0] := by decide +kernel

/-- Where a tile's statistic 3 goes. -/
theorem off43 : ∀ (i : Fin k0_t1_loop.trips) (a : Fin 5), k0_off43 i (BitVec.ofNat 32 a.val) = ![3, 8 * (5 * i.val + a.val), 0] := by decide +kernel

end Cert.Proof.KernelIdealOffsets
-- ==== Proof.TripleSeq.lean ====
/- Runs taken step by step: what follows a step is part of what is to be shown of the step. -/
module

public import proofs.«01_k».proof.Proof.Triple

@[expose] public section

noncomputable section

namespace Cert.Proof.Triple

open Idealize.ShloMosaic Idealize.ShloMosaic.TcCoe Idealize.ShloMosaic.Tactic
open Idealize.SL Idealize.SL.RA Idealize.SL.BI Idealize.SL.Sem
open Idealize.ShloMosaic.Rounds Idealize.ShloMosaic.Pipeline

variable {nD : Nat} {τ : Topo} {sig : RefSig} {Val : EltTy → Type} {Λ : Labels}
variable {St : Type} {defs : Defs nD τ sig Val Λ} {𝒱 : Variants} {c : Dev nD} {Own : St → sProp (MT nD τ sig Unit Val ℕ (UR sig nD τ) ℕ)}

/-- A program followed by a continuation runs if the program runs to states from which the continuation does. -/
theorem Run.seq {α β : Type} {σ : St} {p : Prog (TpuEff nD τ sig Val Λ .tc) α} {k : α → Prog (TpuEff nD τ sig Val Λ .tc) β}
    {Q : β → St → Prop} (h : Run defs 𝒱 c Own σ p (fun a σ' => Run defs 𝒱 c Own σ' (k a) Q)) : Run defs 𝒱 c Own σ (p >>= k) Q :=
  Run.bind h fun _ _ h' => h'

/-- The same with the program's run known by its own conclusion. -/
theorem Run.andThen {α β : Type} {σ : St} {p : Prog (TpuEff nD τ sig Val Λ .tc) α} {k : α → Prog (TpuEff nD τ sig Val Λ .tc) β}
    {Q : α → St → Prop} {Q' : β → St → Prop} (h : Run defs 𝒱 c Own σ p Q)
    (hk : ∀ a σ', Q a σ' → Run defs 𝒱 c Own σ' (k a) Q') : Run defs 𝒱 c Own σ (p >>= k) Q' := Run.bind h hk

end Cert.Proof.Triple
-- ==== Proof.KernelIdealSections.lean ====
/- The kernel's other passes over one tile: gathering, extremes, normalising, coding, scattering. -/
module

public import proofs.«01_k».proof.Proof.KernelIdealAccess2
public import proofs.«01_k».proof.Proof.KernelIdealOffsets
public import proofs.«01_k».proof.Proof.TripleSeq

@[expose] public section

noncomputable section

namespace Cert.Proof.KernelIdealSections

open Cert.KernelIdeal Cert.KernelIdeal.Gen Cert.Proof.Triple Cert.Proof.KernelIdealState Cert.Proof.KernelIdealModel Cert.Proof.KernelIdealAccess Cert.Proof.KernelIdealOffsets
open Idealize.ShloMosaic Idealize.ShloMosaic.TcCoe Idealize.SL Idealize.SL.Sem

variable {defs : Defs nD τ sig (Elt Ideal) Λ₀} {𝒱 : Variants} {c : Dev nD} {arg2 : Memref sig .tc .vmem S2x8960x128 .bf16} {arg3 : Memref sig .tc .vmem S2x4480x128 .i8} {arg4 : Memref sig .tc .vmem S2x140x128 .f32} {arg5 : Memref sig .tc .vmem S2x140x128 .f32} {arg6 : Memref sig .tc .vmem S2x140x128 .f32} {arg7 : Memref sig .tc .vmem S2x140x128 .f32} {arg8 : Memref sig .tc .vmem S5x288x2x128 .bf16} {arg9 : Memref sig .tc .vmem S5x64x8x128 .f32} {arg10 : Memref sig .tc .vmem S5x72x128 .i32} {arg11 : Memref sig .tc .vmem S4x280x128 .f32}

/-- Gathering a tile's rows in pairs. -/
theorem gather {σ : St Ideal} {k n : ℕ} (hk : k < 5) (hn : n < 35) {L : Scf.Loop 32} (ok : L.OK) (hL : L.trips = 8)
    (off1 : Fin L.trips → Fin 4 → Fin 3 → ℕ) (h1 : ∀ g a, off1 g a = ![(8 * n + g.val) / 140, (8 * n + g.val) % 140 * 64 + 16 * a.val, 0])
    (inb1 : ∀ g a b, off1 g a b + S1x16x128.size b ≤ S2x8960x128.size b) (ld1 : ∀ g a, arg2.view.LoadsAt (Rect.unit (s := S2x8960x128) (off1 g a) S1x16x128.size (inb1 g a)).toLoadRect)
    (off2 : Fin L.trips → Fin 4 → Fin 4 → ℕ) (h2 : ∀ g a, off2 g a = ![k, 72 * a.val + g.val, 0, 0])
    (inb2 : ∀ g a b, S1x8x2x128.size b = 0 ∨ off2 g a b + (![1, 9, 1, 1] : Fin 4 → ℕ) b * (S1x8x2x128.size b - 1) < S5x288x2x128.size b)
    (ld2 : ∀ g a, arg8.view.LoadsAt (⟨off2 g a, S1x8x2x128.size, ![1, 9, 1, 1], inb2 g a⟩ : LoadRect S5x288x2x128)) (pos : ∀ b : Fin 4, 0 < (![1, 9, 1, 1] : Fin 4 → ℕ) b)
    (st : ∀ g a, (arg8.access (⟨(⟨off2 g a, S1x8x2x128.size, ![1, 9, 1, 1], inb2 g a⟩ : LoadRect S5x288x2x128), pos⟩ : Rect S5x288x2x128)).Stores Finset.univ)
    (body : Fin L.trips → Unit → Prog (TpuEff nD τ sig (Elt Ideal) Λ₀ .tc) Unit)
    (hbody : ∀ g u, body g u = (do
      let v : Vec Ideal S1x16x128 .bf16 ← Prog.lift (.load arg2 (Rect.unit (s := S2x8960x128) (off1 g 0) S1x16x128.size (inb1 g 0)).toLoadRect (ld1 g 0))
      let _ : Vec Ideal S1x8x2x128 .bf16 ← Prog.lift (.load arg8 (⟨off2 g 0, S1x8x2x128.size, ![1, 9, 1, 1], inb2 g 0⟩ : LoadRect S5x288x2x128) (ld2 g 0))
      Prog.lift (.store arg8 (⟨(⟨off2 g 0, S1x8x2x128.size, ![1, 9, 1, 1], inb2 g 0⟩ : LoadRect S5x288x2x128), pos⟩ : Rect S5x288x2x128) (k0_pay179 v) Finset.univ (st g 0) (.inl rfl))
      let v : Vec Ideal S1x16x128 .bf16 ← Prog.lift (.load arg2 (Rect.unit (s := S2x8960x128) (off1 g 1) S1x16x128.size (inb1 g 1)).toLoadRect (ld1 g 1))
      let _ : Vec Ideal S1x8x2x128 .bf16 ← Prog.lift (.load arg8 (⟨off2 g 1, S1x8x2x128.size, ![1, 9, 1, 1], inb2 g 1⟩ : LoadRect S5x288x2x128) (ld2 g 1))
      Prog.lift (.store arg8 (⟨(⟨off2 g 1, S1x8x2x128.size, ![1, 9, 1, 1], inb2 g 1⟩ : LoadRect S5x288x2x128), pos⟩ : Rect S5x288x2x128) (k0_pay179 v) Finset.univ (st g 1) (.inl rfl))
      let v : Vec Ideal S1x16x128 .bf16 ← Prog.lift (.load arg2 (Rect.unit (s := S2x8960x128) (off1 g 2) S1x16x128.size (inb1 g 2)).toLoadRect (ld1 g 2))
      let _ : Vec Ideal S1x8x2x128 .bf16 ← Prog.lift (.load arg8 (⟨off2 g 2, S1x8x2x128.size, ![1, 9, 1, 1], inb2 g 2⟩ : LoadRect S5x288x2x128) (ld2 g 2))
      Prog.lift (.store arg8 (⟨(⟨off2 g 2, S1x8x2x128.size, ![1, 9, 1, 1], inb2 g 2⟩ : LoadRect S5x288x2x128), pos⟩ : Rect S5x288x2x128) (k0_pay179 v) Finset.univ (st g 2) (.inl rfl))
      let v : Vec Ideal S1x16x128 .bf16 ← Prog.lift (.load arg2 (Rect.unit (s := S2x8960x128) (off1 g 3) S1x16x128.size (inb1 g 3)).toLoadRect (ld1 g 3))
      let _ : Vec Ideal S1x8x2x128 .bf16 ← Prog.lift (.load arg8 (⟨off2 g 3, S1x8x2x128.size, ![1, 9, 1, 1], inb2 g 3⟩ : LoadRect S5x288x2x128) (ld2 g 3))
      Prog.lift (.store arg8 (⟨(⟨off2 g 3, S1x8x2x128.size, ![1, 9, 1, 1], inb2 g 3⟩ : LoadRect S5x288x2x128), pos⟩ : Rect S5x288x2x128) (k0_pay179 v) Finset.univ (st g 3) (.inl rfl))
      pure ⟨⟩))
    {Q : Unit → St Ideal → Prop} (hQ : ∀ P', (∀ j < 32, ∀ h : Fin 2, atP P' k j h = wAt σ.w n (2 * j + h.val)) → Q ⟨⟩ { σ with pair := P' }) :
    Run defs 𝒱 c (Held (F := Ideal) c arg2 arg3 arg4 arg5 arg6 arg7 arg8 arg9 arg10 arg11) σ (Scf.Loop.for L ok ⟨⟩ body) Q := by
  refine Run.loop _ _ _ _ _ _ (fun m _ σ' => ∃ P', σ' = { σ with pair := P' } ∧ ∀ j < 32, ∀ (h : Fin 2) (y : S8x128.Idx), (y 0).val < m → atP P' k j h y = wAt σ.w n (2 * j + h.val) y)
    ⟨σ.pair, rfl, fun _ _ _ _ h => absurd h (Nat.not_lt_zero _)⟩ ?_ ?_
  · rintro g u σ' ⟨P', rfl, hP⟩
    have hg : g.val < 8 := lt_of_lt_of_eq g.isLt hL
    rw [hbody]
    refine Run.seq (Run.load cell2 _ _ (Run.seq (Run.load cell8 _ _ (Run.seq (Run.store cell8 _ _ _ _ ?_)))))
    refine Run.seq (Run.load cell2 _ _ (Run.seq (Run.load cell8 _ _ (Run.seq (Run.store cell8 _ _ _ _ ?_)))))
    refine Run.seq (Run.load cell2 _ _ (Run.seq (Run.load cell8 _ _ (Run.seq (Run.store cell8 _ _ _ _ ?_)))))
    refine Run.seq (Run.load cell2 _ _ (Run.seq (Run.load cell8 _ _ (Run.seq (Run.store cell8 _ _ _ _ ?_)))))
    dsimp only
    refine Run.ret _ ⟨_, rfl, fun j hj h y hy => ?_⟩
    by_cases hyg : (y 0).val = g.val
    · by_cases c3 : 24 ≤ j
      · exact gather_same _ σ.w hk hn hg (by decide : 3 < 4) (h1 g 3) _ (h2 g 3) _ _ j (by omega) (by omega) h y hyg
      refine (gather_other _ hg (by decide : 3 < 4) (h2 g 3) _ _ _ j hj h y (by omega)).trans ?_
      by_cases c2 : 16 ≤ j
      · exact gather_same _ σ.w hk hn hg (by decide : 2 < 4) (h1 g 2) _ (h2 g 2) _ _ j (by omega) (by omega) h y hyg
      refine (gather_other _ hg (by decide : 2 < 4) (h2 g 2) _ _ _ j hj h y (by omega)).trans ?_
      by_cases c1 : 8 ≤ j
      · exact gather_same _ σ.w hk hn hg (by decide : 1 < 4) (h1 g 1) _ (h2 g 1) _ _ j (by omega) (by omega) h y hyg
      refine (gather_other _ hg (by decide : 1 < 4) (h2 g 1) _ _ _ j hj h y (by omega)).trans ?_
      exact gather_same _ σ.w hk hn hg (by decide : 0 < 4) (h1 g 0) _ (h2 g 0) _ _ j (by omega) (by omega) h y hyg
    · refine (gather_other _ hg (by decide : 3 < 4) (h2 g 3) _ _ _ j hj h y (.inl hyg)).trans ?_
      refine (gather_other _ hg (by decide : 2 < 4) (h2 g 2) _ _ _ j hj h y (.inl hyg)).trans ?_
      refine (gather_other _ hg (by decide : 1 < 4) (h2 g 1) _ _ _ j hj h y (.inl hyg)).trans ?_
      refine (gather_other _ hg (by decide : 0 < 4) (h2 g 0) _ _ _ j hj h y (.inl hyg)).trans ?_
      exact hP j hj h y (by omega)
  · rintro acc σ' ⟨P', rfl, hP⟩
    have hT : Scf.trips L.lb L.ub L.st = 8 := hL
    exact hQ P' fun j hj h => funext fun y => hP j hj h y (by rw [hT]; exact (y 0).isLt)

/-- The extremes of a tile's rows, pair by pair. -/
theorem extremes {σ : St Ideal} {w : Wt} {k n : ℕ} (hk : k < 5) (hP : ∀ j < 32, ∀ h : Fin 2, atP σ.pair k j h = wAt w n (2 * j + h.val))
    (off0 : Fin 4 → ℕ) (h0 : off0 = ![k, 9 * 0, 0, 0]) (inb0 : ∀ b, off0 b + S1x8x2x128.size b ≤ S5x288x2x128.size b)
    {L : Scf.Loop 32} (ok : L.OK) (hL : L.trips = 31) (off : Fin L.trips → Fin 4 → ℕ) (ho : ∀ j, off j = ![k, 9 * (j.val + 1), 0, 0])
    (inb : ∀ j b, off j b + S1x8x2x128.size b ≤ S5x288x2x128.size b) (ld : ∀ j, arg8.view.LoadsAt (Rect.unit (s := S5x288x2x128) (off j) S1x8x2x128.size (inb j)).toLoadRect)
    (body : Fin L.trips → FVec Ideal S16x128 .bf16 × FVec Ideal S16x128 .bf16 → Prog (TpuEff nD τ sig (Elt Ideal) Λ₀ .tc) (FVec Ideal S16x128 .bf16 × FVec Ideal S16x128 .bf16))
    (hbody : ∀ j acc, body j acc = (do
      let v : Vec Ideal S1x8x2x128 .bf16 ← Prog.lift (.load arg8 (Rect.unit (s := S5x288x2x128) (off j) S1x8x2x128.size (inb j)).toLoadRect (ld j))
      pure (minimumf acc.1 (k0_pay182 v), maximumf acc.2 (k0_pay182 v))))
    {Q : FVec Ideal S16x128 .bf16 × FVec Ideal S16x128 .bf16 → St Ideal → Prop} (hQ : ∀ a b, k0_pay185 a = mnV w n → k0_pay186 b = mxV w n → Q (a, b) σ) :
    Run defs 𝒱 c (Held (F := Ideal) c arg2 arg3 arg4 arg5 arg6 arg7 arg8 arg9 arg10 arg11) σ (Scf.Loop.for L ok (k0_pay182 (fun x => σ.pair ((Rect.unit (s := S5x288x2x128) off0 S1x8x2x128.size inb0).toLoadRect.idx x)),
      k0_pay182 (fun x => σ.pair ((Rect.unit (s := S5x288x2x128) off0 S1x8x2x128.size inb0).toLoadRect.idx x))) body) Q := by
  have hread : ∀ (j : ℕ) (hj : j < 32) (off : Fin 4 → ℕ) (ho : off = ![k, 9 * j, 0, 0]) (inb) (h : Fin 2),
      rowsOfParity h S8x128 (k0_pay182 (F := Ideal) (fun x => σ.pair ((Rect.unit (s := S5x288x2x128) off S1x8x2x128.size inb).toLoadRect.idx x))) bitcasts_S16x128_w16_S8x128_w32
        = wAt w n (2 * j + h.val) := fun j hj off ho inb h =>
    (parity_pay182 _ h).trans ((load_p σ.pair hk hj ho inb h).trans (hP j hj h))
  refine Run.loop _ _ _ _ _ _ (fun m acc σ' => σ' = σ ∧ ∀ h : Fin 2, rowsOfParity h S8x128 acc.1 bitcasts_S16x128_w16_S8x128_w32 = mnPar w n h.val m
      ∧ rowsOfParity h S8x128 acc.2 bitcasts_S16x128_w16_S8x128_w32 = mxPar w n h.val m)
    ⟨rfl, fun h => ⟨(hread 0 (by omega) off0 h0 inb0 h).trans (congrArg (wAt w n) (by omega)), (hread 0 (by omega) off0 h0 inb0 h).trans (congrArg (wAt w n) (by omega))⟩⟩ ?_ ?_
  · rintro j acc σ' ⟨rfl, hacc⟩
    have hj : j.val < 31 := lt_of_lt_of_eq j.isLt hL
    rw [hbody]
    refine Run.seq (Run.load cell8 _ _ (Run.ret _ ⟨rfl, fun h => ⟨?_, ?_⟩⟩))
    · exact congrArg₂ (fun (a b : FVec Ideal S8x128 .bf16) => minimumf a b) (hacc h).1 (hread (j.val + 1) (by omega) _ (ho j) _ h)
    · exact congrArg₂ (fun (a b : FVec Ideal S8x128 .bf16) => maximumf a b) (hacc h).2 (hread (j.val + 1) (by omega) _ (ho j) _ h)
  · rintro ⟨a, b⟩ σ' ⟨rfl, hacc⟩
    have hT : Scf.trips L.lb L.ub L.st = 31 := hL
    rw [hT] at hacc
    refine hQ a b ?_ ?_
    · exact congrArg₂ (fun (a b : FVec Ideal S8x128 .bf16) => (minimumf (extf .f32 a) (extf .f32 b) : V)) (hacc 0).1 (hacc 1).1
    · exact congrArg₂ (fun (a b : FVec Ideal S8x128 .bf16) => (maximumf (extf .f32 a) (extf .f32 b) : V)) (hacc 0).2 (hacc 1).2

/-- Normalising a tile's rows. -/
theorem normalise {σ : St Ideal} {w : Wt} {k n : ℕ} (hk : k < 5) (hP : ∀ j < 32, ∀ h : Fin 2, atP σ.pair k j h = wAt w n (2 * j + h.val))
    {L : Scf.Loop 32} (ok : L.OK) (hL : L.trips = 32) (off : Fin L.trips → Fin 4 → ℕ) (ho : ∀ j, off j = ![k, 9 * j.val, 0, 0])
    (inb : ∀ j b, off j b + S1x8x2x128.size b ≤ S5x288x2x128.size b) (ld : ∀ j, arg8.view.LoadsAt (Rect.unit (s := S5x288x2x128) (off j) S1x8x2x128.size (inb j)).toLoadRect)
    (off0 : Fin L.trips → Fin 4 → ℕ) (h0 : ∀ j, off0 j = ![k, 2 * j.val, 0, 0])
    (inb0 : ∀ j a, off0 j a + S1x1x8x128.size a ≤ S5x64x8x128.size a) (ld0 : ∀ j, arg9.view.LoadsAt (Rect.unit (s := S5x64x8x128) (off0 j) S1x1x8x128.size (inb0 j)).toLoadRect)
    (st0 : ∀ j, (arg9.access (Rect.unit (s := S5x64x8x128) (off0 j) S1x1x8x128.size (inb0 j))).Stores Finset.univ)
    (off1 : Fin L.trips → Fin 4 → ℕ) (h1 : ∀ j, off1 j = ![k, 2 * j.val + 1, 0, 0])
    (inb1 : ∀ j a, off1 j a + S1x1x8x128.size a ≤ S5x64x8x128.size a) (ld1 : ∀ j, arg9.view.LoadsAt (Rect.unit (s := S5x64x8x128) (off1 j) S1x1x8x128.size (inb1 j)).toLoadRect)
    (st1 : ∀ j, (arg9.access (Rect.unit (s := S5x64x8x128) (off1 j) S1x1x8x128.size (inb1 j))).Stores Finset.univ)
    (body : Fin L.trips → Unit → Prog (TpuEff nD τ sig (Elt Ideal) Λ₀ .tc) Unit)
    (hbody : ∀ j u, body j u = (do
      let v : Vec Ideal S1x8x2x128 .bf16 ← Prog.lift (.load arg8 (Rect.unit (s := S5x288x2x128) (off j) S1x8x2x128.size (inb j)).toLoadRect (ld j))
      let _ : Vec Ideal S1x1x8x128 .f32 ← Prog.lift (.load arg9 (Rect.unit (s := S5x64x8x128) (off0 j) S1x1x8x128.size (inb0 j)).toLoadRect (ld0 j))
      Prog.lift (.store arg9 (Rect.unit (s := S5x64x8x128) (off0 j) S1x1x8x128.size (inb0 j)) (shapeCast S1x1x8x128 (mulf (extf .f32 (parity v 0)) (rsV w n) : V) shapeCasts_S8x128_S1x1x8x128) Finset.univ (st0 j) (.inl rfl))
      let _ : Vec Ideal S1x1x8x128 .f32 ← Prog.lift (.load arg9 (Rect.unit (s := S5x64x8x128) (off1 j) S1x1x8x128.size (inb1 j)).toLoadRect (ld1 j))
      Prog.lift (.store arg9 (Rect.unit (s := S5x64x8x128) (off1 j) S1x1x8x128.size (inb1 j)) (shapeCast S1x1x8x128 (mulf (extf .f32 (parity v 1)) (rsV w n) : V) shapeCasts_S8x128_S1x1x8x128) Finset.univ (st1 j) (.inl rfl))
      pure ⟨⟩))
    {Q : Unit → St Ideal → Prop} (hQ : ∀ X', (∀ r < 64, atX X' k r = xV w n r) → (∀ k' < 5, k' ≠ k → ∀ r < 64, atX X' k' r = atX σ.x k' r) → Q ⟨⟩ { σ with x := X' }) :
    Run defs 𝒱 c (Held (F := Ideal) c arg2 arg3 arg4 arg5 arg6 arg7 arg8 arg9 arg10 arg11) σ (Scf.Loop.for L ok ⟨⟩ body) Q := by
  refine Run.loop _ _ _ _ _ _ (fun m _ σ' => ∃ X', σ' = { σ with x := X' } ∧ (∀ r < 2 * m, atX X' k r = xV w n r) ∧ (∀ k' < 5, k' ≠ k → ∀ r < 64, atX X' k' r = atX σ.x k' r))
    ⟨σ.x, rfl, fun _ h => absurd h (Nat.not_lt_zero _), fun _ _ _ _ _ => rfl⟩ ?_ ?_
  · rintro j u σ' ⟨X', rfl, hX, hO⟩
    have hj : j.val < 32 := lt_of_lt_of_eq j.isLt hL
    rw [hbody]
    refine Run.seq (Run.load cell8 _ _ (Run.seq (Run.load cell9 _ _ (Run.seq (Run.store cell9 _ _ _ _ ?_)))))
    refine Run.seq (Run.load cell9 _ _ (Run.seq (Run.store cell9 _ _ _ _ ?_)))
    dsimp only
    refine Run.ret _ ⟨_, rfl, fun r hr => ?_, fun k' hk' hne r hr => ?_⟩
    · by_cases c1 : r = 2 * j.val + 1
      · subst c1
        refine (store_x_same _ hk (by omega) (h1 j) _ _).trans ?_
        exact congrArg (fun a : FVec Ideal S8x128 .bf16 => (mulf (extf .f32 a) (rsV w n) : V)) ((load_p σ.pair hk hj (ho j) _ 1).trans (hP j hj 1))
      refine (store_x_other _ hk (by omega) hk (by omega) (.inr c1) (h1 j) _ _).trans ?_
      by_cases c0 : r = 2 * j.val
      · subst c0
        refine (store_x_same _ hk (by omega) (h0 j) _ _).trans ?_
        exact congrArg (fun a : FVec Ideal S8x128 .bf16 => (mulf (extf .f32 a) (rsV w n) : V)) ((load_p σ.pair hk hj (ho j) _ 0).trans (hP j hj 0))
      refine (store_x_other _ hk (by omega) hk (by omega) (.inr c0) (h0 j) _ _).trans ?_
      exact hX r (by omega)
    · refine (store_x_other _ hk (by omega) hk' hr (.inl hne) (h1 j) _ _).trans ?_
      refine (store_x_other _ hk (by omega) hk' hr (.inl hne) (h0 j) _ _).trans ?_
      exact hO k' hk' hne r hr
  · rintro acc σ' ⟨X', rfl, hX, hO⟩
    have hT : Scf.trips L.lb L.ub L.st = 32 := hL
    rw [hT] at hX
    exact hQ X' hX hO

/-- Coding a tile's rows: eight codes to a word, and the partial sums of the errors. -/
theorem encode {σ : St Ideal} {w : Wt} {k n : ℕ} (hk : k < 5) (hX : ∀ r < 64, atX σ.x k r = xV w n r) (z : V) (hz : z = zV w n 20)
    {L : Scf.Loop 32} (ok : L.OK) (hL : L.trips = 8) (off : Fin L.trips → Fin 8 → Fin 4 → ℕ) (ho : ∀ i a, off i a = ![k, 8 * i.val + a.val, 0, 0])
    (inb : ∀ i a b, off i a b + S1x1x8x128.size b ≤ S5x64x8x128.size b)
    (ld : ∀ i a, arg9.view.LoadsAt (Rect.unit (s := S5x64x8x128) (off i a) S1x1x8x128.size (inb i a)).toLoadRect)
    (off1 : Fin L.trips → Fin 3 → ℕ) (h1 : ∀ i, off1 i = ![k, i.val, 0])
    (inb1 : ∀ i b, S1x8x128.size b = 0 ∨ off1 i b + (![1, 9, 1] : Fin 3 → ℕ) b * (S1x8x128.size b - 1) < S5x72x128.size b)
    (ld1 : ∀ i, arg10.view.LoadsAt (⟨off1 i, S1x8x128.size, ![1, 9, 1], inb1 i⟩ : LoadRect S5x72x128)) (pos : ∀ b : Fin 3, 0 < (![1, 9, 1] : Fin 3 → ℕ) b)
    (st : ∀ i, (arg10.access (⟨(⟨off1 i, S1x8x128.size, ![1, 9, 1], inb1 i⟩ : LoadRect S5x72x128), pos⟩ : Rect S5x72x128)).Stores Finset.univ)
    (body : Fin L.trips → V × V × V × V → Prog (TpuEff nD τ sig (Elt Ideal) Λ₀ .tc) (V × V × V × V))
    (hbody : ∀ i acc, body i acc = (do
      let v0 : Vec Ideal S1x1x8x128 .f32 ← Prog.lift (.load arg9 (Rect.unit (s := S5x64x8x128) (off i 0) S1x1x8x128.size (inb i 0)).toLoadRect (ld i 0))
      let v1 : Vec Ideal S1x1x8x128 .f32 ← Prog.lift (.load arg9 (Rect.unit (s := S5x64x8x128) (off i 1) S1x1x8x128.size (inb i 1)).toLoadRect (ld i 1))
      let v2 : Vec Ideal S1x1x8x128 .f32 ← Prog.lift (.load arg9 (Rect.unit (s := S5x64x8x128) (off i 2) S1x1x8x128.size (inb i 2)).toLoadRect (ld i 2))
      let v3 : Vec Ideal S1x1x8x128 .f32 ← Prog.lift (.load arg9 (Rect.unit (s := S5x64x8x128) (off i 3) S1x1x8x128.size (inb i 3)).toLoadRect (ld i 3))
      let v4 : Vec Ideal S1x1x8x128 .f32 ← Prog.lift (.load arg9 (Rect.unit (s := S5x64x8x128) (off i 4) S1x1x8x128.size (inb i 4)).toLoadRect (ld i 4))
      let v5 : Vec Ideal S1x1x8x128 .f32 ← Prog.lift (.load arg9 (Rect.unit (s := S5x64x8x128) (off i 5) S1x1x8x128.size (inb i 5)).toLoadRect (ld i 5))
      let v6 : Vec Ideal S1x1x8x128 .f32 ← Prog.lift (.load arg9 (Rect.unit (s := S5x64x8x128) (off i 6) S1x1x8x128.size (inb i 6)).toLoadRect (ld i 6))
      let v7 : Vec Ideal S1x1x8x128 .f32 ← Prog.lift (.load arg9 (Rect.unit (s := S5x64x8x128) (off i 7) S1x1x8x128.size (inb i 7)).toLoadRect (ld i 7))
      let _ : Vec Ideal S1x8x128 .i32 ← Prog.lift (.load arg10 (⟨off1 i, S1x8x128.size, ![1, 9, 1], inb1 i⟩ : LoadRect S5x72x128) (ld1 i))
      Prog.lift (.store arg10 (⟨(⟨off1 i, S1x8x128.size, ![1, 9, 1], inb1 i⟩ : LoadRect S5x72x128), pos⟩ : Rect S5x72x128) (shapeCast S1x8x128
        (ori (ori (ori (ori (ori (ori (ori (shli (fptosi 32 (quantV (addf (shapeCast S8x128 v0 shapeCasts_S1x1x8x128_S8x128) z))) (broadcast S8x128 0#32) : IVec S8x128 32) (shli (fptosi 32 (quantV (addf (shapeCast S8x128 v1 shapeCasts_S1x1x8x128_S8x128) z))) (broadcast S8x128 4#32) : IVec S8x128 32)) (shli (fptosi 32 (quantV (addf (shapeCast S8x128 v2 shapeCasts_S1x1x8x128_S8x128) z))) (broadcast S8x128 8#32) : IVec S8x128 32)) (shli (fptosi 32 (quantV (addf (shapeCast S8x128 v3 shapeCasts_S1x1x8x128_S8x128) z))) (broadcast S8x128 12#32) : IVec S8x128 32)) (shli (fptosi 32 (quantV (addf (shapeCast S8x128 v4 shapeCasts_S1x1x8x128_S8x128) z))) (broadcast S8x128 16#32) : IVec S8x128 32)) (shli (fptosi 32 (quantV (addf (shapeCast S8x128 v5 shapeCasts_S1x1x8x128_S8x128) z))) (broadcast S8x128 20#32) : IVec S8x128 32)) (shli (fptosi 32 (quantV (addf (shapeCast S8x128 v6 shapeCasts_S1x1x8x128_S8x128) z))) (broadcast S8x128 24#32) : IVec S8x128 32)) (shli (fptosi 32 (quantV (addf (shapeCast S8x128 v7 shapeCasts_S1x1x8x128_S8x128) z))) (broadcast S8x128 28#32) : IVec S8x128 32)) shapeCasts_S8x128_S1x8x128) Finset.univ (st i) (.inl rfl))
      pure (addf (addf acc.1 (powV (absf (fracV (addf (shapeCast S8x128 v0 shapeCasts_S1x1x8x128_S8x128) z))) (Scalar.ofBits .f32 0x3F333333#32))) (powV (absf (fracV (addf (shapeCast S8x128 v4 shapeCasts_S1x1x8x128_S8x128) z))) (Scalar.ofBits .f32 0x3F333333#32)), addf (addf acc.2.1 (powV (absf (fracV (addf (shapeCast S8x128 v1 shapeCasts_S1x1x8x128_S8x128) z))) (Scalar.ofBits .f32 0x3F333333#32))) (powV (absf (fracV (addf (shapeCast S8x128 v5 shapeCasts_S1x1x8x128_S8x128) z))) (Scalar.ofBits .f32 0x3F333333#32)), addf (addf acc.2.2.1 (powV (absf (fracV (addf (shapeCast S8x128 v2 shapeCasts_S1x1x8x128_S8x128) z))) (Scalar.ofBits .f32 0x3F333333#32))) (powV (absf (fracV (addf (shapeCast S8x128 v6 shapeCasts_S1x1x8x128_S8x128) z))) (Scalar.ofBits .f32 0x3F333333#32)), addf (addf acc.2.2.2 (powV (absf (fracV (addf (shapeCast S8x128 v3 shapeCasts_S1x1x8x128_S8x128) z))) (Scalar.ofBits .f32 0x3F333333#32))) (powV (absf (fracV (addf (shapeCast S8x128 v7 shapeCasts_S1x1x8x128_S8x128) z))) (Scalar.ofBits .f32 0x3F333333#32)))))
    {Q : V × V × V × V → St Ideal → Prop}
    (hQ : ∀ C', (∀ i < 8, atC C' k i = wordV w n i) → Q (sums8 (fun r => powV (absf (fracV (tV w n r))) (Scalar.ofBits .f32 0x3F333333#32)) 8) { σ with word := C' }) :
    Run defs 𝒱 c (Held (F := Ideal) c arg2 arg3 arg4 arg5 arg6 arg7 arg8 arg9 arg10 arg11) σ (Scf.Loop.for L ok (cst 0x00000000#32, cst 0x00000000#32, cst 0x00000000#32, cst 0x00000000#32) body) Q := by
  subst hz
  have hread : ∀ (r : ℕ) (hr : r < 64) (off : Fin 4 → ℕ) (ho : off = ![k, r, 0, 0]) (inb),
      shapeCast S8x128 (fun x => σ.x ((Rect.unit (s := S5x64x8x128) off S1x1x8x128.size inb).toLoadRect.idx x)) shapeCasts_S1x1x8x128_S8x128 = xV w n r := fun r hr off ho inb =>
    (load_x σ.x hk hr ho inb).trans (hX r hr)
  refine Run.loop _ _ _ _ _ _ (fun m acc σ' => ∃ C', σ' = { σ with word := C' } ∧ acc = sums8 (fun r => powV (absf (fracV (tV w n r))) (Scalar.ofBits .f32 0x3F333333#32)) m
      ∧ ∀ i < m, i < 8 → atC C' k i = wordV w n i)
    ⟨σ.word, rfl, rfl, fun _ h => absurd h (Nat.not_lt_zero _)⟩ ?_ ?_
  · rintro i acc σ' ⟨C', rfl, rfl, hC⟩
    have hi : i.val < 8 := lt_of_lt_of_eq i.isLt hL
    rw [hbody]
    refine Run.seq (Run.load cell9 _ _ ?_)
    refine Run.seq (Run.load cell9 _ _ ?_)
    refine Run.seq (Run.load cell9 _ _ ?_)
    refine Run.seq (Run.load cell9 _ _ ?_)
    refine Run.seq (Run.load cell9 _ _ ?_)
    refine Run.seq (Run.load cell9 _ _ ?_)
    refine Run.seq (Run.load cell9 _ _ ?_)
    refine Run.seq (Run.load cell9 _ _ ?_)
    refine Run.seq (Run.load cell10 _ _ (Run.seq (Run.store cell10 _ _ _ _ ?_)))
    dsimp only
    have e0 := hread (8 * i.val + 0) (by omega) _ (ho i 0) (inb i 0)
    have e1 := hread (8 * i.val + 1) (by omega) _ (ho i 1) (inb i 1)
    have e2 := hread (8 * i.val + 2) (by omega) _ (ho i 2) (inb i 2)
    have e3 := hread (8 * i.val + 3) (by omega) _ (ho i 3) (inb i 3)
    have e4 := hread (8 * i.val + 4) (by omega) _ (ho i 4) (inb i 4)
    have e5 := hread (8 * i.val + 5) (by omega) _ (ho i 5) (inb i 5)
    have e6 := hread (8 * i.val + 6) (by omega) _ (ho i 6) (inb i 6)
    have e7 := hread (8 * i.val + 7) (by omega) _ (ho i 7) (inb i 7)
    rw [e0, e1, e2, e3, e4, e5, e6, e7]
    refine Run.ret _ ⟨_, rfl, rfl, fun i' hi' h8 => ?_⟩
    by_cases c1 : i' = i.val
    · subst c1
      exact word_same _ hk hi (h1 i) _ _ _
    · exact (word_other _ hi h8 c1 (h1 i) _ _ _).trans (hC i' (by omega) h8)
  · rintro acc σ' ⟨C', rfl, rfl, hC⟩
    have hT : Scf.trips L.lb L.ub L.st = 8 := hL
    rw [hT] at hC ⊢
    exact hQ C' fun i hi => hC i hi hi

/-- Scattering a tile's code words. -/
theorem scatter {σ : St Ideal} {w : Wt} {k n : ℕ} (hk : k < 5) (hn : n < 35) (hC : ∀ i < 8, atC σ.word k i = wordV w n i)
    {L : Scf.Loop 32} (ok : L.OK) (hL : L.trips = 8) (off1 : Fin L.trips → Fin 3 → ℕ) (h1 : ∀ g, off1 g = ![k, 9 * g.val, 0])
    (inb1 : ∀ g b, off1 g b + S1x8x128.size b ≤ S5x72x128.size b) (ld1 : ∀ g, arg10.view.LoadsAt (Rect.unit (s := S5x72x128) (off1 g) S1x8x128.size (inb1 g)).toLoadRect)
    (off2 : Fin L.trips → Fin 3 → ℕ) (h2 : ∀ g, off2 g = ![(8 * n + g.val) / 140, (8 * n + g.val) % 140 * 32, 0])
    (inb2 : ∀ g b, off2 g b + S1x32x128.size b ≤ S2x4480x128.size b) (ld2 : ∀ g, arg3.view.LoadsAt (Rect.unit (s := S2x4480x128) (off2 g) S1x32x128.size (inb2 g)).toLoadRect)
    (st : ∀ g, (arg3.access (Rect.unit (s := S2x4480x128) (off2 g) S1x32x128.size (inb2 g))).Stores Finset.univ)
    (body : Fin L.trips → Unit → Prog (TpuEff nD τ sig (Elt Ideal) Λ₀ .tc) Unit)
    (hbody : ∀ g u, body g u = (do
      let v : Vec Ideal S1x8x128 .i32 ← Prog.lift (.load arg10 (Rect.unit (s := S5x72x128) (off1 g) S1x8x128.size (inb1 g)).toLoadRect (ld1 g))
      let _ : Vec Ideal S1x32x128 .i8 ← Prog.lift (.load arg3 (Rect.unit (s := S2x4480x128) (off2 g) S1x32x128.size (inb2 g)).toLoadRect (ld2 g))
      Prog.lift (.store arg3 (Rect.unit (s := S2x4480x128) (off2 g) S1x32x128.size (inb2 g)) (k0_pay258 (F := Ideal) v) Finset.univ (st g) (.inl rfl))
      pure ⟨⟩))
    {Q : Unit → St Ideal → Prop} (hQ : ∀ K', (∀ r < 32, atK K' n r = codeV w n r) → (∀ n' < 35, n' ≠ n → ∀ r < 32, atK K' n' r = atK σ.codes n' r) → Q ⟨⟩ { σ with codes := K' }) :
    Run defs 𝒱 c (Held (F := Ideal) c arg2 arg3 arg4 arg5 arg6 arg7 arg8 arg9 arg10 arg11) σ (Scf.Loop.for L ok ⟨⟩ body) Q := by
  refine Run.loop _ _ _ _ _ _ (fun m _ σ' => ∃ K', σ' = { σ with codes := K' } ∧ (∀ r < 32, ∀ y : S8x128.Idx, (y 0).val < m → atK K' n r y = codeV w n r y)
      ∧ (∀ n' < 35, n' ≠ n → ∀ r < 32, atK K' n' r = atK σ.codes n' r))
    ⟨σ.codes, rfl, fun _ _ _ h => absurd h (Nat.not_lt_zero _), fun _ _ _ _ _ => rfl⟩ ?_ ?_
  · rintro g u σ' ⟨K', rfl, hK, hO⟩
    have hg : g.val < 8 := lt_of_lt_of_eq g.isLt hL
    rw [hbody]
    refine Run.seq (Run.load cell10 _ _ (Run.seq (Run.load cell3 _ _ (Run.seq (Run.store cell3 _ _ _ _ (Run.ret _ ⟨_, rfl, fun r hr y hy => ?_, fun n' hn' hne r hr => ?_⟩))))))
    · by_cases c1 : (y 0).val = g.val
      · refine (scatter_same _ σ.word hk hn hg (h1 g) _ (h2 g) _ r hr y c1).trans ?_
        rw [hC (r / 4) (by omega)]
        rfl
      · exact (scatter_other _ hn hn hg (h2 g) _ _ r hr y (.inr c1)).trans (hK r hr y (by omega))
    · refine Eq.trans (funext fun y => scatter_other _ hn hn' hg (h2 g) _ _ r hr y (.inl hne)) (hO n' hn' hne r hr)
  · rintro acc σ' ⟨K', rfl, hK, hO⟩
    have hT : Scf.trips L.lb L.ub L.st = 8 := hL
    exact hQ K' (fun r hr => funext fun y => hK r hr y (by rw [hT]; exact (y 0).isLt)) hO

end Cert.Proof.KernelIdealSections
-- ==== Proof.KernelIdealRows.lean ====
/- The kernel's passes over a tile's rows, and its twenty iterations. -/
module

public import proofs.«01_k».proof.Proof.KernelIdealAccess2
public import proofs.«01_k».proof.Proof.KernelIdealOffsets
public import proofs.«01_k».proof.Proof.TripleSeq

@[expose] public section

noncomputable section

namespace Cert.Proof.KernelIdealRows

open Cert.KernelIdeal Cert.KernelIdeal.Gen Cert.Proof.Triple Cert.Proof.KernelIdealState Cert.Proof.KernelIdealModel Cert.Proof.KernelIdealAccess Cert.Proof.KernelIdealOffsets
open Idealize.ShloMosaic Idealize.ShloMosaic.TcCoe Idealize.SL Idealize.SL.Sem

variable {defs : Defs nD τ sig (Elt Ideal) Λ₀} {𝒱 : Variants} {c : Dev nD} {arg2 : Memref sig .tc .vmem S2x8960x128 .bf16} {arg3 : Memref sig .tc .vmem S2x4480x128 .i8} {arg4 : Memref sig .tc .vmem S2x140x128 .f32} {arg5 : Memref sig .tc .vmem S2x140x128 .f32} {arg6 : Memref sig .tc .vmem S2x140x128 .f32} {arg7 : Memref sig .tc .vmem S2x140x128 .f32} {arg8 : Memref sig .tc .vmem S5x288x2x128 .bf16} {arg9 : Memref sig .tc .vmem S5x64x8x128 .f32} {arg10 : Memref sig .tc .vmem S5x72x128 .i32} {arg11 : Memref sig .tc .vmem S4x280x128 .f32}

/-- The partial sums depend on the rows summed only. -/
theorem sums_congr {f f' : ℕ → V} : ∀ m : ℕ, (∀ r < m, f r = f' r) → sums f m = sums f' m
  | 0, _ => rfl
  | m + 1, h => by
    simp only [sums, sums_congr m (fun r hr => h r (Nat.lt_succ_of_lt hr)), h m (Nat.lt_succ_self m)]

/-- A pass over a tile's 64 rows that adds up the rows' parts in the shift of the zeros. -/
theorem rows {σ : St Ideal} {X : ℕ → V} {k : ℕ} (hk : k < 5) (hX : ∀ r < 64, atX σ.x k r = X r) {L : Scf.Loop 32} (ok : L.OK) (hL : L.trips = 64)
    (off : Fin L.trips → Fin 4 → ℕ) (hoff : ∀ j, off j = ![k, j.val, 0, 0]) (inb : ∀ j a, off j a + S1x1x8x128.size a ≤ S5x64x8x128.size a)
    (ld : ∀ j, arg9.view.LoadsAt (Rect.unit (s := S5x64x8x128) (off j) S1x1x8x128.size (inb j)).toLoadRect) (z th : V)
    (body : Fin L.trips → V × V × V × V → Prog (TpuEff nD τ sig (Elt Ideal) Λ₀ .tc) (V × V × V × V))
    (hbody : ∀ j acc, body j acc = (do
      let v : Vec Ideal S1x1x8x128 .f32 ← Prog.lift (.load arg9 (Rect.unit (s := S5x64x8x128) (off j) S1x1x8x128.size (inb j)).toLoadRect (ld j))
      pure (acc.2.1, acc.2.2.1, acc.2.2.2, addf acc.1 (pullV th (addf (shapeCast S8x128 v shapeCasts_S1x1x8x128_S8x128) z)))))
    {Q : V × V × V × V → St Ideal → Prop} (hQ : Q (sums (fun r => pullV th (addf (X r) z)) 64) σ) :
    Run defs 𝒱 c (Held (F := Ideal) c arg2 arg3 arg4 arg5 arg6 arg7 arg8 arg9 arg10 arg11) σ (Scf.Loop.for L ok (cst 0x00000000#32, cst 0x00000000#32, cst 0x00000000#32, cst 0x00000000#32) body) Q := by
  refine Run.loop _ _ _ _ _ _ (fun m acc σ' => σ' = σ ∧ acc = sums (fun r => pullV th (addf (X r) z)) m) ⟨rfl, rfl⟩ ?_ ?_
  · rintro j acc σ' ⟨rfl, rfl⟩
    have hj : j.val < 64 := lt_of_lt_of_eq j.isLt hL
    rw [hbody]
    refine Run.seq (Run.load cell9 _ _ (Run.ret _ ⟨rfl, ?_⟩))
    rw [load_x _ hk hj (hoff j), hX _ hj]
    rfl
  · rintro acc σ' ⟨rfl, rfl⟩
    have : Scf.trips L.lb L.ub L.st = 64 := hL
    rw [this]
    exact hQ

/-- The zeros and thresholds of the five tiles of trip `i` after `m` iterations, in the order the loop carries them. -/
def carried (w : Wt) (i m : ℕ) : V × V × V × V × V × V × V × V × V × V :=
  (zV w (5 * i) m, zV w (5 * i + 1) m, zV w (5 * i + 2) m, zV w (5 * i + 3) m, zV w (5 * i + 4) m,
    thV w (5 * i) m, thV w (5 * i + 1) m, thV w (5 * i + 2) m, thV w (5 * i + 3) m, thV w (5 * i + 4) m)

set_option maxRecDepth 65536 in
set_option maxHeartbeats 0 in
/-- Twenty iterations on five tiles whose normalised rows are in the scratch. -/
theorem iterate {σ : St Ideal} {w : Wt} {i : ℕ} (hX : ∀ k < 5, ∀ r < 64, atX σ.x k r = xV w (5 * i + k) r)
    (i0 : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (k0_t1 : Fin k0_t1_loop.trips) (v42 : BitVec 32) (v78 v83 v117 v151 v185 v214 v219 v229 v238 v247 v248 v249 : V)
    {Q : V × V × V × V × V × V × V × V × V × V → St Ideal → Prop} (hQ : Q (carried w i 20) σ) :
    Run defs 𝒱 c (Held (F := Ideal) c arg2 arg3 arg4 arg5 arg6 arg7 arg8 arg9 arg10 arg11) σ (Scf.Loop.for k0_t17_loop k0_t17_ok (carried w i 0)
      (k0_t17_body i0 arg2 harg2 arg3 harg3 arg4 harg4 arg5 harg5 arg6 harg6 arg7 harg7 arg8 harg8 arg9 harg9 arg10 harg10 arg11 harg11 k0_t1 v42 v78 v83 v117 v151 v185 v214 v219 v229 v238 v247 v248 v249)) Q := by
  refine Run.loop _ _ _ _ _ _ (fun m acc σ' => σ' = σ ∧ acc = carried w i m) ⟨rfl, rfl⟩ ?_ ?_
  · rintro j acc σ' ⟨rfl, rfl⟩
    unfold k0_t17_body carried
    refine Run.seq ?_
    rw [k0_part6_eq_skeleton]
    unfold k0_part6_skel
    refine Run.seq (rows (k := 0) (by omega) (hX 0 (by omega)) k0_t18_ok (by decide) _ off31 _ _ (zV w (5 * i) j) (thV w (5 * i) j) _ (fun _ _ => rfl) ?_)
    refine Run.seq (rows (k := 1) (by omega) (hX 1 (by omega)) k0_t19_ok (by decide) _ off32 _ _ (zV w (5 * i + 1) j) (thV w (5 * i + 1) j) _ (fun _ _ => rfl) ?_)
    refine Run.seq (rows (k := 2) (by omega) (hX 2 (by omega)) k0_t20_ok (by decide) _ off33 _ _ (zV w (5 * i + 2) j) (thV w (5 * i + 2) j) _ (fun _ _ => rfl) ?_)
    refine Run.ret _ ?_
    refine Run.seq ?_
    rw [k0_part7_eq_skeleton]
    unfold k0_part7_skel
    refine Run.seq (rows (k := 3) (by omega) (hX 3 (by omega)) k0_t21_ok (by decide) _ off34 _ _ (zV w (5 * i + 3) j) (thV w (5 * i + 3) j) _ (fun _ _ => rfl) ?_)
    refine Run.seq (rows (k := 4) (by omega) (hX 4 (by omega)) k0_t22_ok (by decide) _ off35 _ _ (zV w (5 * i + 4) j) (thV w (5 * i + 4) j) _ (fun _ _ => rfl) ?_)
    refine Run.ret _ ?_
    exact Run.ret _ ⟨rfl, rfl⟩
  · rintro acc σ' ⟨rfl, rfl⟩
    exact hQ

end Cert.Proof.KernelIdealRows
-- ==== Proof.KernelIdealTrip.lean ====
/- One trip of the kernel's outer loop: five tiles. -/
module

public import proofs.«01_k».proof.Proof.KernelIdealAccess2
public import proofs.«01_k».proof.Proof.KernelIdealOffsets
public import proofs.«01_k».proof.Proof.KernelIdealSections
public import proofs.«01_k».proof.Proof.KernelIdealRows

@[expose] public section

noncomputable section

namespace Cert.Proof.KernelIdealTrip

open Cert.KernelIdeal Cert.KernelIdeal.Gen Cert.Proof.Triple Cert.Proof.KernelIdealState Cert.Proof.KernelIdealModel Cert.Proof.KernelIdealAccess Cert.Proof.KernelIdealOffsets Cert.Proof.KernelIdealSections Cert.Proof.KernelIdealRows
open Idealize.ShloMosaic Idealize.ShloMosaic.TcCoe Idealize.SL Idealize.SL.Sem

/-- The packed codes and the statistics of the first `m` tiles are what they should be. -/
def Finished (w : Wt) (m : ℕ) (K : S2x4480x128.Idx → Elt Ideal .i8) (S : S4x280x128.Idx → Elt Ideal .f32) : Prop :=
  ∀ n < m, n < 35 → (∀ r < 32, atK K n r = codeV w n r) ∧ atS S 0 n = sV w n ∧ atS S 1 n = zV w n 20 ∧ atS S 2 n = lpV w n ∧ atS S 3 n = shiftV w n

/-- One more tile: its codes scattered, its four statistics stored. -/
theorem finished_step {w : Wt} {n : ℕ} (hn : n < 35) {K K' : S2x4480x128.Idx → Elt Ideal .i8} {S : S4x280x128.Idx → Elt Ideal .f32} (h : Finished w n K S)
    (hK : ∀ r < 32, atK K' n r = codeV w n r) (hO : ∀ n' < 35, n' ≠ n → ∀ r < 32, atK K' n' r = atK K n' r)
    {off0 : Fin 3 → ℕ} (h0 : off0 = ![0, 8 * n, 0]) (inb0) {off1 : Fin 3 → ℕ} (h1 : off1 = ![1, 8 * n, 0]) (inb1)
    {off2 : Fin 3 → ℕ} (h2 : off2 = ![2, 8 * n, 0]) (inb2) {off3 : Fin 3 → ℕ} (h3 : off3 = ![3, 8 * n, 0]) (inb3) :
    Finished w (n + 1) K' (upd (Rect.unit (s := S4x280x128) off3 S1x8x128.size inb3) (shapeCast S1x8x128 (shiftV w n) shapeCasts_S8x128_S1x8x128)
      (upd (Rect.unit (s := S4x280x128) off2 S1x8x128.size inb2) (shapeCast S1x8x128 (lpV w n) shapeCasts_S8x128_S1x8x128)
        (upd (Rect.unit (s := S4x280x128) off1 S1x8x128.size inb1) (shapeCast S1x8x128 (zV w n 20) shapeCasts_S8x128_S1x8x128)
          (upd (Rect.unit (s := S4x280x128) off0 S1x8x128.size inb0) (shapeCast S1x8x128 (sV w n) shapeCasts_S8x128_S1x8x128) S)))) := by
  intro n' hn' h35
  by_cases hne : n' = n
  · subst hne
    refine ⟨hK, ?_, ?_, ?_, ?_⟩
    · refine (stat_other _ (by decide) hn (by decide) hn (.inl (by decide)) h3 _ _).trans ?_
      refine (stat_other _ (by decide) hn (by decide) hn (.inl (by decide)) h2 _ _).trans ?_
      refine (stat_other _ (by decide) hn (by decide) hn (.inl (by decide)) h1 _ _).trans ?_
      exact stat_same _ (by decide) hn h0 _ _
    · refine (stat_other _ (by decide) hn (by decide) hn (.inl (by decide)) h3 _ _).trans ?_
      refine (stat_other _ (by decide) hn (by decide) hn (.inl (by decide)) h2 _ _).trans ?_
      exact stat_same _ (by decide) hn h1 _ _
    · refine (stat_other _ (by decide) hn (by decide) hn (.inl (by decide)) h3 _ _).trans ?_
      exact stat_same _ (by decide) hn h2 _ _
    · exact stat_same _ (by decide) hn h3 _ _
  · have hh := h n' (by omega) h35
    have hs : ∀ a < 4, atS (upd (Rect.unit (s := S4x280x128) off3 S1x8x128.size inb3) (shapeCast S1x8x128 (shiftV w n) shapeCasts_S8x128_S1x8x128)
      (upd (Rect.unit (s := S4x280x128) off2 S1x8x128.size inb2) (shapeCast S1x8x128 (lpV w n) shapeCasts_S8x128_S1x8x128)
        (upd (Rect.unit (s := S4x280x128) off1 S1x8x128.size inb1) (shapeCast S1x8x128 (zV w n 20) shapeCasts_S8x128_S1x8x128)
          (upd (Rect.unit (s := S4x280x128) off0 S1x8x128.size inb0) (shapeCast S1x8x128 (sV w n) shapeCasts_S8x128_S1x8x128) S)))) a n' = atS S a n' := by
      intro a ha
      refine (stat_other _ (by decide) hn ha h35 (.inr hne) h3 _ _).trans ?_
      refine (stat_other _ (by decide) hn ha h35 (.inr hne) h2 _ _).trans ?_
      refine (stat_other _ (by decide) hn ha h35 (.inr hne) h1 _ _).trans ?_
      exact stat_other _ (by decide) hn ha h35 (.inr hne) h0 _ _
    refine ⟨fun r hr => (hO n' h35 hne r hr).trans (hh.1 r hr), ?_, ?_, ?_, ?_⟩
    · exact (hs 0 (by decide)).trans hh.2.1
    · exact (hs 1 (by decide)).trans hh.2.2.1
    · exact (hs 2 (by decide)).trans hh.2.2.2.1
    · exact (hs 3 (by decide)).trans hh.2.2.2.2

variable {defs : Defs nD τ sig (Elt Ideal) Λ₀} {𝒱 : Variants} {c : Dev nD} {arg2 : Memref sig .tc .vmem S2x8960x128 .bf16} {arg3 : Memref sig .tc .vmem S2x4480x128 .i8} {arg4 : Memref sig .tc .vmem S2x140x128 .f32} {arg5 : Memref sig .tc .vmem S2x140x128 .f32} {arg6 : Memref sig .tc .vmem S2x140x128 .f32} {arg7 : Memref sig .tc .vmem S2x140x128 .f32} {arg8 : Memref sig .tc .vmem S5x288x2x128 .bf16} {arg9 : Memref sig .tc .vmem S5x64x8x128 .f32} {arg10 : Memref sig .tc .vmem S5x72x128 .i32} {arg11 : Memref sig .tc .vmem S4x280x128 .f32}

set_option maxRecDepth 65536 in
set_option maxHeartbeats 0 in
/-- One trip finishes five more tiles, whatever the scratch buffers held. -/
theorem trip {σ : St Ideal} (i : Fin k0_t1_loop.trips) (u : Unit) (i0 : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (hF : Finished σ.w (5 * i.val) σ.codes σ.stat) :
    Run defs 𝒱 c (Held (F := Ideal) c arg2 arg3 arg4 arg5 arg6 arg7 arg8 arg9 arg10 arg11) σ (k0_t1_body i0 arg2 harg2 arg3 harg3 arg4 harg4 arg5 harg5 arg6 harg6 arg7 harg7 arg8 harg8 arg9 harg9 arg10 harg10 arg11 harg11 i u) (fun _ σ' => ∃ K P X C S, σ' = { σ with codes := K, pair := P, x := X, word := C, stat := S }
      ∧ Finished σ.w (5 * (i.val + 1)) K S) := by
  have hi : i.val < 7 := i.isLt
  obtain ⟨w, K0, s, z, lp, sh, P, X, C, S⟩ := σ
  unfold k0_t1_body
  refine Run.seq ?_
  rw [k0_part28_eq_skeleton]
  unfold k0_part28_skel
  refine Run.seq (gather (k := 0) (n := 5 * i.val + 0) (by omega) (by omega) k0_t2_ok (by decide)
    (fun g a => k0_off1 i g (BitVec.ofNat 32 (16 * a.val))) (off1 i) (k0_off1_inb i) (fun g a => View.loadsAt_vmem h_S1x16x128)
    (fun g a => k0_off2 g (BitVec.ofNat 32 (72 * a.val))) off2 k0_off2_inb (fun g a => View.loadsAt_vmem h_S1x8x2x128) spos_1_9_1_1
    (fun g a => View.stores_vmem h_S1x8x2x128 ((harg8.pairWhole rank2_S5x288x2x128).storeExact_slice rfl _ (Rect.WholeRows.intro rank2_S5x288x2x128 rfl rfl rfl) pairs_S5x288x2x128_bf16) (fun _ => rfl))
    _ (fun _ _ => rfl) ?_)
  intro P0 hP0
  refine Run.seq (Run.load cell8 _ _ ?_)
  refine Run.seq (extremes (w := w) (k := 0) (n := 5 * i.val + 0) (by omega) hP0 ![0, 0, 0, 0] rfl _ k0_t3_ok (by decide) _ off3 _ _ _ (fun _ _ => rfl) ?_)
  intro a0 b0 ha0 hb0
  refine Run.ret _ ?_
  dsimp only
  rw [show k0_pay185 a0 = mnV w (5 * i.val + 0) from ha0, show k0_pay186 b0 = mxV w (5 * i.val + 0) from hb0]
  refine Run.seq ?_
  rw [k0_part29_eq_skeleton]
  unfold k0_part29_skel
  refine Run.seq (normalise (w := w) (k := 0) (n := 5 * i.val + 0) (by omega) hP0 k0_t4_ok (by decide) _ off4 _ _ _ off5 _ (fun _ => View.loadsAt_vmem h_S1x1x8x128) (fun _ => View.stores_vmem_bits_univ h_S1x1x8x128 rfl)
    _ off6 _ (fun _ => View.loadsAt_vmem h_S1x1x8x128) (fun _ => View.stores_vmem_bits_univ h_S1x1x8x128 rfl) _ (fun _ _ => rfl) ?_)
  intro X0 hX0 hY0
  refine Run.seq (gather (k := 1) (n := 5 * i.val + 1) (by omega) (by omega) k0_t5_ok (by decide)
    (fun g a => k0_off7 i g (BitVec.ofNat 32 (16 * a.val))) (off7 i) (k0_off7_inb i) (fun g a => View.loadsAt_vmem h_S1x16x128)
    (fun g a => k0_off8 g (BitVec.ofNat 32 (72 * a.val))) off8 k0_off8_inb (fun g a => View.loadsAt_vmem h_S1x8x2x128) spos_1_9_1_1
    (fun g a => View.stores_vmem h_S1x8x2x128 ((harg8.pairWhole rank2_S5x288x2x128).storeExact_slice rfl _ (Rect.WholeRows.intro rank2_S5x288x2x128 rfl rfl rfl) pairs_S5x288x2x128_bf16) (fun _ => rfl))
    _ (fun _ _ => rfl) ?_)
  intro P1 hP1
  refine Run.seq (Run.load cell8 _ _ ?_)
  refine Run.seq (extremes (w := w) (k := 1) (n := 5 * i.val + 1) (by omega) hP1 ![1, 0, 0, 0] rfl _ k0_t6_ok (by decide) _ off9 _ _ _ (fun _ _ => rfl) ?_)
  intro a1 b1 ha1 hb1
  refine Run.ret _ ?_
  dsimp only
  rw [show k0_pay198 a1 = mnV w (5 * i.val + 1) from ha1, show k0_pay199 b1 = mxV w (5 * i.val + 1) from hb1]
  refine Run.seq ?_
  rw [k0_part30_eq_skeleton]
  unfold k0_part30_skel
  refine Run.seq (normalise (w := w) (k := 1) (n := 5 * i.val + 1) (by omega) hP1 k0_t7_ok (by decide) _ off10 _ _ _ off11 _ (fun _ => View.loadsAt_vmem h_S1x1x8x128) (fun _ => View.stores_vmem_bits_univ h_S1x1x8x128 rfl)
    _ off12 _ (fun _ => View.loadsAt_vmem h_S1x1x8x128) (fun _ => View.stores_vmem_bits_univ h_S1x1x8x128 rfl) _ (fun _ _ => rfl) ?_)
  intro X1 hX1 hY1
  refine Run.seq (gather (k := 2) (n := 5 * i.val + 2) (by omega) (by omega) k0_t8_ok (by decide)
    (fun g a => k0_off13 i g (BitVec.ofNat 32 (16 * a.val))) (off13 i) (k0_off13_inb i) (fun g a => View.loadsAt_vmem h_S1x16x128)
    (fun g a => k0_off14 g (BitVec.ofNat 32 (72 * a.val))) off14 k0_off14_inb (fun g a => View.loadsAt_vmem h_S1x8x2x128) spos_1_9_1_1
    (fun g a => View.stores_vmem h_S1x8x2x128 ((harg8.pairWhole rank2_S5x288x2x128).storeExact_slice rfl _ (Rect.WholeRows.intro rank2_S5x288x2x128 rfl rfl rfl) pairs_S5x288x2x128_bf16) (fun _ => rfl))
    _ (fun _ _ => rfl) ?_)
  intro P2 hP2
  refine Run.seq (Run.load cell8 _ _ ?_)
  refine Run.seq (extremes (w := w) (k := 2) (n := 5 * i.val + 2) (by omega) hP2 ![2, 0, 0, 0] rfl _ k0_t9_ok (by decide) _ off15 _ _ _ (fun _ _ => rfl) ?_)
  intro a2 b2 ha2 hb2
  refine Run.ret _ ?_
  dsimp only
  rw [show k0_pay211 a2 = mnV w (5 * i.val + 2) from ha2, show k0_pay212 b2 = mxV w (5 * i.val + 2) from hb2]
  refine Run.seq ?_
  rw [k0_part31_eq_skeleton]
  unfold k0_part31_skel
  refine Run.seq (normalise (w := w) (k := 2) (n := 5 * i.val + 2) (by omega) hP2 k0_t10_ok (by decide) _ off16 _ _ _ off17 _ (fun _ => View.loadsAt_vmem h_S1x1x8x128) (fun _ => View.stores_vmem_bits_univ h_S1x1x8x128 rfl)
    _ off18 _ (fun _ => View.loadsAt_vmem h_S1x1x8x128) (fun _ => View.stores_vmem_bits_univ h_S1x1x8x128 rfl) _ (fun _ _ => rfl) ?_)
  intro X2 hX2 hY2
  refine Run.seq (gather (k := 3) (n := 5 * i.val + 3) (by omega) (by omega) k0_t11_ok (by decide)
    (fun g a => k0_off19 i g (BitVec.ofNat 32 (16 * a.val))) (off19 i) (k0_off19_inb i) (fun g a => View.loadsAt_vmem h_S1x16x128)
    (fun g a => k0_off20 g (BitVec.ofNat 32 (72 * a.val))) off20 k0_off20_inb (fun g a => View.loadsAt_vmem h_S1x8x2x128) spos_1_9_1_1
    (fun g a => View.stores_vmem h_S1x8x2x128 ((harg8.pairWhole rank2_S5x288x2x128).storeExact_slice rfl _ (Rect.WholeRows.intro rank2_S5x288x2x128 rfl rfl rfl) pairs_S5x288x2x128_bf16) (fun _ => rfl))
    _ (fun _ _ => rfl) ?_)
  intro P3 hP3
  refine Run.seq (Run.load cell8 _ _ ?_)
  refine Run.seq (extremes (w := w) (k := 3) (n := 5 * i.val + 3) (by omega) hP3 ![3, 0, 0, 0] rfl _ k0_t12_ok (by decide) _ off21 _ _ _ (fun _ _ => rfl) ?_)
  intro a3 b3 ha3 hb3
  refine Run.ret _ ?_
  dsimp only
  rw [show k0_pay224 a3 = mnV w (5 * i.val + 3) from ha3, show k0_pay225 b3 = mxV w (5 * i.val + 3) from hb3]
  refine Run.seq ?_
  rw [k0_part32_eq_skeleton]
  unfold k0_part32_skel
  refine Run.seq (normalise (w := w) (k := 3) (n := 5 * i.val + 3) (by omega) hP3 k0_t13_ok (by decide) _ off22 _ _ _ off23 _ (fun _ => View.loadsAt_vmem h_S1x1x8x128) (fun _ => View.stores_vmem_bits_univ h_S1x1x8x128 rfl)
    _ off24 _ (fun _ => View.loadsAt_vmem h_S1x1x8x128) (fun _ => View.stores_vmem_bits_univ h_S1x1x8x128 rfl) _ (fun _ _ => rfl) ?_)
  intro X3 hX3 hY3
  refine Run.seq (gather (k := 4) (n := 5 * i.val + 4) (by omega) (by omega) k0_t14_ok (by decide)
    (fun g a => k0_off25 i g (BitVec.ofNat 32 (16 * a.val))) (off25 i) (k0_off25_inb i) (fun g a => View.loadsAt_vmem h_S1x16x128)
    (fun g a => k0_off26 g (BitVec.ofNat 32 (72 * a.val))) off26 k0_off26_inb (fun g a => View.loadsAt_vmem h_S1x8x2x128) spos_1_9_1_1
    (fun g a => View.stores_vmem h_S1x8x2x128 ((harg8.pairWhole rank2_S5x288x2x128).storeExact_slice rfl _ (Rect.WholeRows.intro rank2_S5x288x2x128 rfl rfl rfl) pairs_S5x288x2x128_bf16) (fun _ => rfl))
    _ (fun _ _ => rfl) ?_)
  intro P4 hP4
  refine Run.seq (Run.load cell8 _ _ ?_)
  refine Run.seq (extremes (w := w) (k := 4) (n := 5 * i.val + 4) (by omega) hP4 ![4, 0, 0, 0] rfl _ k0_t15_ok (by decide) _ off27 _ _ _ (fun _ _ => rfl) ?_)
  intro a4 b4 ha4 hb4
  refine Run.ret _ ?_
  dsimp only
  rw [show k0_pay237 a4 = mnV w (5 * i.val + 4) from ha4, show k0_pay238 b4 = mxV w (5 * i.val + 4) from hb4]
  refine Run.seq ?_
  rw [k0_part33_eq_skeleton]
  unfold k0_part33_skel
  refine Run.seq (normalise (w := w) (k := 4) (n := 5 * i.val + 4) (by omega) hP4 k0_t16_ok (by decide) _ off28 _ _ _ off29 _ (fun _ => View.loadsAt_vmem h_S1x1x8x128) (fun _ => View.stores_vmem_bits_univ h_S1x1x8x128 rfl)
    _ off30 _ (fun _ => View.loadsAt_vmem h_S1x1x8x128) (fun _ => View.stores_vmem_bits_univ h_S1x1x8x128 rfl) _ (fun _ _ => rfl) ?_)
  intro X4 hX4 hY4
  refine Run.ret _ ?_
  dsimp only
  have hX : ∀ k < 5, ∀ r < 64, atX X4 k r = xV w (5 * i.val + k) r := by
    intro k hk r hr
    match k, hk with
    | 0, _ => exact (hY4 0 (by decide) (by decide) r hr).trans ((hY3 0 (by decide) (by decide) r hr).trans ((hY2 0 (by decide) (by decide) r hr).trans ((hY1 0 (by decide) (by decide) r hr).trans (hX0 r hr))))
    | 1, _ => exact (hY4 1 (by decide) (by decide) r hr).trans ((hY3 1 (by decide) (by decide) r hr).trans ((hY2 1 (by decide) (by decide) r hr).trans (hX1 r hr)))
    | 2, _ => exact (hY4 2 (by decide) (by decide) r hr).trans ((hY3 2 (by decide) (by decide) r hr).trans (hX2 r hr))
    | 3, _ => exact (hY4 3 (by decide) (by decide) r hr).trans (hX3 r hr)
    | 4, _ => exact hX4 r hr
  refine Run.seq ?_
  rw [k0_part34_eq_skeleton]
  unfold k0_part34_skel
  refine Run.seq (iterate (w := w) (i := i.val) hX i0 harg2 harg3 harg4 harg5 harg6 harg7 harg8 harg9 harg10 harg11 i _ _ _ _ _ _ _ _ _ _ _ _ _ ?_)
  dsimp only [carried]
  refine Run.seq (encode (w := w) (k := 0) (n := 5 * i.val + 0) (by omega) (hX 0 (by omega)) (zV w (5 * i.val + 0) 20) rfl k0_t23_ok (by decide)
    (fun j a => k0_off36 j (BitVec.ofNat 32 a.val)) off36 k0_off36_inb (fun _ _ => View.loadsAt_vmem h_S1x1x8x128)
    _ off37 k0_off37_inb (fun _ => View.loadsAt_vmem h_S1x8x128) spos_1_9_1 (fun _ => View.stores_vmem_bits_univ h_S1x8x128 rfl) _ (fun _ _ => rfl) ?_)
  intro C0 hC0
  refine Run.seq (scatter (w := w) (k := 0) (n := 5 * i.val + 0) (by omega) (by omega) hC0 k0_t24_ok (by decide) _ off38 k0_off38_inb (fun _ => View.loadsAt_vmem h_S1x8x128)
    _ (off39 i) (k0_off39_inb i) (fun _ => View.loadsAt_vmem h_S1x32x128)
    (fun g => View.stores_vmem h_S1x32x128 (harg3.storeExact_slice rfl _ (k0_off39_packedi8 i g)) (fun _ => rfl)) _ (fun _ _ => rfl) ?_)
  intro K1 hK0 hO0
  have hF1 := finished_step (by omega) hF hK0 hO0 (off40 i 0) (k0_off40_inb i 0) (off41 i 0) (k0_off41_inb i 0) (off42 i 0) (k0_off42_inb i 0) (off43 i 0) (k0_off43_inb i 0)
  refine Run.seq (Run.load cell11 _ _ ?_)
  refine Run.seq (Run.store cell11 _ _ _ _ ?_)
  refine Run.seq (Run.load cell11 _ _ ?_)
  refine Run.ret _ ?_
  dsimp only
  refine Run.seq ?_
  rw [k0_part35_eq_skeleton]
  unfold k0_part35_skel
  refine Run.seq (Run.store cell11 _ _ _ _ ?_)
  refine Run.seq (Run.load cell11 _ _ ?_)
  refine Run.seq (Run.store cell11 _ _ _ _ ?_)
  refine Run.seq (Run.load cell11 _ _ ?_)
  refine Run.seq (Run.store cell11 _ _ _ _ ?_)
  refine Run.seq (encode (w := w) (k := 1) (n := 5 * i.val + 1) (by omega) (hX 1 (by omega)) (zV w (5 * i.val + 1) 20) rfl k0_t25_ok (by decide)
    (fun j a => k0_off44 j (BitVec.ofNat 32 a.val)) off44 k0_off44_inb (fun _ _ => View.loadsAt_vmem h_S1x1x8x128)
    _ off45 k0_off45_inb (fun _ => View.loadsAt_vmem h_S1x8x128) spos_1_9_1 (fun _ => View.stores_vmem_bits_univ h_S1x8x128 rfl) _ (fun _ _ => rfl) ?_)
  intro C1 hC1
  refine Run.seq (scatter (w := w) (k := 1) (n := 5 * i.val + 1) (by omega) (by omega) hC1 k0_t26_ok (by decide) _ off46 k0_off46_inb (fun _ => View.loadsAt_vmem h_S1x8x128)
    _ (off47 i) (k0_off47_inb i) (fun _ => View.loadsAt_vmem h_S1x32x128)
    (fun g => View.stores_vmem h_S1x32x128 (harg3.storeExact_slice rfl _ (k0_off47_packedi8 i g)) (fun _ => rfl)) _ (fun _ _ => rfl) ?_)
  intro K2 hK1 hO1
  have hF2 := finished_step (by omega) hF1 hK1 hO1 (off40 i 1) (k0_off40_inb i 1) (off41 i 1) (k0_off41_inb i 1) (off42 i 1) (k0_off42_inb i 1) (off43 i 1) (k0_off43_inb i 1)
  refine Run.seq (Run.load cell11 _ _ ?_)
  refine Run.seq (Run.store cell11 _ _ _ _ ?_)
  refine Run.seq (Run.load cell11 _ _ ?_)
  refine Run.ret _ ?_
  dsimp only
  refine Run.seq ?_
  rw [k0_part36_eq_skeleton]
  unfold k0_part36_skel
  refine Run.seq (Run.store cell11 _ _ _ _ ?_)
  refine Run.seq (Run.load cell11 _ _ ?_)
  refine Run.seq (Run.store cell11 _ _ _ _ ?_)
  refine Run.seq (Run.load cell11 _ _ ?_)
  refine Run.seq (Run.store cell11 _ _ _ _ ?_)
  refine Run.seq (encode (w := w) (k := 2) (n := 5 * i.val + 2) (by omega) (hX 2 (by omega)) (zV w (5 * i.val + 2) 20) rfl k0_t27_ok (by decide)
    (fun j a => k0_off48 j (BitVec.ofNat 32 a.val)) off48 k0_off48_inb (fun _ _ => View.loadsAt_vmem h_S1x1x8x128)
    _ off49 k0_off49_inb (fun _ => View.loadsAt_vmem h_S1x8x128) spos_1_9_1 (fun _ => View.stores_vmem_bits_univ h_S1x8x128 rfl) _ (fun _ _ => rfl) ?_)
  intro C2 hC2
  refine Run.seq (scatter (w := w) (k := 2) (n := 5 * i.val + 2) (by omega) (by omega) hC2 k0_t28_ok (by decide) _ off50 k0_off50_inb (fun _ => View.loadsAt_vmem h_S1x8x128)
    _ (off51 i) (k0_off51_inb i) (fun _ => View.loadsAt_vmem h_S1x32x128)
    (fun g => View.stores_vmem h_S1x32x128 (harg3.storeExact_slice rfl _ (k0_off51_packedi8 i g)) (fun _ => rfl)) _ (fun _ _ => rfl) ?_)
  intro K3 hK2 hO2
  have hF3 := finished_step (by omega) hF2 hK2 hO2 (off40 i 2) (k0_off40_inb i 2) (off41 i 2) (k0_off41_inb i 2) (off42 i 2) (k0_off42_inb i 2) (off43 i 2) (k0_off43_inb i 2)
  refine Run.seq (Run.load cell11 _ _ ?_)
  refine Run.seq (Run.store cell11 _ _ _ _ ?_)
  refine Run.ret _ ?_
  dsimp only
  refine Run.seq ?_
  rw [k0_part37_eq_skeleton]
  unfold k0_part37_skel
  refine Run.seq (Run.load cell11 _ _ ?_)
  refine Run.seq (Run.store cell11 _ _ _ _ ?_)
  refine Run.seq (Run.load cell11 _ _ ?_)
  refine Run.seq (Run.store cell11 _ _ _ _ ?_)
  refine Run.seq (Run.load cell11 _ _ ?_)
  refine Run.seq (Run.store cell11 _ _ _ _ ?_)
  refine Run.seq (encode (w := w) (k := 3) (n := 5 * i.val + 3) (by omega) (hX 3 (by omega)) (zV w (5 * i.val + 3) 20) rfl k0_t29_ok (by decide)
    (fun j a => k0_off52 j (BitVec.ofNat 32 a.val)) off52 k0_off52_inb (fun _ _ => View.loadsAt_vmem h_S1x1x8x128)
    _ off53 k0_off53_inb (fun _ => View.loadsAt_vmem h_S1x8x128) spos_1_9_1 (fun _ => View.stores_vmem_bits_univ h_S1x8x128 rfl) _ (fun _ _ => rfl) ?_)
  intro C3 hC3
  refine Run.seq (scatter (w := w) (k := 3) (n := 5 * i.val + 3) (by omega) (by omega) hC3 k0_t30_ok (by decide) _ off54 k0_off54_inb (fun _ => View.loadsAt_vmem h_S1x8x128)
    _ (off55 i) (k0_off55_inb i) (fun _ => View.loadsAt_vmem h_S1x32x128)
    (fun g => View.stores_vmem h_S1x32x128 (harg3.storeExact_slice rfl _ (k0_off55_packedi8 i g)) (fun _ => rfl)) _ (fun _ _ => rfl) ?_)
  intro K4 hK3 hO3
  have hF4 := finished_step (by omega) hF3 hK3 hO3 (off40 i 3) (k0_off40_inb i 3) (off41 i 3) (k0_off41_inb i 3) (off42 i 3) (k0_off42_inb i 3) (off43 i 3) (k0_off43_inb i 3)
  refine Run.seq (Run.load cell11 _ _ ?_)
  refine Run.seq (Run.store cell11 _ _ _ _ ?_)
  refine Run.ret _ ?_
  dsimp only
  refine Run.seq ?_
  rw [k0_part38_eq_skeleton]
  unfold k0_part38_skel
  refine Run.seq (Run.load cell11 _ _ ?_)
  refine Run.seq (Run.store cell11 _ _ _ _ ?_)
  refine Run.seq (Run.load cell11 _ _ ?_)
  refine Run.seq (Run.store cell11 _ _ _ _ ?_)
  refine Run.seq (Run.load cell11 _ _ ?_)
  refine Run.seq (Run.store cell11 _ _ _ _ ?_)
  refine Run.seq (encode (w := w) (k := 4) (n := 5 * i.val + 4) (by omega) (hX 4 (by omega)) (zV w (5 * i.val + 4) 20) rfl k0_t31_ok (by decide)
    (fun j a => k0_off56 j (BitVec.ofNat 32 a.val)) off56 k0_off56_inb (fun _ _ => View.loadsAt_vmem h_S1x1x8x128)
    _ off57 k0_off57_inb (fun _ => View.loadsAt_vmem h_S1x8x128) spos_1_9_1 (fun _ => View.stores_vmem_bits_univ h_S1x8x128 rfl) _ (fun _ _ => rfl) ?_)
  intro C4 hC4
  refine Run.seq (scatter (w := w) (k := 4) (n := 5 * i.val + 4) (by omega) (by omega) hC4 k0_t32_ok (by decide) _ off58 k0_off58_inb (fun _ => View.loadsAt_vmem h_S1x8x128)
    _ (off59 i) (k0_off59_inb i) (fun _ => View.loadsAt_vmem h_S1x32x128)
    (fun g => View.stores_vmem h_S1x32x128 (harg3.storeExact_slice rfl _ (k0_off59_packedi8 i g)) (fun _ => rfl)) _ (fun _ _ => rfl) ?_)
  intro K5 hK4 hO4
  have hF5 := finished_step (by omega) hF4 hK4 hO4 (off40 i 4) (k0_off40_inb i 4) (off41 i 4) (k0_off41_inb i 4) (off42 i 4) (k0_off42_inb i 4) (off43 i 4) (k0_off43_inb i 4)
  refine Run.seq (Run.load cell11 _ _ ?_)
  refine Run.seq (Run.store cell11 _ _ _ _ ?_)
  refine Run.ret _ ?_
  dsimp only
  refine Run.seq (Run.load cell11 _ _ ?_)
  refine Run.seq (Run.store cell11 _ _ _ _ ?_)
  refine Run.seq (Run.load cell11 _ _ ?_)
  refine Run.seq (Run.store cell11 _ _ _ _ ?_)
  refine Run.seq (Run.load cell11 _ _ ?_)
  refine Run.seq (Run.store cell11 _ _ _ _ ?_)
  exact Run.ret _ ⟨_, _, _, _, _, rfl, hF5⟩

end Cert.Proof.KernelIdealTrip
-- ==== Proof.KernelIdealBody.lean ====
/- The whole body of the idealized kernel: what it leaves in the five blocks of results. -/
module

public import proofs.«01_k».proof.Proof.KernelIdealAccess2
public import proofs.«01_k».proof.Proof.KernelIdealOffsets
public import proofs.«01_k».proof.Proof.KernelIdealTrip

@[expose] public section

noncomputable section

namespace Cert.Proof.KernelIdealBody

open Cert.KernelIdeal Cert.KernelIdeal.Gen Cert.Proof.Triple Cert.Proof.KernelIdealState Cert.Proof.KernelIdealModel Cert.Proof.KernelIdealAccess Cert.Proof.KernelIdealTrip Idealize.ShloMosaic.ValueIdx
open Idealize.ShloMosaic Idealize.ShloMosaic.TcCoe Idealize.SL Idealize.SL.Sem

/-- A statistic given tile by tile, as a block over the two batches and their groups. -/
def statOut (f : ℕ → V) : S2x140x128.Idx → Elt Ideal .f32 := fun y =>
  f ((140 * (y 0).val + (y 1).val) / 8) (ix2 ⟨(140 * (y 0).val + (y 1).val) % 8, Nat.mod_lt _ (by decide)⟩ (y 2))

/-- The block of packed codes. -/
def codesOut (w : Wt) : S2x4480x128.Idx → Elt Ideal .i8 := fun y =>
  codeV w ((140 * (y 0).val + (y 1).val / 32) / 8) ((y 1).val % 32) (ix2 ⟨(140 * (y 0).val + (y 1).val / 32) % 8, Nat.mod_lt _ (by decide)⟩ (y 2))

/-- The codes' block, once every tile's rows are known. -/
theorem codes_eq {w : Wt} {K S} (h : Finished w 35 K S) : K = codesOut w := by
  funext y
  have h0 : (y 0).val < 2 := (y 0).isLt
  have h1 : (y 1).val < 4480 := (y 1).isLt
  have e := congrFun ((h ((140 * (y 0).val + (y 1).val / 32) / 8) (by omega) (by omega)).1 ((y 1).val % 32) (Nat.mod_lt _ (by decide)))
    (ix2 ⟨(140 * (y 0).val + (y 1).val / 32) % 8, Nat.mod_lt _ (by decide)⟩ (y 2))
  refine Eq.trans (congrArg K (funext fun a => Fin.ext ?_)) e
  fin_cases a
  · show (y 0).val = (8 * ((140 * (y 0).val + (y 1).val / 32) / 8) + (140 * (y 0).val + (y 1).val / 32) % 8) / 140 % 2
    omega
  · show (y 1).val = ((8 * ((140 * (y 0).val + (y 1).val / 32) / 8) + (140 * (y 0).val + (y 1).val / 32) % 8) % 140 * 32 + (y 1).val % 32) % 4480
    omega
  · rfl

/-- A 1x140x128 vector through its 140x128 form and back. -/
theorem round_trip (v : S1x140x128.Idx → Elt Ideal .f32) :
    shapeCast S1x140x128 (shapeCast S140x128 v shapeCasts_S1x140x128_S140x128) shapeCasts_S140x128_S1x140x128 = v := by
  funext y
  refine (shapeCast_apply _ _ _ (ix2 (y 1) (y 2) : S140x128.Idx) ?_).trans (shapeCast_apply _ _ _ _ ?_)
  · rw [Shape.rowMajor_val_three, Shape.rowMajor_val_two]
    have h0 : (y 0).val < 1 := (y 0).isLt
    show (y 1).val * 128 + (y 2).val = ((y 0).val * 140 + (y 1).val) * 128 + (y 2).val
    omega
  · rw [Shape.rowMajor_val_three, Shape.rowMajor_val_two]
    have h0 : (y 0).val < 1 := (y 0).isLt
    show ((y 0).val * 140 + (y 1).val) * 128 + (y 2).val = (y 1).val * 128 + (y 2).val
    omega

/-- A statistic copied out of the scratch, one batch after the other. -/
theorem copied {w : Wt} {K S} (h : Finished w 35 K S) {a : ℕ} (ha : a < 4) (f : ℕ → V) (hf : ∀ n < 35, atS S a n = f n) (X : S2x140x128.Idx → Elt Ideal .f32)
    {off0 off1 off2 off3 : Fin 3 → ℕ} (h0 : off0 = ![a, 0, 0]) (h1 : off1 = ![a, 140, 0]) (h2 : off2 = ![0, 0, 0]) (h3 : off3 = ![1, 0, 0]) (inb0) (inb1) (inb2) (inb3) :
    upd (Rect.unit (s := S2x140x128) off3 S1x140x128.size inb3)
        (shapeCast S1x140x128 (shapeCast S140x128 (fun x => S ((Rect.unit (s := S4x280x128) off1 S1x140x128.size inb1).toLoadRect.idx x)) shapeCasts_S1x140x128_S140x128) shapeCasts_S140x128_S1x140x128)
      (upd (Rect.unit (s := S2x140x128) off2 S1x140x128.size inb2)
        (shapeCast S1x140x128 (shapeCast S140x128 (fun x => S ((Rect.unit (s := S4x280x128) off0 S1x140x128.size inb0).toLoadRect.idx x)) shapeCasts_S1x140x128_S140x128) shapeCasts_S140x128_S1x140x128) X)
      = statOut f := by
  rw [round_trip, round_trip]
  subst h0 h1 h2 h3
  funext y
  have hy0 : (y 0).val < 2 := (y 0).isLt
  have hy1 : (y 1).val < 140 := (y 1).isLt
  have e := congrFun (hf ((140 * (y 0).val + (y 1).val) / 8) (by omega)) (ix2 ⟨(140 * (y 0).val + (y 1).val) % 8, Nat.mod_lt _ (by decide)⟩ (y 2))
  refine Eq.trans ?_ e
  by_cases hb : (y 0).val = 1
  · have hx : ∀ b : Fin 3, (y b).val = (![1, 0, 0] : Fin 3 → ℕ) b + 1 * ((ix3 0 (y 1) (y 2) : S1x140x128.Idx) b).val := by
      intro b
      fin_cases b
      · show (y 0).val = 1 + 1 * 0
        omega
      · show (y 1).val = 0 + 1 * (y 1).val
        omega
      · show (y 2).val = 0 + 1 * (y 2).val
        omega
    refine (upd_at (Rect.unit (s := S2x140x128) ![1, 0, 0] S1x140x128.size inb3) _ _ (ix3 0 (y 1) (y 2) : S1x140x128.Idx) y hx).trans ?_
    refine congrArg S (funext fun b => Fin.ext ?_)
    rw [LoadRect.idx_apply]
    fin_cases b
    · show a + 1 * 0 = a % 4
      omega
    · show 140 + 1 * (y 1).val = (8 * ((140 * (y 0).val + (y 1).val) / 8) + (140 * (y 0).val + (y 1).val) % 8) % 280
      omega
    · show 0 + 1 * (y 2).val = (y 2).val
      omega
  · have hx : ∀ b : Fin 3, (y b).val = (![0, 0, 0] : Fin 3 → ℕ) b + 1 * ((ix3 0 (y 1) (y 2) : S1x140x128.Idx) b).val := by
      intro b
      fin_cases b
      · show (y 0).val = 0 + 1 * 0
        omega
      · show (y 1).val = 0 + 1 * (y 1).val
        omega
      · show (y 2).val = 0 + 1 * (y 2).val
        omega
    refine (upd_off (Rect.unit (s := S2x140x128) ![1, 0, 0] S1x140x128.size inb3) _ _ y 0 ?_).trans ?_
    · intro n hn
      show (y 0).val ≠ 1 + 1 * n
      omega
    refine (upd_at (Rect.unit (s := S2x140x128) ![0, 0, 0] S1x140x128.size inb2) _ _ (ix3 0 (y 1) (y 2) : S1x140x128.Idx) y hx).trans ?_
    refine congrArg S (funext fun b => Fin.ext ?_)
    rw [LoadRect.idx_apply]
    fin_cases b
    · show a + 1 * 0 = a % 4
      omega
    · show 0 + 1 * (y 1).val = (8 * ((140 * (y 0).val + (y 1).val) / 8) + (140 * (y 0).val + (y 1).val) % 8) % 280
      omega
    · show 0 + 1 * (y 2).val = (y 2).val
      omega

variable {defs : Defs nD τ sig (Elt Ideal) Λ₀} {𝒱 : Variants} {c : Dev nD} {arg2 : Memref sig .tc .vmem S2x8960x128 .bf16} {arg3 : Memref sig .tc .vmem S2x4480x128 .i8} {arg4 : Memref sig .tc .vmem S2x140x128 .f32} {arg5 : Memref sig .tc .vmem S2x140x128 .f32} {arg6 : Memref sig .tc .vmem S2x140x128 .f32} {arg7 : Memref sig .tc .vmem S2x140x128 .f32} {arg8 : Memref sig .tc .vmem S5x288x2x128 .bf16} {arg9 : Memref sig .tc .vmem S5x64x8x128 .f32} {arg10 : Memref sig .tc .vmem S5x72x128 .i32} {arg11 : Memref sig .tc .vmem S4x280x128 .f32}

set_option maxRecDepth 65536 in
set_option maxHeartbeats 0 in
/-- The body leaves the weights as they were, and every entry of the five blocks of results is the model's. -/
theorem body {σ : St Ideal} (i0 : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) :
    Run defs 𝒱 c (Held (F := Ideal) c arg2 arg3 arg4 arg5 arg6 arg7 arg8 arg9 arg10 arg11) σ (cc0_hqq_fit i0 arg2 harg2 arg3 harg3 arg4 harg4 arg5 harg5 arg6 harg6 arg7 harg7 arg8 harg8 arg9 harg9 arg10 harg10 arg11 harg11) (fun _ σ' => σ'.w = σ.w ∧ σ'.codes = codesOut σ.w
      ∧ σ'.s = statOut (sV σ.w) ∧ σ'.z = statOut (fun n => zV σ.w n 20) ∧ σ'.lp = statOut (lpV σ.w) ∧ σ'.shift = statOut (shiftV σ.w)) := by
  rw [cc0_hqq_fit_eq_skeleton]
  unfold cc0_hqq_fit_skel
  refine Run.seq ?_
  rw [k0_part39_eq_skeleton]
  unfold k0_part39_skel
  obtain ⟨w, K0, s, z, lp, sh, P, X, C, S⟩ := σ
  refine Run.seq (Run.loop _ _ _ _ _ _ (fun m _ σ' => ∃ K P X C S, σ' = (⟨w, K, s, z, lp, sh, P, X, C, S⟩ : St Ideal) ∧ Finished w (5 * m) K S) ⟨_, _, _, _, _, rfl, fun n hn => absurd hn (by omega)⟩ ?_ ?_)
  · rintro i u σ' ⟨K, P, X, C, S, rfl, hF⟩
    refine (trip i u i0 harg2 harg3 harg4 harg5 harg6 harg7 harg8 harg9 harg10 harg11 hF).mono ?_
    rintro _ σ' ⟨K', P', X', C', S', rfl, hF'⟩
    exact ⟨_, _, _, _, _, rfl, hF'⟩
  · rintro _ σ' ⟨K, P, X, C, S, rfl, hF⟩
    have hF : Finished w 35 K S := hF
    refine Run.seq (Run.load cell11 _ _ ?_)
    refine Run.seq (Run.load cell4 _ _ ?_)
    refine Run.seq (Run.store cell4 _ _ _ _ ?_)
    refine Run.seq (Run.load cell11 _ _ ?_)
    refine Run.seq (Run.load cell4 _ _ ?_)
    refine Run.seq (Run.store cell4 _ _ _ _ ?_)
    refine Run.seq (Run.load cell11 _ _ ?_)
    refine Run.seq (Run.load cell5 _ _ ?_)
    refine Run.seq (Run.store cell5 _ _ _ _ ?_)
    refine Run.seq (Run.load cell11 _ _ ?_)
    refine Run.seq (Run.load cell5 _ _ ?_)
    refine Run.seq (Run.store cell5 _ _ _ _ ?_)
    refine Run.seq (Run.load cell11 _ _ ?_)
    refine Run.ret _ ?_
    dsimp only
    refine Run.seq (Run.load cell6 _ _ ?_)
    refine Run.seq (Run.store cell6 _ _ _ _ ?_)
    refine Run.seq (Run.load cell11 _ _ ?_)
    refine Run.seq (Run.load cell6 _ _ ?_)
    refine Run.seq (Run.store cell6 _ _ _ _ ?_)
    refine Run.seq (Run.load cell11 _ _ ?_)
    refine Run.seq (Run.load cell7 _ _ ?_)
    refine Run.seq (Run.store cell7 _ _ _ _ ?_)
    refine Run.seq (Run.load cell11 _ _ ?_)
    refine Run.seq (Run.load cell7 _ _ ?_)
    refine Run.seq (Run.store cell7 _ _ _ _ ?_)
    refine Run.ret _ ?_
    dsimp only
    exact ⟨rfl, codes_eq hF, copied hF (by decide) (sV w) (fun n hn => (hF n hn hn).2.1) s rfl rfl rfl rfl _ _ _ _,
      copied hF (by decide) (fun n => zV w n 20) (fun n hn => (hF n hn hn).2.2.1) z rfl rfl rfl rfl _ _ _ _,
      copied hF (by decide) (lpV w) (fun n hn => (hF n hn hn).2.2.2.1) lp rfl rfl rfl rfl _ _ _ _,
      copied hF (by decide) (shiftV w) (fun n hn => (hF n hn hn).2.2.2.2) sh rfl rfl rfl rfl _ _ _ _⟩

end Cert.Proof.KernelIdealBody
-- ==== Proof.KernelIdealValueRun.lean ====
/- The run of the idealized kernel over the whole grid, with what the five arrays of results hold at its end. -/
module

public import proofs.«01_k».proof.Proof.KernelIdealBody
public import proofs.«01_k».proof.Proof.Gen.KernelIdeal.Frame
public import Idealize.ShloMosaic.Lib.Pipeline.ValueKit

@[expose] public section

noncomputable section

namespace Cert.Proof.KernelIdealValueRun

open Cert.KernelIdeal Cert.KernelIdeal.Gen Cert.Proof.Triple Cert.Proof.KernelIdealState Cert.Proof.KernelIdealModel Cert.Proof.KernelIdealBody
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data on core `c`: the arrays as launched; after the body at a point, the weights' block as it was and each
    block of results the model's; the scratch at anything between two points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => codesOut (iblk m c 0 t)
    | ⟨2, _⟩ => statOut (sV (iblk m c 0 t))
    | ⟨3, _⟩ => statOut (fun n => zV (iblk m c 0 t) n 20)
    | ⟨4, _⟩ => statOut (lpV (iblk m c 0 t))
    | ⟨5, _⟩ => statOut (shiftV (iblk m c 0 t))
  Φ _ := Pipeline.ΦA spec0 c
  q _ := fullShare
  owed _ := 0

/-- The arrays are as launched. -/
theorem A_eq (c : Dev nD) (w : Fin cfg0.W) : (dats m 0 c).A w = V m c (Pipeline.arrRef spec0 w) := by
  dsimp only [dats]

/-- The weights' block is left in place. -/
theorem after0_0 (c : Dev nD) (t : Fin cfg0.N) : (dats m 0 c).after 0 t = iblk m c 0 t := by dsimp only [dats]
/-- The codes left at a point. -/
theorem after0_1 (c : Dev nD) (t : Fin cfg0.N) : (dats m 0 c).after 1 t = codesOut (iblk m c 0 t) := by dsimp only [dats]
/-- The scales left at a point. -/
theorem after0_2 (c : Dev nD) (t : Fin cfg0.N) : (dats m 0 c).after 2 t = statOut (sV (iblk m c 0 t)) := by dsimp only [dats]
/-- The zeros left at a point. -/
theorem after0_3 (c : Dev nD) (t : Fin cfg0.N) : (dats m 0 c).after 3 t = statOut (fun n => zV (iblk m c 0 t) n 20) := by dsimp only [dats]
/-- The errors left at a point. -/
theorem after0_4 (c : Dev nD) (t : Fin cfg0.N) : (dats m 0 c).after 4 t = statOut (lpV (iblk m c 0 t)) := by dsimp only [dats]
/-- The shifts left at a point. -/
theorem after0_5 (c : Dev nD) (t : Fin cfg0.N) : (dats m 0 c).after 5 t = statOut (shiftV (iblk m c 0 t)) := by dsimp only [dats]

/-- The weights' buffer holds their block at every point. -/
theorem before0_0 (c : Dev nD) (t : Fin cfg0.N) (d) : (dats m 0 c).before 0 t d = iblk m c 0 t :=
  before0_0_of m (dats m 0 c) (A_eq m c 0) (after0_0 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, its buffers described by one state. -/
theorem body_run (c : Dev nD) (t : Fin cfg0.N) (σ : St Ideal) :
    Held (F := Ideal) c (st0_0 t) (st0_1 t) (st0_2 t) (st0_3 t) (st0_4 t) (st0_5 t)
        (Memref.whole cc0_scratch0) (Memref.whole cc0_scratch1) (Memref.whole cc0_scratch2) (Memref.whole cc0_scratch3) σ
      ⊢ wp frame (wpE (defs₀ (F := Ideal)) Variants.none (c : Thread nD τ) none) Set.univ (bodyAt0 t)
          (fun _ => iprop(∃ σ', ⌜σ'.w = σ.w ∧ σ'.codes = codesOut σ.w
      ∧ σ'.s = statOut (sV σ.w) ∧ σ'.z = statOut (fun n => zV σ.w n 20) ∧ σ'.lp = statOut (lpV σ.w) ∧ σ'.shift = statOut (shiftV σ.w)⌝
            ∗ Held (F := Ideal) c (st0_0 t) (st0_1 t) (st0_2 t) (st0_3 t) (st0_4 t) (st0_5 t)
            (Memref.whole cc0_scratch0) (Memref.whole cc0_scratch1) (Memref.whole cc0_scratch2) (Memref.whole cc0_scratch3) σ')) :=
  body _ _ _ _ _ _ _ _ _ _ _

/-- The body's obligation at each point, with the invariant opened and closed again. -/
theorem sound_body (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost
  simp only [before0_0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%d0, S0⟩, ⟨%d1, S1⟩, ⟨%d2, S2⟩, ⟨%d3, S3⟩⟩, Hg⟩, HO, ⟨%e0, H0⟩, ⟨%e1, H1⟩, ⟨%e2, H2⟩, ⟨%e3, H3⟩, ⟨%e4, H4⟩, ⟨%e5, H5⟩⟩
  iapply wp_wand_r
  isplitl [H0 H1 H2 H3 H4 H5 S0 S1 S2 S3]
  · iapply (body_run c t ⟨iblk m c 0 t, (dats m 0 c).before 1 t e1, (dats m 0 c).before 2 t e2, (dats m 0 c).before 3 t e3, (dats m 0 c).before 4 t e4, (dats m 0 c).before 5 t e5, d0, d1, d2, d3⟩)
    unfold Held
    simp only [owns_whole]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iexact S3
  iintro %_ ⟨%σ', %hσ, Hσ⟩
  obtain ⟨σw, σcodes, σs, σz, σlp, σshift, σp, σx, σc, σt⟩ := σ'
  obtain ⟨h0, h1, h2, h3, h4, h5⟩ := hσ
  dsimp only at h0 h1 h2 h3 h4 h5
  subst h0 h1 h2 h3 h4 h5
  unfold Held
  simp only [owns_whole]
  icases Hσ with ⟨H0, H1, H2, H3, H4, H5, S0, S1, S2, S3⟩
  isplitl [S0 S1 S2 S3 Hg]
  · isplitl [S0 S1 S2 S3]
    · isplitl [S0]; · iexists _; iexact S0
      isplitl [S1]; · iexists _; iexact S1
      isplitl [S2]; · iexists _; iexact S2
      iexists _; iexact S3
    · iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body. -/
theorem defs₀_row (t : Fin cfg0.N) : defs₀ (F := Ideal) .tc cfg0.body (cfg0.bodyArgs t (cfg0.slots t)) = bodyAt0 t := by
  unfold defs₀; rw [Defs.onTc_tc]

/-- The obligation as the pipeline's rule asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run of the whole grid, with every array of results at what the proof data say. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The weights of the two batches `2 i`, `2 i + 1` and the 128 columns from `128 j`. -/
def blockOf (A : S12x8960x1536.Idx → Elt Ideal .bf16) (i j : ℕ) : Wt := fun y =>
  A (ValueIdx.ix3 ⟨(2 * i + (y 0).val) % 12, Nat.mod_lt _ (by decide)⟩ (y 1) ⟨(128 * j + (y 2).val) % 1536, Nat.mod_lt _ (by decide)⟩)

/-- A statistic over the whole of the weights. -/
def statAll (f : Wt → ℕ → V) (A : S12x8960x1536.Idx → Elt Ideal .bf16) : S12x140x1536.Idx → Elt Ideal .f32 := fun y =>
  statOut (f (blockOf A ((y 0).val / 2) ((y 2).val / 128))) (ValueIdx.ix3 ⟨(y 0).val % 2, Nat.mod_lt _ (by decide)⟩ (y 1) ⟨(y 2).val % 128, Nat.mod_lt _ (by decide)⟩)

/-- The packed codes over the whole of the weights. -/
def codesAll (A : S12x8960x1536.Idx → Elt Ideal .bf16) : S12x4480x1536.Idx → Elt Ideal .i8 := fun y =>
  codesOut (blockOf A ((y 0).val / 2) ((y 2).val / 128)) (ValueIdx.ix3 ⟨(y 0).val % 2, Nat.mod_lt _ (by decide)⟩ (y 1) ⟨(y 2).val % 128, Nat.mod_lt _ (by decide)⟩)

/-- Where window 0 is at a point. -/
theorem index0 : ∀ t : Fin grid0.N, win0_0.index t 0 = (grid0.coords t 0).val ∧ win0_0.index t 1 = 0 ∧ win0_0.index t 2 = (grid0.coords t 1).val := by decide +kernel

/-- Where window 1 is at a point. -/
theorem index1 : ∀ t : Fin grid0.N, win0_1.index t 0 = (grid0.coords t 0).val ∧ win0_1.index t 1 = 0 ∧ win0_1.index t 2 = (grid0.coords t 1).val := by decide +kernel

/-- Where window 2 is at a point. -/
theorem index2 : ∀ t : Fin grid0.N, win0_2.index t 0 = (grid0.coords t 0).val ∧ win0_2.index t 1 = 0 ∧ win0_2.index t 2 = (grid0.coords t 1).val := by decide +kernel

/-- Where window 3 is at a point. -/
theorem index3 : ∀ t : Fin grid0.N, win0_3.index t 0 = (grid0.coords t 0).val ∧ win0_3.index t 1 = 0 ∧ win0_3.index t 2 = (grid0.coords t 1).val := by decide +kernel

/-- Where window 4 is at a point. -/
theorem index4 : ∀ t : Fin grid0.N, win0_4.index t 0 = (grid0.coords t 0).val ∧ win0_4.index t 1 = 0 ∧ win0_4.index t 2 = (grid0.coords t 1).val := by decide +kernel

/-- Where window 5 is at a point. -/
theorem index5 : ∀ t : Fin grid0.N, win0_5.index t 0 = (grid0.coords t 0).val ∧ win0_5.index t 1 = 0 ∧ win0_5.index t 2 = (grid0.coords t 1).val := by decide +kernel

/-- The weights' block at a point. -/
theorem iblk_eq (c : Dev nD) (t : Fin cfg0.N) : iblk m c 0 t = blockOf (m ((c.tc : Thread nD τ).loc main_arg0)) (grid0.coords t 0).val (grid0.coords t 1).val := by
  funext y
  have h0 : (y 0).val < 2 := (y 0).isLt
  have h2 : (y 2).val < 128 := (y 2).isLt
  have g0 : (grid0.coords t 0).val < 6 := (grid0.coords t 0).isLt
  have g1 : (grid0.coords t 1).val < 12 := (grid0.coords t 1).isLt
  unfold iblk
  rw [View.read_apply]
  refine congrArg (m ((c.tc : Thread nD τ).loc main_arg0)) (funext fun a => Fin.ext ?_)
  obtain ⟨i0, i1, i2⟩ := index0 t
  fin_cases a
  · blk_simp
    show win0_0.index t 0 * 2 + (y 0).val = (2 * (grid0.coords t 0).val + (y 0).val) % 12
    omega
  · blk_simp
    show win0_0.index t 1 * 8960 + (y 1).val = (y 1).val
    omega
  · blk_simp
    show win0_0.index t 2 * 128 + (y 2).val = (128 * (grid0.coords t 1).val + (y 2).val) % 1536
    omega

/-- A block's statistic is the whole's at the place the block has in it. -/
theorem stat_at (f : Wt → ℕ → V) (A : S12x8960x1536.Idx → Elt Ideal .bf16) (y : S2x140x128.Idx) {i j : ℕ} {z : S12x140x1536.Idx}
    (e0 : (z 0).val = 2 * i + (y 0).val) (e1 : (z 1).val = (y 1).val) (e2 : (z 2).val = 128 * j + (y 2).val) (h0 : (y 0).val < 2) (h2 : (y 2).val < 128) :
    statOut (f (blockOf A i j)) y = statAll f A z := by
  unfold statAll
  rw [show (z 0).val / 2 = i by omega, show (z 2).val / 128 = j by omega]
  refine congrArg _ (funext fun a => Fin.ext ?_)
  fin_cases a
  · show (y 0).val = (z 0).val % 2
    omega
  · exact e1.symm
  · show (y 2).val = (z 2).val % 128
    omega

/-- A block's packed codes are the whole's at the place the block has in it. -/
theorem codes_at (A : S12x8960x1536.Idx → Elt Ideal .bf16) (y : S2x4480x128.Idx) {i j : ℕ} {z : S12x4480x1536.Idx}
    (e0 : (z 0).val = 2 * i + (y 0).val) (e1 : (z 1).val = (y 1).val) (e2 : (z 2).val = 128 * j + (y 2).val) (h0 : (y 0).val < 2) (h2 : (y 2).val < 128) :
    codesOut (blockOf A i j) y = codesAll A z := by
  unfold codesAll
  rw [show (z 0).val / 2 = i by omega, show (z 2).val / 128 = j by omega]
  refine congrArg _ (funext fun a => Fin.ext ?_)
  fin_cases a
  · show (y 0).val = (z 0).val % 2
    omega
  · exact e1.symm
  · show (y 2).val = (z 2).val % 128
    omega

/-- The array of codes at the end. -/
theorem final1 (c : Dev nD) : (dats m 0 c).arrAt 1 cfg0.N = codesAll (m ((c.tc : Thread nD τ).loc main_arg0)) := by
  refine (dats m 0 c).arrAt_eq_of_covers 1 _ (by decide +kernel) fun t hf y => ?_
  rw [after0_1, iblk_eq]
  have h0 : (y 0).val < 2 := (y 0).isLt
  have h2 : (y 2).val < 128 := (y 2).isLt
  have g0 : (grid0.coords t 0).val < 6 := (grid0.coords t 0).isLt
  have g1 : (grid0.coords t 1).val < 12 := (grid0.coords t 1).isLt
  obtain ⟨i0, i1, i2⟩ := index1 t
  have e0 : (((cfg0.win 1).blk t).view.emb y 0).val = 2 * (grid0.coords t 0).val + (y 0).val := by
    blk_simp
    show win0_1.index t 0 * 2 + (y 0).val = _
    omega
  have e1 : (((cfg0.win 1).blk t).view.emb y 1).val = (y 1).val := by
    blk_simp
    show win0_1.index t 1 * 4480 + (y 1).val = _
    omega
  have e2 : (((cfg0.win 1).blk t).view.emb y 2).val = 128 * (grid0.coords t 1).val + (y 2).val := by
    blk_simp
    show win0_1.index t 2 * 128 + (y 2).val = _
    omega
  exact codes_at (m ((c.tc : Thread nD τ).loc main_arg0)) y e0 e1 e2 h0 h2
/-- The array of scales at the end. -/
theorem final2 (c : Dev nD) : (dats m 0 c).arrAt 2 cfg0.N = statAll sV (m ((c.tc : Thread nD τ).loc main_arg0)) := by
  refine (dats m 0 c).arrAt_eq_of_covers 2 _ (by decide +kernel) fun t hf y => ?_
  rw [after0_2, iblk_eq]
  have h0 : (y 0).val < 2 := (y 0).isLt
  have h2 : (y 2).val < 128 := (y 2).isLt
  have g0 : (grid0.coords t 0).val < 6 := (grid0.coords t 0).isLt
  have g1 : (grid0.coords t 1).val < 12 := (grid0.coords t 1).isLt
  obtain ⟨i0, i1, i2⟩ := index2 t
  have e0 : (((cfg0.win 2).blk t).view.emb y 0).val = 2 * (grid0.coords t 0).val + (y 0).val := by
    blk_simp
    show win0_2.index t 0 * 2 + (y 0).val = _
    omega
  have e1 : (((cfg0.win 2).blk t).view.emb y 1).val = (y 1).val := by
    blk_simp
    show win0_2.index t 1 * 140 + (y 1).val = _
    omega
  have e2 : (((cfg0.win 2).blk t).view.emb y 2).val = 128 * (grid0.coords t 1).val + (y 2).val := by
    blk_simp
    show win0_2.index t 2 * 128 + (y 2).val = _
    omega
  exact stat_at sV (m ((c.tc : Thread nD τ).loc main_arg0)) y e0 e1 e2 h0 h2
/-- The array of zeros at the end. -/
theorem final3 (c : Dev nD) : (dats m 0 c).arrAt 3 cfg0.N = statAll (fun w n => zV w n 20) (m ((c.tc : Thread nD τ).loc main_arg0)) := by
  refine (dats m 0 c).arrAt_eq_of_covers 3 _ (by decide +kernel) fun t hf y => ?_
  rw [after0_3, iblk_eq]
  have h0 : (y 0).val < 2 := (y 0).isLt
  have h2 : (y 2).val < 128 := (y 2).isLt
  have g0 : (grid0.coords t 0).val < 6 := (grid0.coords t 0).isLt
  have g1 : (grid0.coords t 1).val < 12 := (grid0.coords t 1).isLt
  obtain ⟨i0, i1, i2⟩ := index3 t
  have e0 : (((cfg0.win 3).blk t).view.emb y 0).val = 2 * (grid0.coords t 0).val + (y 0).val := by
    blk_simp
    show win0_3.index t 0 * 2 + (y 0).val = _
    omega
  have e1 : (((cfg0.win 3).blk t).view.emb y 1).val = (y 1).val := by
    blk_simp
    show win0_3.index t 1 * 140 + (y 1).val = _
    omega
  have e2 : (((cfg0.win 3).blk t).view.emb y 2).val = 128 * (grid0.coords t 1).val + (y 2).val := by
    blk_simp
    show win0_3.index t 2 * 128 + (y 2).val = _
    omega
  exact stat_at (fun w n => zV w n 20) (m ((c.tc : Thread nD τ).loc main_arg0)) y e0 e1 e2 h0 h2
/-- The array of errors at the end. -/
theorem final4 (c : Dev nD) : (dats m 0 c).arrAt 4 cfg0.N = statAll lpV (m ((c.tc : Thread nD τ).loc main_arg0)) := by
  refine (dats m 0 c).arrAt_eq_of_covers 4 _ (by decide +kernel) fun t hf y => ?_
  rw [after0_4, iblk_eq]
  have h0 : (y 0).val < 2 := (y 0).isLt
  have h2 : (y 2).val < 128 := (y 2).isLt
  have g0 : (grid0.coords t 0).val < 6 := (grid0.coords t 0).isLt
  have g1 : (grid0.coords t 1).val < 12 := (grid0.coords t 1).isLt
  obtain ⟨i0, i1, i2⟩ := index4 t
  have e0 : (((cfg0.win 4).blk t).view.emb y 0).val = 2 * (grid0.coords t 0).val + (y 0).val := by
    blk_simp
    show win0_4.index t 0 * 2 + (y 0).val = _
    omega
  have e1 : (((cfg0.win 4).blk t).view.emb y 1).val = (y 1).val := by
    blk_simp
    show win0_4.index t 1 * 140 + (y 1).val = _
    omega
  have e2 : (((cfg0.win 4).blk t).view.emb y 2).val = 128 * (grid0.coords t 1).val + (y 2).val := by
    blk_simp
    show win0_4.index t 2 * 128 + (y 2).val = _
    omega
  exact stat_at lpV (m ((c.tc : Thread nD τ).loc main_arg0)) y e0 e1 e2 h0 h2
/-- The array of shifts at the end. -/
theorem final5 (c : Dev nD) : (dats m 0 c).arrAt 5 cfg0.N = statAll shiftV (m ((c.tc : Thread nD τ).loc main_arg0)) := by
  refine (dats m 0 c).arrAt_eq_of_covers 5 _ (by decide +kernel) fun t hf y => ?_
  rw [after0_5, iblk_eq]
  have h0 : (y 0).val < 2 := (y 0).isLt
  have h2 : (y 2).val < 128 := (y 2).isLt
  have g0 : (grid0.coords t 0).val < 6 := (grid0.coords t 0).isLt
  have g1 : (grid0.coords t 1).val < 12 := (grid0.coords t 1).isLt
  obtain ⟨i0, i1, i2⟩ := index5 t
  have e0 : (((cfg0.win 5).blk t).view.emb y 0).val = 2 * (grid0.coords t 0).val + (y 0).val := by
    blk_simp
    show win0_5.index t 0 * 2 + (y 0).val = _
    omega
  have e1 : (((cfg0.win 5).blk t).view.emb y 1).val = (y 1).val := by
    blk_simp
    show win0_5.index t 1 * 140 + (y 1).val = _
    omega
  have e2 : (((cfg0.win 5).blk t).view.emb y 2).val = 128 * (grid0.coords t 1).val + (y 2).val := by
    blk_simp
    show win0_5.index t 2 * 128 + (y 2).val = _
    omega
  exact stat_at shiftV (m ((c.tc : Thread nD τ).loc main_arg0)) y e0 e1 e2 h0 h2

/-- The run, with every result as a function of the weights. -/
theorem run_values : θ_run defs (onTc (τ := τ) (main (F := Ideal))) (s₀ m ρ) (fun r => ∀ c : Dev nD,
    r.2.mem ((c.tc : Thread nD τ).loc main_arg0) = m ((c.tc : Thread nD τ).loc main_arg0)
    ∧ r.2.mem ((c.tc : Thread nD τ).loc main_v0_0) = codesAll (m ((c.tc : Thread nD τ).loc main_arg0))
    ∧ r.2.mem ((c.tc : Thread nD τ).loc main_v0_1) = statAll sV (m ((c.tc : Thread nD τ).loc main_arg0))
    ∧ r.2.mem ((c.tc : Thread nD τ).loc main_v0_2) = statAll (fun w n => zV w n 20) (m ((c.tc : Thread nD τ).loc main_arg0))
    ∧ r.2.mem ((c.tc : Thread nD τ).loc main_v0_3) = statAll lpV (m ((c.tc : Thread nD τ).loc main_arg0))
    ∧ r.2.mem ((c.tc : Thread nD τ).loc main_v0_4) = statAll shiftV (m ((c.tc : Thread nD τ).loc main_arg0))) :=
  (θ_run defs _ _).mono (fun _ h c => ⟨((h c).1 0).trans (((dats m 0 c).arrAt_in 0 rfl _).trans (A_eq m c 0)),
    ((h c).1 1).trans (final1 m c), ((h c).1 2).trans (final2 m c), ((h c).1 3).trans (final3 m c), ((h c).1 4).trans (final4 m c),
    ((h c).1 5).trans (final5 m c)⟩) (run_main m ρ)

end Cert.Proof.KernelIdealValueRun

end
-- ==== Proof.KernelIdealReal.lean ====
/- What the idealized kernel computes for one group, as the real mathematics of the group. -/
module

public import proofs.«01_k».proof.Proof.KernelIdealModel
public import proofs.«01_k».proof.Proof.Scalars

@[expose] public section

noncomputable section

namespace Cert.Proof.KernelIdealReal

open Cert.KernelIdeal Cert.KernelIdeal.Gen Idealize.ShloMosaic Idealize.ShloMosaic.ValueIdx Cert.Proof.KernelIdealModel Cert.Proof.GroupMath
  Cert.Proof.Scalars

variable {w : Wt} {n : ℕ} {y : S8x128.Idx} {x : ℕ → ℝ}

/-- The block's rows of the group at `y` of tile `n` are the reals `x`. -/
def Rows (w : Wt) (n : ℕ) (y : S8x128.Idx) (x : ℕ → ℝ) : Prop := ∀ p, p < 64 → (wAt w n p y : EReal) = ((x p : ℝ) : EReal)

/-- The running minimum over the rows of one parity. -/
theorem mnPar_real (hx : Rows w n y x) {h : ℕ} (hh : h < 2) : ∀ j, j ≤ 31 → ∃ m : ℝ, (mnPar w n h j y : EReal) = (m : EReal)
    ∧ (∃ r, r < 64 ∧ m = x r) ∧ ∀ i, i ≤ j → m ≤ x (2 * i + h)
  | 0, _ => ⟨x h, hx h (by omega), ⟨h, by omega, rfl⟩, fun i hi => by
      rw [Nat.le_zero.mp hi, Nat.mul_zero, Nat.zero_add]⟩
  | j + 1, hj => by
      obtain ⟨m, hm, ⟨r, hr, hmr⟩, hle⟩ := mnPar_real hx hh j (by omega)
      refine ⟨min m (x (2 * (j + 1) + h)), ?_, ?_, fun i hi => ?_⟩
      · show min (mnPar w n h j y : EReal) (wAt w n (2 * (j + 1) + h) y) = _
        rw [hm, hx _ (by omega), coe_min]
      · rcases min_choice m (x (2 * (j + 1) + h)) with e | e
        · exact ⟨r, hr, e.trans hmr⟩
        · exact ⟨_, by omega, e⟩
      · rcases Nat.lt_or_ge j i with hi' | hi'
        · obtain rfl : i = j + 1 := by omega
          exact min_le_right _ _
        · exact (min_le_left _ _).trans (hle i hi')

/-- The running maximum over the rows of one parity. -/
theorem mxPar_real (hx : Rows w n y x) {h : ℕ} (hh : h < 2) : ∀ j, j ≤ 31 → ∃ m : ℝ, (mxPar w n h j y : EReal) = (m : EReal)
    ∧ (∃ r, r < 64 ∧ m = x r) ∧ ∀ i, i ≤ j → x (2 * i + h) ≤ m
  | 0, _ => ⟨x h, hx h (by omega), ⟨h, by omega, rfl⟩, fun i hi => by
      rw [Nat.le_zero.mp hi, Nat.mul_zero, Nat.zero_add]⟩
  | j + 1, hj => by
      obtain ⟨m, hm, ⟨r, hr, hmr⟩, hle⟩ := mxPar_real hx hh j (by omega)
      refine ⟨max m (x (2 * (j + 1) + h)), ?_, ?_, fun i hi => ?_⟩
      · show max (mxPar w n h j y : EReal) (wAt w n (2 * (j + 1) + h) y) = _
        rw [hm, hx _ (by omega), coe_max]
      · rcases max_choice m (x (2 * (j + 1) + h)) with e | e
        · exact ⟨r, hr, e.trans hmr⟩
        · exact ⟨_, by omega, e⟩
      · rcases Nat.lt_or_ge j i with hi' | hi'
        · obtain rfl : i = j + 1 := by omega
          exact le_max_right _ _
        · exact (hle i hi').trans (le_max_left _ _)

/-- A row belongs to one of the two parities. -/
theorem parity {P : ℕ → Prop} (h0 : ∀ i, i ≤ 31 → P (2 * i + 0)) (h1 : ∀ i, i ≤ 31 → P (2 * i + 1)) (r : ℕ) (hr : r < 64) : P r := by
  rcases Nat.mod_two_eq_zero_or_one r with e | e
  · have := h0 (r / 2) (by omega)
    rwa [show 2 * (r / 2) + 0 = r by omega] at this
  · have := h1 (r / 2) (by omega)
    rwa [show 2 * (r / 2) + 1 = r by omega] at this

/-- The group's minimum. -/
theorem mnV_real (hx : Rows w n y x) : (mnV w n y : EReal) = ((lo x : ℝ) : EReal) := by
  obtain ⟨a, ha, ⟨r, hr, har⟩, hal⟩ := mnPar_real hx (show 0 < 2 by decide) 31 le_rfl
  obtain ⟨b, hb, ⟨q, hq, hbq⟩, hbl⟩ := mnPar_real hx (show 1 < 2 by decide) 31 le_rfl
  show min (mnPar w n 0 31 y : EReal) (mnPar w n 1 31 y) = _
  rw [ha, hb, coe_min]
  congr 1
  refine eq_lo ?_ (parity (fun i hi => (min_le_left _ _).trans (hal i hi)) (fun i hi => (min_le_right _ _).trans (hbl i hi)))
  rcases min_choice a b with e | e
  · exact ⟨r, hr, e.trans har⟩
  · exact ⟨q, hq, e.trans hbq⟩

/-- The group's maximum. -/
theorem mxV_real (hx : Rows w n y x) : (mxV w n y : EReal) = ((hi x : ℝ) : EReal) := by
  obtain ⟨a, ha, ⟨r, hr, har⟩, hal⟩ := mxPar_real hx (show 0 < 2 by decide) 31 le_rfl
  obtain ⟨b, hb, ⟨q, hq, hbq⟩, hbl⟩ := mxPar_real hx (show 1 < 2 by decide) 31 le_rfl
  show max (mxPar w n 0 31 y : EReal) (mxPar w n 1 31 y) = _
  rw [ha, hb, coe_max]
  congr 1
  refine eq_hi ?_ (parity (P := fun r => x r ≤ max a b) (fun i hi => (hal i hi).trans (le_max_left _ _)) (fun i hi => (hbl i hi).trans (le_max_right _ _)))
  rcases max_choice a b with e | e
  · exact ⟨r, hr, e.trans har⟩
  · exact ⟨q, hq, e.trans hbq⟩

/-- The group's scale. -/
theorem sV_real (hx : Rows w n y x) : (sV w n y : EReal) = ((scale x : ℝ) : EReal) := by
  show (if Ideal.cmp .oeq (mxV w n y : EReal) (mnV w n y) = 1#1 then Ideal.ofBits .f32 0x3F800000#32
    else Ideal.div ((mxV w n y : EReal) - (mnV w n y : EReal)) (Ideal.ofBits .f32 0x41700000#32)) = _
  rw [mnV_real hx, mxV_real hx, select_eq, c1, c15, ← EReal.coe_sub, div_real _ (by norm_num)]
  unfold scale
  split <;> rfl

/-- The reciprocal of the scale. -/
theorem rsV_real (hx : Rows w n y x) : (rsV w n y : EReal) = ((1 / scale x : ℝ) : EReal) := by
  show Ideal.div (Ideal.ofBits .f32 0x3F800000#32) (sV w n y : EReal) = _
  rw [sV_real hx, c1, div_real _ (scale_pos x).ne']

/-- The first zero. -/
theorem z0V_real (hx : Rows w n y x) : (z0V w n y : EReal) = ((zero0 x : ℝ) : EReal) := by
  show (Ideal.ofBits .f32 0x00000000#32 - (mnV w n y : EReal)) * (rsV w n y : EReal) = _
  rw [rsV_real hx, mnV_real hx, c0, ← EReal.coe_sub, ← EReal.coe_mul, mul_one_div]
  rfl

/-- A row divided by the scale. -/
theorem xV_real (hx : Rows w n y x) {r : ℕ} (hr : r < 64) : (xV w n r y : EReal) = ((x r / scale x : ℝ) : EReal) := by
  show (wAt w n r y : EReal) * (rsV w n y : EReal) = _
  rw [rsV_real hx, hx r hr, ← EReal.coe_mul, mul_one_div]

/-- The code of a real. -/
theorem quantV_real {t : V} {a : ℝ} (h : (t y : EReal) = (a : EReal)) : (quantV t y : EReal) = (((code a : ℤ) : ℝ) : EReal) := by
  show min (Ideal.ofBits .f32 0x41700000#32) (max (Ideal.ofBits .f32 0x00000000#32) (Ideal.liftRound Ideal.roundHalfEven (t y : EReal))) = _
  rw [h, c15, c0, code_real]

/-- What a real loses by coding. -/
theorem fracV_real {t : V} {a : ℝ} (h : (t y : EReal) = (a : EReal)) : (fracV t y : EReal) = ((frac a : ℝ) : EReal) := by
  show (t y : EReal) - (quantV t y : EReal) = _
  rw [quantV_real h, h, ← EReal.coe_sub]
  rfl

/-- The clipped threshold. -/
theorem clipV_real {th : V} {b : ℝ} (h : (th y : EReal) = (b : EReal)) : (clipV th y : EReal) = ((clipped b : ℝ) : EReal) := by
  show min (Ideal.ofBits .f32 0x71800000#32) (max (Ideal.ofBits .f32 0x2B800000#32) (th y : EReal)) = _
  rw [h, cUpper, cLower, coe_max, coe_min]
  rfl

/-- The named exponent of the pull. -/
theorem neg_shrink_named : (Named.named κ "neg_shrink" 0xBFA66666#32 : Ideal .f32) = ((-shrink : ℝ) : EReal) := by
  refine (IdealRules.named_const.ideal_named_scalar (φ := FTy.f32) κ "neg_shrink" 0xBFA66666#32 _ rfl).trans ?_
  unfold shrink
  congr 1
  norm_num

/-- The named exponent of the scale. -/
theorem shrink_named : (Named.named κ "shrink" 0x3FA66666#32 : Ideal .f32) = ((shrink : ℝ) : EReal) := by
  exact IdealRules.named_const.ideal_named_scalar (φ := FTy.f32) κ "shrink" 0x3FA66666#32 _ rfl

/-- A row's pull. -/
theorem pullV_real {th t : V} {a b : ℝ} (h : (t y : EReal) = (a : EReal)) (hb : (th y : EReal) = (b : EReal)) :
    (pullV th t y : EReal) = ((pull (clipped b) (frac a) : ℝ) : EReal) := by
  show (fracV t y : EReal) * min (Ideal.exp2 (Ideal.div (Ideal.log (max (fracV t y : EReal) (-(fracV t y : EReal)))) (Ideal.log (Ideal.ofBits .f32 0x40000000#32))
    * (Named.named κ "neg_shrink" 0xBFA66666#32 : Ideal .f32))) (clipV th y : EReal) = _
  rw [fracV_real h, clipV_real hb, abs_real, c2, neg_shrink_named, pull_real]

/-- The four sums in rotation add up to the sum. -/
theorem sums_real {f : ℕ → V} {g : ℕ → ℝ} : ∀ r, (∀ i, i < r → (f i y : EReal) = ((g i : ℝ) : EReal)) →
    ∃ a b c d : ℝ, ((sums f r).1 y : EReal) = (a : EReal) ∧ ((sums f r).2.1 y : EReal) = (b : EReal) ∧ ((sums f r).2.2.1 y : EReal) = (c : EReal)
      ∧ ((sums f r).2.2.2 y : EReal) = (d : EReal) ∧ a + b + (c + d) = ∑ i ∈ Finset.range r, g i
  | 0, _ => ⟨0, 0, 0, 0, c0, c0, c0, c0, by simp⟩
  | r + 1, h => by
      obtain ⟨a, b, c, d, ha, hb, hc, hd, e⟩ := sums_real r (fun i hi => h i (by omega))
      refine ⟨b, c, d, a + g r, hb, hc, hd, ?_, ?_⟩
      · show ((sums f r).1 y : EReal) + (f r y : EReal) = _
        rw [ha, h r (by omega), ← EReal.coe_add]
      · rw [Finset.sum_range_succ, ← e]
        ring

/-- The four sums in steps of eight rows add up to the sum. -/
theorem sums8_real {f : ℕ → V} {g : ℕ → ℝ} : ∀ r, (∀ i, i < 8 * r → (f i y : EReal) = ((g i : ℝ) : EReal)) →
    ∃ a b c d : ℝ, ((sums8 f r).1 y : EReal) = (a : EReal) ∧ ((sums8 f r).2.1 y : EReal) = (b : EReal) ∧ ((sums8 f r).2.2.1 y : EReal) = (c : EReal)
      ∧ ((sums8 f r).2.2.2 y : EReal) = (d : EReal) ∧ a + b + (c + d) = ∑ i ∈ Finset.range (8 * r), g i
  | 0, _ => ⟨0, 0, 0, 0, c0, c0, c0, c0, by simp⟩
  | r + 1, h => by
      obtain ⟨a, b, c, d, ha, hb, hc, hd, e⟩ := sums8_real r (fun i hi => h i (by omega))
      refine ⟨a + g (8 * r) + g (8 * r + 4), b + g (8 * r + 1) + g (8 * r + 5), c + g (8 * r + 2) + g (8 * r + 6), d + g (8 * r + 3) + g (8 * r + 7),
        ?_, ?_, ?_, ?_, ?_⟩
      · show ((sums8 f r).1 y : EReal) + (f (8 * r) y : EReal) + (f (8 * r + 4) y : EReal) = _
        rw [ha, h _ (by omega), h _ (by omega), ← EReal.coe_add, ← EReal.coe_add]
      · show ((sums8 f r).2.1 y : EReal) + (f (8 * r + 1) y : EReal) + (f (8 * r + 5) y : EReal) = _
        rw [hb, h _ (by omega), h _ (by omega), ← EReal.coe_add, ← EReal.coe_add]
      · show ((sums8 f r).2.2.1 y : EReal) + (f (8 * r + 2) y : EReal) + (f (8 * r + 6) y : EReal) = _
        rw [hc, h _ (by omega), h _ (by omega), ← EReal.coe_add, ← EReal.coe_add]
      · show ((sums8 f r).2.2.2 y : EReal) + (f (8 * r + 3) y : EReal) + (f (8 * r + 7) y : EReal) = _
        rw [hd, h _ (by omega), h _ (by omega), ← EReal.coe_add, ← EReal.coe_add]
      · rw [show 8 * (r + 1) = 8 * r + 1 + 1 + 1 + 1 + 1 + 1 + 1 + 1 by ring]
        simp only [Finset.sum_range_succ]
        rw [← e]
        ring

/-- The mean of four partial sums. -/
theorem meanV_real {q : V × V × V × V} {a b c d t : ℝ} (ha : (q.1 y : EReal) = (a : EReal)) (hb : (q.2.1 y : EReal) = (b : EReal))
    (hc : (q.2.2.1 y : EReal) = (c : EReal)) (hd : (q.2.2.2 y : EReal) = (d : EReal)) (e : a + b + (c + d) = t) :
    (meanV q y : EReal) = ((t * (1 / 64) : ℝ) : EReal) := by
  show ((q.1 y : EReal) + (q.2.1 y : EReal) + ((q.2.2.1 y : EReal) + (q.2.2.2 y : EReal))) * Ideal.ofBits .f32 0x3C800000#32 = _
  rw [ha, hb, hc, hd, c64th, ← EReal.coe_add, ← EReal.coe_add, ← EReal.coe_add, e, ← EReal.coe_mul]

/-- The threshold. -/
theorem thV_real (hx : Rows w n y x) : ∀ m, (thV w n m y : EReal) = ((theta (scale x) m : ℝ) : EReal)
  | 0 => by
      show Ideal.exp2 (Ideal.div (Ideal.log (sV w n y : EReal)) (Ideal.log (Ideal.ofBits .f32 0x40000000#32))
        * (Named.named κ "shrink" 0x3FA66666#32 : Ideal .f32)) * Ideal.ofBits .f32 0x41200000#32 = _
      rw [sV_real hx, shrink_named, c2, c10, power_pos (scale_pos x), ← EReal.coe_mul]
      unfold theta
      rw [pow_zero, mul_one]
  | m + 1 => by
      show (thV w n m y : EReal) * Ideal.ofBits .f32 0x3F8147AE#32 = _
      rw [thV_real hx m, cGrowth, ← EReal.coe_mul]
      unfold theta
      rw [pow_succ, mul_assoc (scale x ^ shrink * 10)]

/-- The zero after `m` iterations. -/
theorem zV_real (hx : Rows w n y x) (hf : Fits x) : ∀ m, m ≤ 20 → (zV w n m y : EReal) = ((zero x m : ℝ) : EReal)
  | 0, _ => z0V_real hx
  | m + 1, hm => by
      have hz := zV_real hx hf m (by omega)
      have ht := thV_real hx m
      obtain ⟨a, b, c, d, ha, hb, hc, hd, e⟩ := sums_real (y := y) (f := fun r => pullV (thV w n m) (addf (xV w n r) (zV w n m)))
        (g := fun r => pull (clipped (theta (scale x) m)) (frac (x r / scale x + zero x m))) 64 (fun r hr => by
          refine pullV_real ?_ ht
          show (xV w n r y : EReal) + (zV w n m y : EReal) = _
          rw [xV_real hx hr, hz, ← EReal.coe_add])
      show (zV w n m y : EReal) - Ideal.div (meanV (sums (fun r => pullV (thV w n m) (addf (xV w n r) (zV w n m))) 64) y : EReal) (clipV (thV w n m) y : EReal) = _
      rw [meanV_real ha hb hc hd e, clipV_real ht, hz, div_real _ (clipped_pos _).ne', ← EReal.coe_sub, zero_clipped hf (by omega)]

/-- What a row is coded from. -/
theorem tV_real (hx : Rows w n y x) (hf : Fits x) {r : ℕ} (hr : r < 64) : (tV w n r y : EReal) = ((last x r : ℝ) : EReal) := by
  show (xV w n r y : EReal) + (zV w n 20 y : EReal) = _
  rw [xV_real hx hr, zV_real hx hf 20 le_rfl, ← EReal.coe_add]
  rfl

/-- The error result. -/
theorem lpV_real (hx : Rows w n y x) (hf : Fits x) : (lpV w n y : EReal) = ((err x : ℝ) : EReal) := by
  obtain ⟨a, b, c, d, ha, hb, hc, hd, e⟩ := sums8_real (y := y) (f := fun r => powV (absf (fracV (tV w n r))) (Scalar.ofBits .f32 0x3F333333#32))
    (g := fun r => errPow (frac (last x r))) 8 (fun r hr => by
      show Ideal.exp2 (Ideal.div (Ideal.log (max (fracV (tV w n r) y : EReal) (-(fracV (tV w n r) y : EReal)))) (Ideal.log (Ideal.ofBits .f32 0x40000000#32))
        * Ideal.ofBits .f32 0x3F333333#32) = _
      rw [fracV_real (tV_real hx hf hr), abs_real, c2, cLp, errPow_real])
  show (errV w n y : EReal) * Ideal.exp2 (Ideal.div (Ideal.log (sV w n y : EReal)) (Ideal.log (Ideal.ofBits .f32 0x40000000#32)) * Ideal.ofBits .f32 0x3F333333#32) = _
  have he : (errV w n y : EReal) = _ := meanV_real ha hb hc hd e
  rw [he, sV_real hx, c2, cLp, power_pos (scale_pos x), ← EReal.coe_mul]
  rfl

/-- The shift result. -/
theorem shiftV_real (hx : Rows w n y x) (hf : Fits x) : (shiftV w n y : EReal) = ((shift x : ℝ) : EReal) := by
  show (zV w n 20 y : EReal) - (z0V w n y : EReal) = _
  rw [zV_real hx hf 20 le_rfl, z0V_real hx, ← EReal.coe_sub]
  rfl

end Cert.Proof.KernelIdealReal
-- ==== Proof.Codes.lean ====
/- The packed codes: a byte of the kernel's word of eight codes is the reference's byte of two codes. -/
module

public import proofs.«01_k».proof.Proof.KernelIdealReal

@[expose] public section

noncomputable section

namespace Cert.Proof.Codes

open Cert.KernelIdeal Cert.KernelIdeal.Gen Idealize.ShloMosaic Idealize.ShloMosaic.ValueIdx Cert.Proof.KernelIdealModel Cert.Proof.GroupMath
  Cert.Proof.Scalars Cert.Proof.KernelIdealReal

/-- A code's word has only four bits. -/
theorem high_bits (t : ℝ) {j : ℕ} (hj : 4 ≤ j) : (BitVec.ofInt 32 (code t)).getLsbD j = false := by
  have hb := code_bounds t
  obtain ⟨k, hk⟩ := Int.eq_ofNat_of_zero_le hb.1
  rw [hk, BitVec.ofInt_natCast, BitVec.getLsbD_ofNat, Nat.testBit_lt_two_pow, Bool.and_false]
  exact lt_of_lt_of_le (by omega : k < 2 ^ 4) (Nat.pow_le_pow_right (by decide) hj)

/-- Byte `k` of eight four-bit numbers put side by side is two of them. -/
theorem byte_of_eight (q : ℕ → BitVec 32) (h : ∀ i j, 4 ≤ j → (q i).getLsbD j = false) {k : ℕ} (hk : k < 4) :
    (q 0 <<< 0 ||| q 1 <<< 4 ||| q 2 <<< 8 ||| q 3 <<< 12 ||| q 4 <<< 16 ||| q 5 <<< 20 ||| q 6 <<< 24 ||| q 7 <<< 28).extractLsb' (8 * k) 8
      = (q (2 * k) ||| q (2 * k + 1) <<< 4).setWidth 8 := by
  have h' : ∀ i j (hj : j < 32), 4 ≤ j → (q i)[j] = false := fun i j hj h4 => by
    rw [← BitVec.getLsbD_eq_getElem]
    exact h i j h4
  refine BitVec.eq_of_getLsbD_eq (fun j hj => ?_)
  simp only [BitVec.getLsbD_extractLsb', BitVec.getLsbD_setWidth, BitVec.getLsbD_or, BitVec.getLsbD_shiftLeft]
  interval_cases k <;> interval_cases j <;> simp [h, h']

variable {w : Wt} {n : ℕ} {y : S8x128.Idx} {x : ℕ → ℝ}

/-- A code shifted into its place. -/
theorem nibV_real (hx : Rows w n y x) (hf : Fits x) {r : ℕ} (hr : r < 64) (a : BitVec 32) (ha : a.toNat < 32) :
    nibV w n r a y = BitVec.ofInt 32 (code (last x r)) <<< a.toNat := by
  have e : fptosi (F := Ideal) 32 (quantV (tV w n r)) y = BitVec.ofInt 32 (code (last x r)) := word_real (quantV_real (tV_real hx hf hr))
  show (if a.toNat < 32 then (fptosi (F := Ideal) 32 (quantV (tV w n r)) y) <<< a else _) = _
  rw [if_pos ha, e]
  rfl

/-- A packed row. -/
theorem codeV_real (hx : Rows w n y x) (hf : Fits x) {r : ℕ} (hr : r < 32) :
    codeV w n r y = (BitVec.ofInt 32 (code (last x (r * 2))) ||| BitVec.ofInt 32 (code (last x (r * 2 + 1))) <<< 4).setWidth 8 := by
  have e : wordV w n (r / 4) y = nibV w n (8 * (r / 4)) 0#32 y ||| nibV w n (8 * (r / 4) + 1) 4#32 y ||| nibV w n (8 * (r / 4) + 2) 8#32 y
      ||| nibV w n (8 * (r / 4) + 3) 12#32 y ||| nibV w n (8 * (r / 4) + 4) 16#32 y ||| nibV w n (8 * (r / 4) + 5) 20#32 y
      ||| nibV w n (8 * (r / 4) + 6) 24#32 y ||| nibV w n (8 * (r / 4) + 7) 28#32 y := rfl
  show (wordV w n (r / 4) y).extractLsb' (8 * (r % 4)) 8 = _
  rw [e, nibV_real hx hf (by omega) _ (by decide), nibV_real hx hf (by omega) _ (by decide), nibV_real hx hf (by omega) _ (by decide),
    nibV_real hx hf (by omega) _ (by decide), nibV_real hx hf (by omega) _ (by decide), nibV_real hx hf (by omega) _ (by decide),
    nibV_real hx hf (by omega) _ (by decide), nibV_real hx hf (by omega) _ (by decide)]
  refine (byte_of_eight (fun i => BitVec.ofInt 32 (code (last x (8 * (r / 4) + i)))) (fun i j hj => high_bits _ hj) (show r % 4 < 4 by omega)).trans ?_
  rw [show 8 * (r / 4) + 2 * (r % 4) = r * 2 by omega, show 8 * (r / 4) + (2 * (r % 4) + 1) = r * 2 + 1 by omega]

end Cert.Proof.Codes
-- ==== Proof.ReferenceReads.lean ====
/- What the reference's operations before, in and after its loop leave in the buffers its results are read from. -/
module

public import proofs.«01_k».proof.Proof.ReferenceReal

@[expose] public section

noncomputable section

namespace Cert.Proof.ReferenceReads

open Cert.ReferenceIdeal Cert.ReferenceIdeal.Gen Cert.ReferenceIdeal.Value Idealize.ShloMosaic Idealize.ShloMosaic.StableHlo Cert.Proof.ReferenceReal

/-- What the buffers hold at one device. -/
abbrev Val := Valuation τ sig (Elt Ideal)

/-- The weights' groups before the loop. -/
theorem pre_v1 (V : Val) : afterL preI V (Proc.devRef .tc main_v1) = grouped (V (Proc.devRef .tc main_arg0)) := by
  simp only [afterL_cons, afterL_nil]
  after_reads_simp
  rfl

/-- The scales before the loop. -/
theorem pre_v10 (V : Val) : afterL preI V (Proc.devRef .tc main_v10) = scales (grouped (V (Proc.devRef .tc main_arg0))) := by
  simp only [afterL_cons, afterL_nil]
  after_reads_simp
  simp -implicitDefEqProofs only [StableHlo.TRef.toBuf, StableHlo.TRef.ofBuf, cast_cast, cast_eq, id_eq]
  clean_types
  unfold scales per perCon least most grouped
  clean_types
  rfl

/-- The zeros before the loop. -/
theorem pre_v13 (V : Val) : afterL preI V (Proc.devRef .tc main_v13) = zeros0 (grouped (V (Proc.devRef .tc main_arg0))) := by
  simp only [afterL_cons, afterL_nil]
  after_reads_simp
  simp -implicitDefEqProofs only [StableHlo.TRef.toBuf, StableHlo.TRef.ofBuf, cast_cast, cast_eq, id_eq]
  clean_types
  unfold zeros0 scales per perCon least most grouped
  clean_types
  rfl

/-- The weights' groups as the loop finds them. -/
theorem pre_v14_0 (V : Val) : afterL preI V (Proc.devRef .tc main_v14_0) = grouped (V (Proc.devRef .tc main_arg0)) := by
  simp only [afterL_cons, afterL_nil]
  after_reads_simp
  rfl

/-- The scales as the loop finds them. -/
theorem pre_v14_1 (V : Val) : afterL preI V (Proc.devRef .tc main_v14_1) = scales (grouped (V (Proc.devRef .tc main_arg0))) := by
  simp only [afterL_cons, afterL_nil]
  after_reads_simp
  simp -implicitDefEqProofs only [StableHlo.TRef.toBuf, StableHlo.TRef.ofBuf, cast_cast, cast_eq, id_eq]
  clean_types
  unfold scales per perCon least most grouped
  clean_types
  rfl

/-- The zeros as the loop finds them. -/
theorem pre_v14_4 (V : Val) : afterL preI V (Proc.devRef .tc main_v14_4) = zeros0 (grouped (V (Proc.devRef .tc main_arg0))) := by
  simp only [afterL_cons, afterL_nil]
  after_reads_simp
  simp -implicitDefEqProofs only [StableHlo.TRef.toBuf, StableHlo.TRef.ofBuf, cast_cast, cast_eq, id_eq]
  clean_types
  unfold zeros0 scales per perCon least most grouped
  clean_types
  rfl

/-- The loop's factor at its start. -/
theorem pre_v14_5 (V : Val) : afterL preI V (Proc.devRef .tc main_v14_5) = (constant S_ .f32 0x41200000#32 : Num) := by
  simp only [afterL_cons, afterL_nil]
  after_reads_simp
  rfl

/-- A trip of the loop leaves the weights' groups alone. -/
theorem trip_v1 (V : Val) : afterL bodyI (after condOps V) (Proc.devRef .tc main_v1) = V (Proc.devRef .tc main_v1) := by
  simp only [afterL_cons, afterL_nil]
  after_reads_simp

/-- A trip of the loop leaves the scales alone. -/
theorem trip_v10 (V : Val) : afterL bodyI (after condOps V) (Proc.devRef .tc main_v10) = V (Proc.devRef .tc main_v10) := by
  simp only [afterL_cons, afterL_nil]
  after_reads_simp

/-- A trip of the loop leaves the first zeros alone. -/
theorem trip_v13 (V : Val) : afterL bodyI (after condOps V) (Proc.devRef .tc main_v13) = V (Proc.devRef .tc main_v13) := by
  simp only [afterL_cons, afterL_nil]
  after_reads_simp

/-- The packed codes after the loop. -/
theorem post_v45 (V : Val) : afterL postI V (Proc.devRef .tc main_v45)
    = packed (words (V (Proc.devRef .tc main_v1)) (V (Proc.devRef .tc main_v10)) (V (Proc.devRef .tc main_v14_4))) := by
  simp only [afterL_cons, afterL_nil]
  after_reads_simp
  rfl

/-- The scales after the loop. -/
theorem post_v46 (V : Val) : afterL postI V (Proc.devRef .tc main_v46) = flat (V (Proc.devRef .tc main_v10)) := by
  simp only [afterL_cons, afterL_nil]
  after_reads_simp
  rfl

/-- The zeros after the loop. -/
theorem post_v47 (V : Val) : afterL postI V (Proc.devRef .tc main_v47) = flat (V (Proc.devRef .tc main_v14_4)) := by
  simp only [afterL_cons, afterL_nil]
  after_reads_simp
  rfl

/-- The errors after the loop. -/
theorem post_v34 (V : Val) : afterL postI V (Proc.devRef .tc main_v34)
    = errs (V (Proc.devRef .tc main_v1)) (V (Proc.devRef .tc main_v10)) (V (Proc.devRef .tc main_v14_4)) := by
  simp only [afterL_cons, afterL_nil]
  after_reads_simp
  rfl

/-- The shifts after the loop. -/
theorem post_v36 (V : Val) : afterL postI V (Proc.devRef .tc main_v36)
    = flat (subf (V (Proc.devRef .tc main_v14_4) : Per) (V (Proc.devRef .tc main_v13))) := by
  simp only [afterL_cons, afterL_nil]
  after_reads_simp
  rfl

/-- The loop's condition writes none of the buffers read after the loop. -/
theorem cond_reads (V : Val) : after condOps V (Proc.devRef .tc main_v1) = V (Proc.devRef .tc main_v1)
    ∧ after condOps V (Proc.devRef .tc main_v10) = V (Proc.devRef .tc main_v10) ∧ after condOps V (Proc.devRef .tc main_v13) = V (Proc.devRef .tc main_v13)
    ∧ after condOps V (Proc.devRef .tc main_v14_4) = V (Proc.devRef .tc main_v14_4) := by
  refine ⟨?_, ?_, ?_, ?_⟩ <;> after_reads_simp

/-- The loop's iteration of the zeros. -/
theorem step_next (V : Val) : step_main_v14_4 V =
    next (V (Proc.devRef .tc main_v14_0)) (V (Proc.devRef .tc main_v14_1)) (V (Proc.devRef .tc main_v14_4)) (V (Proc.devRef .tc main_v14_5)) := rfl

/-- The loop's iteration of the factor. -/
theorem step_factor (V : Val) : step_main_v14_5 V = (mulf (V (Proc.devRef .tc main_v14_5)) (constant S_ .f32 0x3F8147AE#32) : Num) := rfl

end Cert.Proof.ReferenceReads
-- ==== Proof.ReferenceRun.lean ====
/- What the reference leaves in its result buffers, group by group, as the real mathematics of the group. -/
module

public import proofs.«01_k».proof.Proof.ReferenceReads

@[expose] public section

noncomputable section

namespace Cert.Proof.ReferenceRun

open Cert.ReferenceIdeal Cert.ReferenceIdeal.Gen Cert.ReferenceIdeal.Value Idealize.ShloMosaic Idealize.ShloMosaic.StableHlo Cert.Proof.ReferenceReal
  Cert.Proof.ReferenceReads Cert.Proof.GroupMath Cert.Proof.Scalars

/-- What the loop's carried buffers hold for one group after `k` trips. -/
structure Held (V : Val) (b : Fin 12) (g : Fin 140) (l : Fin 1536) (x : ℕ → ℝ) (k : ℕ) : Prop where
  rows : Rows (V (Proc.devRef .tc main_v14_0)) b g l x
  scale : ((V (Proc.devRef .tc main_v14_1) : Per) (ix4 b g 0 l) : EReal) = ((GroupMath.scale x : ℝ) : EReal)
  zero : ((V (Proc.devRef .tc main_v14_4) : Per) (ix4 b g 0 l) : EReal) = ((GroupMath.zero x k : ℝ) : EReal)
  factor : ((V (Proc.devRef .tc main_v14_5) : Num) ix0 : EReal) = ((10 * growth ^ k : ℝ) : EReal)

variable {b : Fin 12} {g : Fin 140} {l : Fin 1536} {x : ℕ → ℝ} (m : (ℓ : Loc nD τ sig) → Buf (Elt Ideal) ℓ) (c : Dev nD)

/-- The argument, in groups. -/
def weights : Full := grouped (m ((c.tc : Thread nD τ).loc main_arg0))

/-- Before the loop. -/
theorem held_zero (h : Rows (weights m c) b g l x) : Held (entryContents preI m c) b g l x 0 where
  rows := by
    have e : entryContents preI m c (Proc.devRef .tc main_v14_0) = weights m c := pre_v14_0 _
    rw [e]
    exact h
  scale := by
    have e : entryContents preI m c (Proc.devRef .tc main_v14_1) = scales (weights m c) := pre_v14_1 _
    rw [e]
    exact scales_real h
  zero := by
    have e : entryContents preI m c (Proc.devRef .tc main_v14_4) = zeros0 (weights m c) := pre_v14_4 _
    rw [e]
    exact zeros0_real h
  factor := by
    have e : entryContents preI m c (Proc.devRef .tc main_v14_5) = (constant S_ .f32 0x41200000#32 : Num) := pre_v14_5 _
    rw [e, pow_zero, mul_one]
    exact c10

/-- The factor's growth. -/
theorem factor_real {B : Num} {p : ℝ} (h : (B ix0 : EReal) = (p : EReal)) : (mulf B (constant S_ .f32 0x3F8147AE#32) ix0 : EReal) = ((p * growth : ℝ) : EReal) := by
  show (B ix0 : EReal) * Ideal.ofBits .f32 0x3F8147AE#32 = _
  rw [h, cGrowth, ← EReal.coe_mul]

/-- One trip. -/
theorem held_step {V : Val} {k : ℕ} (h : Held V b g l x k) : Held (STEP V) b g l x (k + 1) where
  rows := by
    rw [STEP_main_v14_0]
    exact h.rows
  scale := by
    rw [STEP_main_v14_1]
    exact h.scale
  zero := by
    rw [STEP_main_v14_4, step_next]
    exact next_real h.rows h.scale h.zero h.factor
  factor := by
    rw [STEP_main_v14_5, step_factor, pow_succ, ← mul_assoc]
    exact factor_real h.factor

/-- After `k` trips. -/
theorem held (h : Rows (weights m c) b g l x) : ∀ k, Held (STEP^[k] (entryContents preI m c)) b g l x k
  | 0 => held_zero m c h
  | k + 1 => by
      rw [Function.iterate_succ_apply']
      exact held_step (held h k)

/-- The zeros after the loop. -/
def zeros : Per := STEP^[20] (entryContents preI m c) (Proc.devRef .tc main_v14_4)

/-- Before every trip the weights' groups, the scales and the first zeros are what they were before the loop. -/
theorem atK_kept : ∀ k, (atK m k c (Proc.devRef .tc main_v1) = weights m c) ∧ atK m k c (Proc.devRef .tc main_v10) = scales (weights m c)
    ∧ atK m k c (Proc.devRef .tc main_v13) = zeros0 (weights m c)
  | 0 => ⟨pre_v1 _, pre_v10 _, pre_v13 _⟩
  | k + 1 => ⟨(trip_v1 _).trans (atK_kept k).1, (trip_v10 _).trans (atK_kept k).2.1, (trip_v13 _).trans (atK_kept k).2.2⟩

/-- What the operations after the loop find. -/
theorem found : after condOps (atK m 20 c) (Proc.devRef .tc main_v1) = weights m c
    ∧ after condOps (atK m 20 c) (Proc.devRef .tc main_v10) = scales (weights m c)
    ∧ after condOps (atK m 20 c) (Proc.devRef .tc main_v13) = zeros0 (weights m c)
    ∧ after condOps (atK m 20 c) (Proc.devRef .tc main_v14_4) = zeros m c := by
  obtain ⟨h1, h2, h3, h4⟩ := cond_reads (atK m 20 c)
  obtain ⟨k1, k2, k3⟩ := atK_kept m c 20
  exact ⟨h1.trans k1, h2.trans k2, h3.trans k3, h4.trans (atK_agree m c 20 main_v14_4 (by decide))⟩

/-- The results the reference leaves. -/
theorem finals : finalContents condOps preI bodyI postI 20 m c (Proc.devRef .tc main_v45) = packed (words (weights m c) (scales (weights m c)) (zeros m c))
    ∧ finalContents condOps preI bodyI postI 20 m c (Proc.devRef .tc main_v46) = flat (scales (weights m c))
    ∧ finalContents condOps preI bodyI postI 20 m c (Proc.devRef .tc main_v47) = flat (zeros m c)
    ∧ finalContents condOps preI bodyI postI 20 m c (Proc.devRef .tc main_v34) = errs (weights m c) (scales (weights m c)) (zeros m c)
    ∧ finalContents condOps preI bodyI postI 20 m c (Proc.devRef .tc main_v36) = flat (subf (zeros m c) (zeros0 (weights m c))) := by
  obtain ⟨h1, h2, h3, h4⟩ := found m c
  refine ⟨(post_v45 _).trans ?_, (post_v46 _).trans ?_, (post_v47 _).trans ?_, (post_v34 _).trans ?_, (post_v36 _).trans ?_⟩
  · rw [h1, h2, h4]
  · rw [h2]
  · rw [h4]
  · rw [h1, h2, h4]
  · rw [h3, h4]

variable {m c}

/-- The last zero of a group. -/
theorem zeros_real (h : Rows (weights m c) b g l x) : (zeros m c (ix4 b g 0 l) : EReal) = ((GroupMath.zero x 20 : ℝ) : EReal) :=
  (held m c h 20).zero

/-- The scale result of a group. -/
theorem scale_result (h : Rows (weights m c) b g l x) : (flat (scales (weights m c)) (ix3 b g l) : EReal) = ((GroupMath.scale x : ℝ) : EReal) :=
  (flat_at _ _ _ _).trans (scales_real h)

/-- The zero result of a group. -/
theorem zero_result (h : Rows (weights m c) b g l x) : (flat (zeros m c) (ix3 b g l) : EReal) = ((GroupMath.zero x 20 : ℝ) : EReal) :=
  (flat_at _ _ _ _).trans (zeros_real h)

/-- The error result of a group. -/
theorem err_result (h : Rows (weights m c) b g l x) :
    (errs (weights m c) (scales (weights m c)) (zeros m c) (ix3 b g l) : EReal) = ((err x : ℝ) : EReal) :=
  errs_real h (scales_real h) (zeros_real h)

/-- The shift result of a group. -/
theorem shift_result (h : Rows (weights m c) b g l x) :
    (flat (subf (zeros m c) (zeros0 (weights m c))) (ix3 b g l) : EReal) = ((shift x : ℝ) : EReal) := by
  refine (flat_at _ _ _ _).trans ?_
  show (zeros m c (ix4 b g 0 l) : EReal) - (zeros0 (weights m c) (ix4 b g 0 l) : EReal) = _
  rw [zeros_real h, zeros0_real h, ← EReal.coe_sub]
  rfl

/-- The code of a row. -/
theorem word_result (h : Rows (weights m c) b g l x) (r : Fin 64) :
    words (weights m c) (scales (weights m c)) (zeros m c) (ix4 b g r l) = BitVec.ofInt 32 (code (last x r.val)) :=
  words_at (codes_real (h r) (scales_real h) (zeros_real h) (scale_pos x).ne')

/-- The packed codes: two rows' codes in a byte. -/
theorem packed_result {i : Fin 4480} {l : Fin 1536} (h : Rows (weights m c) b ⟨i.val / 32, by omega⟩ l x) :
    packed (words (weights m c) (scales (weights m c)) (zeros m c)) (ix3 b i l)
      = (BitVec.ofInt 32 (code (last x (i.val % 32 * 2))) ||| BitVec.ofInt 32 (code (last x (i.val % 32 * 2 + 1))) <<< 4).setWidth 8 := by
  have e : packed (words (weights m c) (scales (weights m c)) (zeros m c)) (ix3 b i l)
      = ((half (words (weights m c) (scales (weights m c)) (zeros m c))).1 (ix3 b i l)
        ||| (half (words (weights m c) (scales (weights m c)) (zeros m c))).2 (ix3 b i l) <<< 4).setWidth 8 := by
    unfold packed
    pointwise
    rfl
  rw [e, (half_at _ b i l).1, (half_at _ b i l).2, word_result h, word_result h]

end Cert.Proof.ReferenceRun
-- ==== Proof.Algebraic.lean ====
/- The value claim: the idealized kernel and the idealized reference leave the same five results. -/
module

public import proofs.«01_k».proof.Defs
public import proofs.«01_k».proof.Proof.Claims
public import proofs.«01_k».proof.Proof.KernelIdealValueRun
public import proofs.«01_k».proof.Proof.Codes
public import proofs.«01_k».proof.Proof.Precondition
public import proofs.«01_k».proof.Proof.ReferenceRun

@[expose] public section

noncomputable section

namespace Cert.Proof.Algebraic

open Idealize.ShloMosaic Idealize.SL.Sem Idealize.ShloMosaic.StableHlo Cert.Proof.GroupMath Cert.Proof.KernelIdealModel Cert.Proof.KernelIdealBody
  Cert.Proof.KernelIdealValueRun

/-- The weights. -/
abbrev Weights := FVec Ideal Cert.KernelIdeal.S12x8960x1536 .bf16

variable {A : Weights} {x : ℕ → ℝ}

/-- A group's rows as the reference reads them are its rows as the kernel's block holds them. -/
theorem kernel_rows {b : Fin 12} {g : Fin 140} {l : Fin 1536} (h : ReferenceReal.Rows (ReferenceReal.grouped A) b g l x) :
    KernelIdealReal.Rows (blockOf A (b.val / 2) (l.val / 128)) ((140 * (b.val % 2) + g.val) / 8)
      (ValueIdx.ix2 ⟨(140 * (b.val % 2) + g.val) % 8, Nat.mod_lt _ (by decide)⟩ ⟨l.val % 128, Nat.mod_lt _ (by decide)⟩) x := fun p hp => by
  have e := h ⟨p, hp⟩
  rw [ReferenceReal.grouped_at] at e
  refine Eq.trans ?_ e
  have hb := b.isLt
  have hg := g.isLt
  have hl := l.isLt
  have hn : 8 * ((140 * (b.val % 2) + g.val) / 8) + (140 * (b.val % 2) + g.val) % 8 = 140 * (b.val % 2) + g.val := by omega
  have e0 : (2 * (b.val / 2) + (8 * ((140 * (b.val % 2) + g.val) / 8) + (140 * (b.val % 2) + g.val) % 8) / 140 % 2) % 12 = b.val := by
    rw [hn]; omega
  have e1 : ((8 * ((140 * (b.val % 2) + g.val) / 8) + (140 * (b.val % 2) + g.val) % 8) % 140 * 64 + p) % 8960 = g.val * 64 + p := by
    rw [hn]; omega
  have e2 : (128 * (l.val / 128) + l.val % 128) % 1536 = l.val := by omega
  have k : ∀ (i0 i0' : Fin 12) (i1 i1' : Fin 8960) (i2 i2' : Fin 1536), i0.val = i0'.val → i1.val = i1'.val → i2.val = i2'.val →
      (A (ValueIdx.ix3 i0 i1 i2) : EReal) = A (ix3 i0' i1' i2') := fun i0 i0' i1 i1' i2 i2' h0 h1 h2 => by
    rw [Fin.ext h0, Fin.ext h1, Fin.ext h2]
    rfl
  exact k ⟨_, Nat.mod_lt _ (by decide)⟩ b ⟨_, Nat.mod_lt _ (by decide)⟩ ⟨g.val * 64 + p, by omega⟩ ⟨_, Nat.mod_lt _ (by decide)⟩ l e0 e1 e2

/-- A statistic of the whole weights, at a group. -/
theorem statAll_at (f : Wt → ℕ → V) (A : Weights) (b : Fin 12) (g : Fin 140) (l : Fin 1536) :
    (statAll f A (ix3 b g l) : EReal) = f (blockOf A (b.val / 2) (l.val / 128)) ((140 * (b.val % 2) + g.val) / 8)
      (ValueIdx.ix2 ⟨(140 * (b.val % 2) + g.val) % 8, Nat.mod_lt _ (by decide)⟩ ⟨l.val % 128, Nat.mod_lt _ (by decide)⟩) := rfl

/-- The packed codes of the whole weights, at a row. -/
theorem codesAll_at (A : Weights) (b : Fin 12) (i : Fin 4480) (l : Fin 1536) :
    codesAll A (ix3 b i l) = codeV (blockOf A (b.val / 2) (l.val / 128)) ((140 * (b.val % 2) + i.val / 32) / 8) (i.val % 32)
      (ValueIdx.ix2 ⟨(140 * (b.val % 2) + i.val / 32) % 8, Nat.mod_lt _ (by decide)⟩ ⟨l.val % 128, Nat.mod_lt _ (by decide)⟩) := rfl

/-- Two arrays of one number per group agree when they do at every group. -/
theorem flat_ext {u v : ReferenceReal.Flat} (h : ∀ (b : Fin 12) (g : Fin 140) (l : Fin 1536), (u (ix3 b g l) : EReal) = v (ix3 b g l)) : u = v := by
  funext y
  rw [eq_ix3 y]
  exact h _ _ _

variable (m : (ℓ : Loc Cert.ReferenceIdeal.nD Cert.ReferenceIdeal.τ Cert.ReferenceIdeal.sig) → Buf (Elt Ideal) ℓ) (c : Dev Cert.ReferenceIdeal.nD)

/-- Every group of the argument fits. -/
def AllFit : Prop := ∀ b g l, ∃ x, ReferenceReal.Rows (ReferenceRun.weights m c) b g l x ∧ Fits x

/-- The argument at one device. -/
abbrev arg : Weights := m ((c.tc : Thread Cert.ReferenceIdeal.nD Cert.ReferenceIdeal.τ).loc Cert.ReferenceIdeal.main_arg0)

/-- The scales agree. -/
theorem scales_agree (h : AllFit m c) : statAll sV (arg m c) = ReferenceReal.flat (ReferenceReal.scales (ReferenceRun.weights m c)) :=
  flat_ext fun b g l => by
    obtain ⟨x, hx, _⟩ := h b g l
    exact (KernelIdealReal.sV_real (kernel_rows hx)).trans (ReferenceRun.scale_result hx).symm

/-- The zeros agree. -/
theorem zeros_agree (h : AllFit m c) : statAll (fun w n => zV w n 20) (arg m c) = ReferenceReal.flat (ReferenceRun.zeros m c) :=
  flat_ext fun b g l => by
    obtain ⟨x, hx, hf⟩ := h b g l
    exact (KernelIdealReal.zV_real (kernel_rows hx) hf 20 le_rfl).trans (ReferenceRun.zero_result hx).symm

/-- The errors agree. -/
theorem errs_agree (h : AllFit m c) : statAll lpV (arg m c)
    = ReferenceReal.errs (ReferenceRun.weights m c) (ReferenceReal.scales (ReferenceRun.weights m c)) (ReferenceRun.zeros m c) :=
  flat_ext fun b g l => by
    obtain ⟨x, hx, hf⟩ := h b g l
    exact (KernelIdealReal.lpV_real (kernel_rows hx) hf).trans (ReferenceRun.err_result hx).symm

/-- The shifts agree. -/
theorem shifts_agree (h : AllFit m c) : statAll shiftV (arg m c)
    = ReferenceReal.flat (subf (ReferenceRun.zeros m c) (ReferenceReal.zeros0 (ReferenceRun.weights m c))) :=
  flat_ext fun b g l => by
    obtain ⟨x, hx, hf⟩ := h b g l
    exact (KernelIdealReal.shiftV_real (kernel_rows hx) hf).trans (ReferenceRun.shift_result hx).symm

/-- The packed codes agree. -/
theorem codes_agree (h : AllFit m c) : codesAll (arg m c)
    = ReferenceReal.packed (ReferenceReal.words (ReferenceRun.weights m c) (ReferenceReal.scales (ReferenceRun.weights m c)) (ReferenceRun.zeros m c)) := by
  funext y
  rw [eq_ix3 y]
  have hi : (y 1).val < 4480 := (y 1).isLt
  obtain ⟨x, hx, hf⟩ := h (y 0) ⟨(y 1).val / 32, by omega⟩ (y 2)
  exact (Codes.codeV_real (kernel_rows hx) hf (Nat.mod_lt _ (by decide))).trans (ReferenceRun.packed_result (i := y 1) hx).symm

/-- What the reference leaves in its result buffers. -/
theorem run_reference (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
      r.2.mem ((c.tc : Thread Cert.ReferenceIdeal.nD Cert.ReferenceIdeal.τ).loc Cert.ReferenceIdeal.main_v45)
        = ReferenceReal.packed (ReferenceReal.words (ReferenceRun.weights m c) (ReferenceReal.scales (ReferenceRun.weights m c)) (ReferenceRun.zeros m c))
      ∧ r.2.mem ((c.tc : Thread Cert.ReferenceIdeal.nD Cert.ReferenceIdeal.τ).loc Cert.ReferenceIdeal.main_v46) = ReferenceReal.flat (ReferenceReal.scales (ReferenceRun.weights m c))
      ∧ r.2.mem ((c.tc : Thread Cert.ReferenceIdeal.nD Cert.ReferenceIdeal.τ).loc Cert.ReferenceIdeal.main_v47) = ReferenceReal.flat (ReferenceRun.zeros m c)
      ∧ r.2.mem ((c.tc : Thread Cert.ReferenceIdeal.nD Cert.ReferenceIdeal.τ).loc Cert.ReferenceIdeal.main_v34)
        = ReferenceReal.errs (ReferenceRun.weights m c) (ReferenceReal.scales (ReferenceRun.weights m c)) (ReferenceRun.zeros m c)
      ∧ r.2.mem ((c.tc : Thread Cert.ReferenceIdeal.nD Cert.ReferenceIdeal.τ).loc Cert.ReferenceIdeal.main_v36)
        = ReferenceReal.flat (subf (ReferenceRun.zeros m c) (ReferenceReal.zeros0 (ReferenceRun.weights m c)))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) :=
  (θ_run Cert.ReferenceIdeal.defs _ _).mono (fun r h c => by
      obtain ⟨h45, h46, h47, h34, h36⟩ := ReferenceRun.finals m c
      exact ⟨(h c Cert.ReferenceIdeal.main_v45 rfl).trans h45, (h c Cert.ReferenceIdeal.main_v46 rfl).trans h46,
        (h c Cert.ReferenceIdeal.main_v47 rfl).trans h47, (h c Cert.ReferenceIdeal.main_v34 rfl).trans h34,
        (h c Cert.ReferenceIdeal.main_v36 rfl).trans h36, (h c Cert.ReferenceIdeal.main_arg0 rfl).trans (Claims.final_arg0 m c)⟩)
    (Cert.ReferenceIdeal.Value.run_fold (F := Ideal) m g)

attribute [local instance] Precondition.facts

/-- Under the precondition both programs run to the same five results. -/
theorem algebraic : Cert.algebraic_KernelIdeal_ReferenceIdeal_pre_fits := by
  intro m g m' g' hpre hag
  have hfit : ∀ c, AllFit m' c := fun c b gr l => by
    refine Precondition.rows_of_fits ?_ b gr l
    rw [hag c]
    exact hpre c
  refine ⟨fun c => codesAll (arg m' c), fun c => statAll sV (arg m' c), fun c => statAll (fun w n => zV w n 20) (arg m' c), fun c => statAll lpV (arg m' c),
    fun c => statAll shiftV (arg m' c), ?_, ?_⟩
  · refine (θ_run Cert.KernelIdeal.defs _ _).mono (fun r h c => ?_) (run_values m g)
    obtain ⟨ha, h0, h1, h2, h3, h4⟩ := h c
    have e : arg m' c = m ((c.tc : Thread Cert.KernelIdeal.nD Cert.KernelIdeal.τ).loc Cert.KernelIdeal.main_arg0) := hag c
    beta_reduce
    rw [e]
    exact ⟨h0, h1, h2, h3, h4, ha⟩
  · refine (θ_run Cert.ReferenceIdeal.defs _ _).mono (fun r h c => ?_) (run_reference m' g')
    obtain ⟨h0, h1, h2, h3, h4, ha⟩ := h c
    exact ⟨h0.trans (codes_agree m' c (hfit c)).symm, h1.trans (scales_agree m' c (hfit c)).symm, h2.trans (zeros_agree m' c (hfit c)).symm,
      h3.trans (errs_agree m' c (hfit c)).symm, h4.trans (shifts_agree m' c (hfit c)).symm, ha⟩

end Cert.Proof.Algebraic
-- ==== Proof.lean ====
/- The certificate's claim, assembled (hand-written). -/
module

public import proofs.«01_k».proof.Defs
public import proofs.«01_k».proof.Proof.Gen.Kernel.Skeleton
public import proofs.«01_k».proof.Proof.Gen.Kernel.Frame
public import proofs.«01_k».proof.Proof.Gen.KernelIdeal.Skeleton
public import proofs.«01_k».proof.Proof.Gen.KernelIdeal.Frame
public import proofs.«01_k».proof.Proof.Gen.ReferenceIdeal.Run
public import proofs.«01_k».proof.Proof.Claims
public import proofs.«01_k».proof.Proof.Precondition
public import proofs.«01_k».proof.Proof.Algebraic
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts, Precondition.facts,
    Claims.frame_p, Claims.frame_pi, fun m ρ _ => Claims.frame_pi m ρ trivial,
    Claims.frame_ri, fun m ρ _ => Claims.frame_ri m ρ trivial, Claims.preserves, Algebraic.algebraic⟩

end Cert.Proof

end
